-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def Pre_Ffns (m : (ℓ : Loc Cert.Ffns.nD Cert.Ffns.τ Cert.Ffns.sig) → Buf (Elt Bits) ℓ) : Prop :=
  True

def Pre_FfnsIdeal (m : (ℓ : Loc Cert.FfnsIdeal.nD Cert.FfnsIdeal.τ Cert.FfnsIdeal.sig) → Buf (Elt Ideal) ℓ) : Prop :=
  True

def Pre_FfnsRefIdeal (m : (ℓ : Loc Cert.FfnsRefIdeal.nD Cert.FfnsRefIdeal.τ Cert.FfnsRefIdeal.sig) → Buf (Elt Ideal) ℓ) : Prop :=
  True

def Pre_Projs (m : (ℓ : Loc Cert.Projs.nD Cert.Projs.τ Cert.Projs.sig) → Buf (Elt Bits) ℓ) : Prop :=
  True

def Pre_ProjsIdeal (m : (ℓ : Loc Cert.ProjsIdeal.nD Cert.ProjsIdeal.τ Cert.ProjsIdeal.sig) → Buf (Elt Ideal) ℓ) : Prop :=
  True

def Pre_ProjsRefIdeal (m : (ℓ : Loc Cert.ProjsRefIdeal.nD Cert.ProjsRefIdeal.τ Cert.ProjsRefIdeal.sig) → Buf (Elt Ideal) ℓ) : Prop :=
  True

def Pre_Combs (m : (ℓ : Loc Cert.Combs.nD Cert.Combs.τ Cert.Combs.sig) → Buf (Elt Bits) ℓ) : Prop :=
  True

def Pre_CombsIdeal (m : (ℓ : Loc Cert.CombsIdeal.nD Cert.CombsIdeal.τ Cert.CombsIdeal.sig) → Buf (Elt Ideal) ℓ) : Prop :=
  True

def Pre_CombsRefIdeal (m : (ℓ : Loc Cert.CombsRefIdeal.nD Cert.CombsRefIdeal.τ Cert.CombsRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_finite [hPre_win_finite : Cert.Pre_win_finite.Facts] (m : (ℓ : Loc Cert.WinIdeal.nD Cert.WinIdeal.τ Cert.WinIdeal.sig) → Buf (Elt Ideal) ℓ) : Prop :=
  ∀ c : Dev Cert.WinIdeal.nD,
    (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).1 = (fun _ => 1#1)
    ∧ (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).2.1 = (fun _ => 1#1)
    ∧ (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).2.2.1 = (fun _ => 1#1)
    ∧ (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))).2.2.2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_finite [hPre_win_finite : Cert.Pre_win_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).1 = (fun _ => 1#1)
    ∧ (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).2.1 = (fun _ => 1#1)
    ∧ (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).2.2.1 = (fun _ => 1#1)
    ∧ (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))).2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6)
      ∧ r.2.mem ((c.tc : Thread Cert.Comb.nD Cert.Comb.τ).loc Cert.Comb.main_arg7) = m ((c.tc : Thread Cert.Comb.nD Cert.Comb.τ).loc Cert.Comb.main_arg7)
      ∧ r.2.mem ((c.tc : Thread Cert.Comb.nD Cert.Comb.τ).loc Cert.Comb.main_arg8) = m ((c.tc : Thread Cert.Comb.nD Cert.Comb.τ).loc Cert.Comb.main_arg8)
      ∧ r.2.mem ((c.tc : Thread Cert.Comb.nD Cert.Comb.τ).loc Cert.Comb.main_arg9) = m ((c.tc : Thread Cert.Comb.nD Cert.Comb.τ).loc Cert.Comb.main_arg9)
      ∧ r.2.mem ((c.tc : Thread Cert.Comb.nD Cert.Comb.τ).loc Cert.Comb.main_arg10) = m ((c.tc : Thread Cert.Comb.nD Cert.Comb.τ).loc Cert.Comb.main_arg10)
      ∧ r.2.mem ((c.tc : Thread Cert.Comb.nD Cert.Comb.τ).loc Cert.Comb.main_arg11) = m ((c.tc : Thread Cert.Comb.nD Cert.Comb.τ).loc Cert.Comb.main_arg11))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
      ∧ r.2.mem ((c.tc : Thread Cert.CombIdeal.nD Cert.CombIdeal.τ).loc Cert.CombIdeal.main_arg7) = m ((c.tc : Thread Cert.CombIdeal.nD Cert.CombIdeal.τ).loc Cert.CombIdeal.main_arg7)
      ∧ r.2.mem ((c.tc : Thread Cert.CombIdeal.nD Cert.CombIdeal.τ).loc Cert.CombIdeal.main_arg8) = m ((c.tc : Thread Cert.CombIdeal.nD Cert.CombIdeal.τ).loc Cert.CombIdeal.main_arg8)
      ∧ r.2.mem ((c.tc : Thread Cert.CombIdeal.nD Cert.CombIdeal.τ).loc Cert.CombIdeal.main_arg9) = m ((c.tc : Thread Cert.CombIdeal.nD Cert.CombIdeal.τ).loc Cert.CombIdeal.main_arg9)
      ∧ r.2.mem ((c.tc : Thread Cert.CombIdeal.nD Cert.CombIdeal.τ).loc Cert.CombIdeal.main_arg10) = m ((c.tc : Thread Cert.CombIdeal.nD Cert.CombIdeal.τ).loc Cert.CombIdeal.main_arg10)
      ∧ r.2.mem ((c.tc : Thread Cert.CombIdeal.nD Cert.CombIdeal.τ).loc Cert.CombIdeal.main_arg11) = m ((c.tc : Thread Cert.CombIdeal.nD Cert.CombIdeal.τ).loc Cert.CombIdeal.main_arg11))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5)
      ∧ r.2.mem ((c.tc : Thread Cert.CombRefIdeal.nD Cert.CombRefIdeal.τ).loc Cert.CombRefIdeal.main_arg6) = m ((c.tc : Thread Cert.CombRefIdeal.nD Cert.CombRefIdeal.τ).loc Cert.CombRefIdeal.main_arg6)
      ∧ r.2.mem ((c.tc : Thread Cert.CombRefIdeal.nD Cert.CombRefIdeal.τ).loc Cert.CombRefIdeal.main_arg7) = m ((c.tc : Thread Cert.CombRefIdeal.nD Cert.CombRefIdeal.τ).loc Cert.CombRefIdeal.main_arg7)
      ∧ r.2.mem ((c.tc : Thread Cert.CombRefIdeal.nD Cert.CombRefIdeal.τ).loc Cert.CombRefIdeal.main_arg8) = m ((c.tc : Thread Cert.CombRefIdeal.nD Cert.CombRefIdeal.τ).loc Cert.CombRefIdeal.main_arg8)
      ∧ r.2.mem ((c.tc : Thread Cert.CombRefIdeal.nD Cert.CombRefIdeal.τ).loc Cert.CombRefIdeal.main_arg9) = m ((c.tc : Thread Cert.CombRefIdeal.nD Cert.CombRefIdeal.τ).loc Cert.CombRefIdeal.main_arg9)
      ∧ r.2.mem ((c.tc : Thread Cert.CombRefIdeal.nD Cert.CombRefIdeal.τ).loc Cert.CombRefIdeal.main_arg10) = m ((c.tc : Thread Cert.CombRefIdeal.nD Cert.CombRefIdeal.τ).loc Cert.CombRefIdeal.main_arg10)
      ∧ r.2.mem ((c.tc : Thread Cert.CombRefIdeal.nD Cert.CombRefIdeal.τ).loc Cert.CombRefIdeal.main_arg11) = m ((c.tc : Thread Cert.CombRefIdeal.nD Cert.CombRefIdeal.τ).loc Cert.CombRefIdeal.main_arg11))
      ∧ r.2.sem = fun _ => 0)

def quiescent_Ffns [hFfns : Cert.Ffns.Facts] : Prop :=
  ∀ (m : (ℓ : Loc Cert.Ffns.nD Cert.Ffns.τ Cert.Ffns.sig) → Buf (Elt Bits) ℓ) (g : Dev Cert.Ffns.nD → PrngReg), Pre_Ffns m →
    θ_run (Cert.Ffns.defs (F := Bits)) (onTc (τ := Cert.Ffns.τ) (Cert.Ffns.main (F := Bits))) ⟨m, fun _ => 0, g⟩ (fun r => (∀ c : Dev Cert.Ffns.nD,
      r.2.mem ((c.tc : Thread Cert.Ffns.nD Cert.Ffns.τ).loc Cert.Ffns.main_arg0) = m ((c.tc : Thread Cert.Ffns.nD Cert.Ffns.τ).loc Cert.Ffns.main_arg0)
      ∧ r.2.mem ((c.tc : Thread Cert.Ffns.nD Cert.Ffns.τ).loc Cert.Ffns.main_arg1) = m ((c.tc : Thread Cert.Ffns.nD Cert.Ffns.τ).loc Cert.Ffns.main_arg1)
      ∧ r.2.mem ((c.tc : Thread Cert.Ffns.nD Cert.Ffns.τ).loc Cert.Ffns.main_arg2) = m ((c.tc : Thread Cert.Ffns.nD Cert.Ffns.τ).loc Cert.Ffns.main_arg2)
      ∧ r.2.mem ((c.tc : Thread Cert.Ffns.nD Cert.Ffns.τ).loc Cert.Ffns.main_arg3) = m ((c.tc : Thread Cert.Ffns.nD Cert.Ffns.τ).loc Cert.Ffns.main_arg3)
      ∧ r.2.mem ((c.tc : Thread Cert.Ffns.nD Cert.Ffns.τ).loc Cert.Ffns.main_arg4) = m ((c.tc : Thread Cert.Ffns.nD Cert.Ffns.τ).loc Cert.Ffns.main_arg4))
      ∧ r.2.sem = fun _ => 0)

def quiescent_FfnsIdeal [hFfnsIdeal : Cert.FfnsIdeal.Facts] : Prop :=
  ∀ (m : (ℓ : Loc Cert.FfnsIdeal.nD Cert.FfnsIdeal.τ Cert.FfnsIdeal.sig) → Buf (Elt Ideal) ℓ) (g : Dev Cert.FfnsIdeal.nD → PrngReg), Pre_FfnsIdeal m →
    θ_run (Cert.FfnsIdeal.defs (F := Ideal)) (onTc (τ := Cert.FfnsIdeal.τ) (Cert.FfnsIdeal.main (F := Ideal))) ⟨m, fun _ => 0, g⟩ (fun r => (∀ c : Dev Cert.FfnsIdeal.nD,
      r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
      ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
      ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
      ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
      ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4))
      ∧ r.2.sem = fun _ => 0)

def quiescent_FfnsRefIdeal [hFfnsRefIdeal : Cert.FfnsRefIdeal.Facts] : Prop :=
  ∀ (m : (ℓ : Loc Cert.FfnsRefIdeal.nD Cert.FfnsRefIdeal.τ Cert.FfnsRefIdeal.sig) → Buf (Elt Ideal) ℓ) (g : Dev Cert.FfnsRefIdeal.nD → PrngReg), Pre_FfnsRefIdeal m →
    θ_run (Cert.FfnsRefIdeal.defs (F := Ideal)) (onTc (τ := Cert.FfnsRefIdeal.τ) (Cert.FfnsRefIdeal.main (F := Ideal))) ⟨m, fun _ => 0, g⟩ (fun r => (∀ c : Dev Cert.FfnsRefIdeal.nD,
      r.2.mem ((c.tc : Thread Cert.FfnsRefIdeal.nD Cert.FfnsRefIdeal.τ).loc Cert.FfnsRefIdeal.main_arg0) = m ((c.tc : Thread Cert.FfnsRefIdeal.nD Cert.FfnsRefIdeal.τ).loc Cert.FfnsRefIdeal.main_arg0)
      ∧ r.2.mem ((c.tc : Thread Cert.FfnsRefIdeal.nD Cert.FfnsRefIdeal.τ).loc Cert.FfnsRefIdeal.main_arg1) = m ((c.tc : Thread Cert.FfnsRefIdeal.nD Cert.FfnsRefIdeal.τ).loc Cert.FfnsRefIdeal.main_arg1)
      ∧ r.2.mem ((c.tc : Thread Cert.FfnsRefIdeal.nD Cert.FfnsRefIdeal.τ).loc Cert.FfnsRefIdeal.main_arg2) = m ((c.tc : Thread Cert.FfnsRefIdeal.nD Cert.FfnsRefIdeal.τ).loc Cert.FfnsRefIdeal.main_arg2)
      ∧ r.2.mem ((c.tc : Thread Cert.FfnsRefIdeal.nD Cert.FfnsRefIdeal.τ).loc Cert.FfnsRefIdeal.main_arg3) = m ((c.tc : Thread Cert.FfnsRefIdeal.nD Cert.FfnsRefIdeal.τ).loc Cert.FfnsRefIdeal.main_arg3)
      ∧ r.2.mem ((c.tc : Thread Cert.FfnsRefIdeal.nD Cert.FfnsRefIdeal.τ).loc Cert.FfnsRefIdeal.main_arg4) = m ((c.tc : Thread Cert.FfnsRefIdeal.nD Cert.FfnsRefIdeal.τ).loc Cert.FfnsRefIdeal.main_arg4))
      ∧ r.2.sem = fun _ => 0)

def quiescent_Projs [hProjs : Cert.Projs.Facts] : Prop :=
  ∀ (m : (ℓ : Loc Cert.Projs.nD Cert.Projs.τ Cert.Projs.sig) → Buf (Elt Bits) ℓ) (g : Dev Cert.Projs.nD → PrngReg), Pre_Projs m →
    θ_run (Cert.Projs.defs (F := Bits)) (onTc (τ := Cert.Projs.τ) (Cert.Projs.main (F := Bits))) ⟨m, fun _ => 0, g⟩ (fun r => (∀ c : Dev Cert.Projs.nD,
      r.2.mem ((c.tc : Thread Cert.Projs.nD Cert.Projs.τ).loc Cert.Projs.main_arg0) = m ((c.tc : Thread Cert.Projs.nD Cert.Projs.τ).loc Cert.Projs.main_arg0)
      ∧ r.2.mem ((c.tc : Thread Cert.Projs.nD Cert.Projs.τ).loc Cert.Projs.main_arg1) = m ((c.tc : Thread Cert.Projs.nD Cert.Projs.τ).loc Cert.Projs.main_arg1)
      ∧ r.2.mem ((c.tc : Thread Cert.Projs.nD Cert.Projs.τ).loc Cert.Projs.main_arg2) = m ((c.tc : Thread Cert.Projs.nD Cert.Projs.τ).loc Cert.Projs.main_arg2)
      ∧ r.2.mem ((c.tc : Thread Cert.Projs.nD Cert.Projs.τ).loc Cert.Projs.main_arg3) = m ((c.tc : Thread Cert.Projs.nD Cert.Projs.τ).loc Cert.Projs.main_arg3))
      ∧ r.2.sem = fun _ => 0)

def quiescent_ProjsIdeal [hProjsIdeal : Cert.ProjsIdeal.Facts] : Prop :=
  ∀ (m : (ℓ : Loc Cert.ProjsIdeal.nD Cert.ProjsIdeal.τ Cert.ProjsIdeal.sig) → Buf (Elt Ideal) ℓ) (g : Dev Cert.ProjsIdeal.nD → PrngReg), Pre_ProjsIdeal m →
    θ_run (Cert.ProjsIdeal.defs (F := Ideal)) (onTc (τ := Cert.ProjsIdeal.τ) (Cert.ProjsIdeal.main (F := Ideal))) ⟨m, fun _ => 0, g⟩ (fun r => (∀ c : Dev Cert.ProjsIdeal.nD,
      r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
      ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
      ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
      ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3))
      ∧ r.2.sem = fun _ => 0)

def quiescent_ProjsRefIdeal [hProjsRefIdeal : Cert.ProjsRefIdeal.Facts] : Prop :=
  ∀ (m : (ℓ : Loc Cert.ProjsRefIdeal.nD Cert.ProjsRefIdeal.τ Cert.ProjsRefIdeal.sig) → Buf (Elt Ideal) ℓ) (g : Dev Cert.ProjsRefIdeal.nD → PrngReg), Pre_ProjsRefIdeal m →
    θ_run (Cert.ProjsRefIdeal.defs (F := Ideal)) (onTc (τ := Cert.ProjsRefIdeal.τ) (Cert.ProjsRefIdeal.main (F := Ideal))) ⟨m, fun _ => 0, g⟩ (fun r => (∀ c : Dev Cert.ProjsRefIdeal.nD,
      r.2.mem ((c.tc : Thread Cert.ProjsRefIdeal.nD Cert.ProjsRefIdeal.τ).loc Cert.ProjsRefIdeal.main_arg0) = m ((c.tc : Thread Cert.ProjsRefIdeal.nD Cert.ProjsRefIdeal.τ).loc Cert.ProjsRefIdeal.main_arg0)
      ∧ r.2.mem ((c.tc : Thread Cert.ProjsRefIdeal.nD Cert.ProjsRefIdeal.τ).loc Cert.ProjsRefIdeal.main_arg1) = m ((c.tc : Thread Cert.ProjsRefIdeal.nD Cert.ProjsRefIdeal.τ).loc Cert.ProjsRefIdeal.main_arg1)
      ∧ r.2.mem ((c.tc : Thread Cert.ProjsRefIdeal.nD Cert.ProjsRefIdeal.τ).loc Cert.ProjsRefIdeal.main_arg2) = m ((c.tc : Thread Cert.ProjsRefIdeal.nD Cert.ProjsRefIdeal.τ).loc Cert.ProjsRefIdeal.main_arg2)
      ∧ r.2.mem ((c.tc : Thread Cert.ProjsRefIdeal.nD Cert.ProjsRefIdeal.τ).loc Cert.ProjsRefIdeal.main_arg3) = m ((c.tc : Thread Cert.ProjsRefIdeal.nD Cert.ProjsRefIdeal.τ).loc Cert.ProjsRefIdeal.main_arg3))
      ∧ r.2.sem = fun _ => 0)

def quiescent_Combs [hCombs : Cert.Combs.Facts] : Prop :=
  ∀ (m : (ℓ : Loc Cert.Combs.nD Cert.Combs.τ Cert.Combs.sig) → Buf (Elt Bits) ℓ) (g : Dev Cert.Combs.nD → PrngReg), Pre_Combs m →
    θ_run (Cert.Combs.defs (F := Bits)) (onTc (τ := Cert.Combs.τ) (Cert.Combs.main (F := Bits))) ⟨m, fun _ => 0, g⟩ (fun r => (∀ c : Dev Cert.Combs.nD,
      r.2.mem ((c.tc : Thread Cert.Combs.nD Cert.Combs.τ).loc Cert.Combs.main_arg0) = m ((c.tc : Thread Cert.Combs.nD Cert.Combs.τ).loc Cert.Combs.main_arg0)
      ∧ r.2.mem ((c.tc : Thread Cert.Combs.nD Cert.Combs.τ).loc Cert.Combs.main_arg1) = m ((c.tc : Thread Cert.Combs.nD Cert.Combs.τ).loc Cert.Combs.main_arg1)
      ∧ r.2.mem ((c.tc : Thread Cert.Combs.nD Cert.Combs.τ).loc Cert.Combs.main_arg2) = m ((c.tc : Thread Cert.Combs.nD Cert.Combs.τ).loc Cert.Combs.main_arg2)
      ∧ r.2.mem ((c.tc : Thread Cert.Combs.nD Cert.Combs.τ).loc Cert.Combs.main_arg3) = m ((c.tc : Thread Cert.Combs.nD Cert.Combs.τ).loc Cert.Combs.main_arg3)
      ∧ r.2.mem ((c.tc : Thread Cert.Combs.nD Cert.Combs.τ).loc Cert.Combs.main_arg4) = m ((c.tc : Thread Cert.Combs.nD Cert.Combs.τ).loc Cert.Combs.main_arg4)
      ∧ r.2.mem ((c.tc : Thread Cert.Combs.nD Cert.Combs.τ).loc Cert.Combs.main_arg5) = m ((c.tc : Thread Cert.Combs.nD Cert.Combs.τ).loc Cert.Combs.main_arg5)
      ∧ r.2.mem ((c.tc : Thread Cert.Combs.nD Cert.Combs.τ).loc Cert.Combs.main_arg6) = m ((c.tc : Thread Cert.Combs.nD Cert.Combs.τ).loc Cert.Combs.main_arg6)
      ∧ r.2.mem ((c.tc : Thread Cert.Combs.nD Cert.Combs.τ).loc Cert.Combs.main_arg7) = m ((c.tc : Thread Cert.Combs.nD Cert.Combs.τ).loc Cert.Combs.main_arg7)
      ∧ r.2.mem ((c.tc : Thread Cert.Combs.nD Cert.Combs.τ).loc Cert.Combs.main_arg8) = m ((c.tc : Thread Cert.Combs.nD Cert.Combs.τ).loc Cert.Combs.main_arg8)
      ∧ r.2.mem ((c.tc : Thread Cert.Combs.nD Cert.Combs.τ).loc Cert.Combs.main_arg9) = m ((c.tc : Thread Cert.Combs.nD Cert.Combs.τ).loc Cert.Combs.main_arg9)
      ∧ r.2.mem ((c.tc : Thread Cert.Combs.nD Cert.Combs.τ).loc Cert.Combs.main_arg10) = m ((c.tc : Thread Cert.Combs.nD Cert.Combs.τ).loc Cert.Combs.main_arg10)
      ∧ r.2.mem ((c.tc : Thread Cert.Combs.nD Cert.Combs.τ).loc Cert.Combs.main_arg11) = m ((c.tc : Thread Cert.Combs.nD Cert.Combs.τ).loc Cert.Combs.main_arg11))
      ∧ r.2.sem = fun _ => 0)

def quiescent_CombsIdeal [hCombsIdeal : Cert.CombsIdeal.Facts] : Prop :=
  ∀ (m : (ℓ : Loc Cert.CombsIdeal.nD Cert.CombsIdeal.τ Cert.CombsIdeal.sig) → Buf (Elt Ideal) ℓ) (g : Dev Cert.CombsIdeal.nD → PrngReg), Pre_CombsIdeal m →
    θ_run (Cert.CombsIdeal.defs (F := Ideal)) (onTc (τ := Cert.CombsIdeal.τ) (Cert.CombsIdeal.main (F := Ideal))) ⟨m, fun _ => 0, g⟩ (fun r => (∀ c : Dev Cert.CombsIdeal.nD,
      r.2.mem ((c.tc : Thread Cert.CombsIdeal.nD Cert.CombsIdeal.τ).loc Cert.CombsIdeal.main_arg0) = m ((c.tc : Thread Cert.CombsIdeal.nD Cert.CombsIdeal.τ).loc Cert.CombsIdeal.main_arg0)
      ∧ r.2.mem ((c.tc : Thread Cert.CombsIdeal.nD Cert.CombsIdeal.τ).loc Cert.CombsIdeal.main_arg1) = m ((c.tc : Thread Cert.CombsIdeal.nD Cert.CombsIdeal.τ).loc Cert.CombsIdeal.main_arg1)
      ∧ r.2.mem ((c.tc : Thread Cert.CombsIdeal.nD Cert.CombsIdeal.τ).loc Cert.CombsIdeal.main_arg2) = m ((c.tc : Thread Cert.CombsIdeal.nD Cert.CombsIdeal.τ).loc Cert.CombsIdeal.main_arg2)
      ∧ r.2.mem ((c.tc : Thread Cert.CombsIdeal.nD Cert.CombsIdeal.τ).loc Cert.CombsIdeal.main_arg3) = m ((c.tc : Thread Cert.CombsIdeal.nD Cert.CombsIdeal.τ).loc Cert.CombsIdeal.main_arg3)
      ∧ r.2.mem ((c.tc : Thread Cert.CombsIdeal.nD Cert.CombsIdeal.τ).loc Cert.CombsIdeal.main_arg4) = m ((c.tc : Thread Cert.CombsIdeal.nD Cert.CombsIdeal.τ).loc Cert.CombsIdeal.main_arg4)
      ∧ r.2.mem ((c.tc : Thread Cert.CombsIdeal.nD Cert.CombsIdeal.τ).loc Cert.CombsIdeal.main_arg5) = m ((c.tc : Thread Cert.CombsIdeal.nD Cert.CombsIdeal.τ).loc Cert.CombsIdeal.main_arg5)
      ∧ r.2.mem ((c.tc : Thread Cert.CombsIdeal.nD Cert.CombsIdeal.τ).loc Cert.CombsIdeal.main_arg6) = m ((c.tc : Thread Cert.CombsIdeal.nD Cert.CombsIdeal.τ).loc Cert.CombsIdeal.main_arg6)
      ∧ r.2.mem ((c.tc : Thread Cert.CombsIdeal.nD Cert.CombsIdeal.τ).loc Cert.CombsIdeal.main_arg7) = m ((c.tc : Thread Cert.CombsIdeal.nD Cert.CombsIdeal.τ).loc Cert.CombsIdeal.main_arg7)
      ∧ r.2.mem ((c.tc : Thread Cert.CombsIdeal.nD Cert.CombsIdeal.τ).loc Cert.CombsIdeal.main_arg8) = m ((c.tc : Thread Cert.CombsIdeal.nD Cert.CombsIdeal.τ).loc Cert.CombsIdeal.main_arg8)
      ∧ r.2.mem ((c.tc : Thread Cert.CombsIdeal.nD Cert.CombsIdeal.τ).loc Cert.CombsIdeal.main_arg9) = m ((c.tc : Thread Cert.CombsIdeal.nD Cert.CombsIdeal.τ).loc Cert.CombsIdeal.main_arg9)
      ∧ r.2.mem ((c.tc : Thread Cert.CombsIdeal.nD Cert.CombsIdeal.τ).loc Cert.CombsIdeal.main_arg10) = m ((c.tc : Thread Cert.CombsIdeal.nD Cert.CombsIdeal.τ).loc Cert.CombsIdeal.main_arg10)
      ∧ r.2.mem ((c.tc : Thread Cert.CombsIdeal.nD Cert.CombsIdeal.τ).loc Cert.CombsIdeal.main_arg11) = m ((c.tc : Thread Cert.CombsIdeal.nD Cert.CombsIdeal.τ).loc Cert.CombsIdeal.main_arg11))
      ∧ r.2.sem = fun _ => 0)

def quiescent_CombsRefIdeal [hCombsRefIdeal : Cert.CombsRefIdeal.Facts] : Prop :=
  ∀ (m : (ℓ : Loc Cert.CombsRefIdeal.nD Cert.CombsRefIdeal.τ Cert.CombsRefIdeal.sig) → Buf (Elt Ideal) ℓ) (g : Dev Cert.CombsRefIdeal.nD → PrngReg), Pre_CombsRefIdeal m →
    θ_run (Cert.CombsRefIdeal.defs (F := Ideal)) (onTc (τ := Cert.CombsRefIdeal.τ) (Cert.CombsRefIdeal.main (F := Ideal))) ⟨m, fun _ => 0, g⟩ (fun r => (∀ c : Dev Cert.CombsRefIdeal.nD,
      r.2.mem ((c.tc : Thread Cert.CombsRefIdeal.nD Cert.CombsRefIdeal.τ).loc Cert.CombsRefIdeal.main_arg0) = m ((c.tc : Thread Cert.CombsRefIdeal.nD Cert.CombsRefIdeal.τ).loc Cert.CombsRefIdeal.main_arg0)
      ∧ r.2.mem ((c.tc : Thread Cert.CombsRefIdeal.nD Cert.CombsRefIdeal.τ).loc Cert.CombsRefIdeal.main_arg1) = m ((c.tc : Thread Cert.CombsRefIdeal.nD Cert.CombsRefIdeal.τ).loc Cert.CombsRefIdeal.main_arg1)
      ∧ r.2.mem ((c.tc : Thread Cert.CombsRefIdeal.nD Cert.CombsRefIdeal.τ).loc Cert.CombsRefIdeal.main_arg2) = m ((c.tc : Thread Cert.CombsRefIdeal.nD Cert.CombsRefIdeal.τ).loc Cert.CombsRefIdeal.main_arg2)
      ∧ r.2.mem ((c.tc : Thread Cert.CombsRefIdeal.nD Cert.CombsRefIdeal.τ).loc Cert.CombsRefIdeal.main_arg3) = m ((c.tc : Thread Cert.CombsRefIdeal.nD Cert.CombsRefIdeal.τ).loc Cert.CombsRefIdeal.main_arg3)
      ∧ r.2.mem ((c.tc : Thread Cert.CombsRefIdeal.nD Cert.CombsRefIdeal.τ).loc Cert.CombsRefIdeal.main_arg4) = m ((c.tc : Thread Cert.CombsRefIdeal.nD Cert.CombsRefIdeal.τ).loc Cert.CombsRefIdeal.main_arg4)
      ∧ r.2.mem ((c.tc : Thread Cert.CombsRefIdeal.nD Cert.CombsRefIdeal.τ).loc Cert.CombsRefIdeal.main_arg5) = m ((c.tc : Thread Cert.CombsRefIdeal.nD Cert.CombsRefIdeal.τ).loc Cert.CombsRefIdeal.main_arg5)
      ∧ r.2.mem ((c.tc : Thread Cert.CombsRefIdeal.nD Cert.CombsRefIdeal.τ).loc Cert.CombsRefIdeal.main_arg6) = m ((c.tc : Thread Cert.CombsRefIdeal.nD Cert.CombsRefIdeal.τ).loc Cert.CombsRefIdeal.main_arg6)
      ∧ r.2.mem ((c.tc : Thread Cert.CombsRefIdeal.nD Cert.CombsRefIdeal.τ).loc Cert.CombsRefIdeal.main_arg7) = m ((c.tc : Thread Cert.CombsRefIdeal.nD Cert.CombsRefIdeal.τ).loc Cert.CombsRefIdeal.main_arg7)
      ∧ r.2.mem ((c.tc : Thread Cert.CombsRefIdeal.nD Cert.CombsRefIdeal.τ).loc Cert.CombsRefIdeal.main_arg8) = m ((c.tc : Thread Cert.CombsRefIdeal.nD Cert.CombsRefIdeal.τ).loc Cert.CombsRefIdeal.main_arg8)
      ∧ r.2.mem ((c.tc : Thread Cert.CombsRefIdeal.nD Cert.CombsRefIdeal.τ).loc Cert.CombsRefIdeal.main_arg9) = m ((c.tc : Thread Cert.CombsRefIdeal.nD Cert.CombsRefIdeal.τ).loc Cert.CombsRefIdeal.main_arg9)
      ∧ r.2.mem ((c.tc : Thread Cert.CombsRefIdeal.nD Cert.CombsRefIdeal.τ).loc Cert.CombsRefIdeal.main_arg10) = m ((c.tc : Thread Cert.CombsRefIdeal.nD Cert.CombsRefIdeal.τ).loc Cert.CombsRefIdeal.main_arg10)
      ∧ r.2.mem ((c.tc : Thread Cert.CombsRefIdeal.nD Cert.CombsRefIdeal.τ).loc Cert.CombsRefIdeal.main_arg11) = m ((c.tc : Thread Cert.CombsRefIdeal.nD Cert.CombsRefIdeal.τ).loc Cert.CombsRefIdeal.main_arg11))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinIdeal_pre_win_finite [hWinIdeal : Cert.WinIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_WinRefIdeal_pre_win_finite [hWinRefIdeal : Cert.WinRefIdeal.Facts] [hPre_win_finite : Cert.Pre_win_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v18_4)) (v5 : (c : Dev Cert.ProjIdeal.nD) → Buf (Elt Ideal) ((c.tc : Thread Cert.ProjIdeal.nD Cert.ProjIdeal.τ).loc Cert.ProjIdeal.main_v18_5)) (v6 : (c : Dev Cert.ProjIdeal.nD) → Buf (Elt Ideal) ((c.tc : Thread Cert.ProjIdeal.nD Cert.ProjIdeal.τ).loc Cert.ProjIdeal.main_v18_6)) (v7 : (c : Dev Cert.ProjIdeal.nD) → Buf (Elt Ideal) ((c.tc : Thread Cert.ProjIdeal.nD Cert.ProjIdeal.τ).loc Cert.ProjIdeal.main_v18_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_v18_3) = v3 c
          ∧ r.2.mem ((c.tc : Thread Cert.ProjIdeal.nD Cert.ProjIdeal.τ).loc Cert.ProjIdeal.main_v18_4) = v4 c
          ∧ r.2.mem ((c.tc : Thread Cert.ProjIdeal.nD Cert.ProjIdeal.τ).loc Cert.ProjIdeal.main_v18_5) = v5 c
          ∧ r.2.mem ((c.tc : Thread Cert.ProjIdeal.nD Cert.ProjIdeal.τ).loc Cert.ProjIdeal.main_v18_6) = v6 c
          ∧ r.2.mem ((c.tc : Thread Cert.ProjIdeal.nD Cert.ProjIdeal.τ).loc Cert.ProjIdeal.main_v18_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_v39) = v1 c
          ∧ r.2.mem ((c.tc : Thread Cert.ProjRefIdeal.nD Cert.ProjRefIdeal.τ).loc Cert.ProjRefIdeal.main_v43) = v2 c
          ∧ r.2.mem ((c.tc : Thread Cert.ProjRefIdeal.nD Cert.ProjRefIdeal.τ).loc Cert.ProjRefIdeal.main_v37) = v3 c
          ∧ r.2.mem ((c.tc : Thread Cert.ProjRefIdeal.nD Cert.ProjRefIdeal.τ).loc Cert.ProjRefIdeal.main_v44) = v4 c
          ∧ r.2.mem ((c.tc : Thread Cert.ProjRefIdeal.nD Cert.ProjRefIdeal.τ).loc Cert.ProjRefIdeal.main_v45) = v5 c
          ∧ r.2.mem ((c.tc : Thread Cert.ProjRefIdeal.nD Cert.ProjRefIdeal.τ).loc Cert.ProjRefIdeal.main_v46) = v6 c
          ∧ r.2.mem ((c.tc : Thread Cert.ProjRefIdeal.nD Cert.ProjRefIdeal.τ).loc Cert.ProjRefIdeal.main_v47) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)
      ∧ m' ((c.tc : Thread Cert.CombRefIdeal.nD Cert.CombRefIdeal.τ).loc Cert.CombRefIdeal.main_arg5) = m ((c.tc : Thread Cert.CombIdeal.nD Cert.CombIdeal.τ).loc Cert.CombIdeal.main_arg5)
      ∧ m' ((c.tc : Thread Cert.CombRefIdeal.nD Cert.CombRefIdeal.τ).loc Cert.CombRefIdeal.main_arg6) = m ((c.tc : Thread Cert.CombIdeal.nD Cert.CombIdeal.τ).loc Cert.CombIdeal.main_arg6)
      ∧ m' ((c.tc : Thread Cert.CombRefIdeal.nD Cert.CombRefIdeal.τ).loc Cert.CombRefIdeal.main_arg7) = m ((c.tc : Thread Cert.CombIdeal.nD Cert.CombIdeal.τ).loc Cert.CombIdeal.main_arg7)
      ∧ m' ((c.tc : Thread Cert.CombRefIdeal.nD Cert.CombRefIdeal.τ).loc Cert.CombRefIdeal.main_arg8) = m ((c.tc : Thread Cert.CombIdeal.nD Cert.CombIdeal.τ).loc Cert.CombIdeal.main_arg8)
      ∧ m' ((c.tc : Thread Cert.CombRefIdeal.nD Cert.CombRefIdeal.τ).loc Cert.CombRefIdeal.main_arg9) = m ((c.tc : Thread Cert.CombIdeal.nD Cert.CombIdeal.τ).loc Cert.CombIdeal.main_arg9)
      ∧ m' ((c.tc : Thread Cert.CombRefIdeal.nD Cert.CombRefIdeal.τ).loc Cert.CombRefIdeal.main_arg10) = m ((c.tc : Thread Cert.CombIdeal.nD Cert.CombIdeal.τ).loc Cert.CombIdeal.main_arg10)
      ∧ m' ((c.tc : Thread Cert.CombRefIdeal.nD Cert.CombRefIdeal.τ).loc Cert.CombRefIdeal.main_arg11) = m ((c.tc : Thread Cert.CombIdeal.nD Cert.CombIdeal.τ).loc Cert.CombIdeal.main_arg11)) →
    ∃ (v0 : (c : Dev Cert.CombIdeal.nD) → Buf (Elt Ideal) ((c.tc : Thread Cert.CombIdeal.nD Cert.CombIdeal.τ).loc Cert.CombIdeal.main_v18)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v18) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
          ∧ r.2.mem ((c.tc : Thread Cert.CombIdeal.nD Cert.CombIdeal.τ).loc Cert.CombIdeal.main_arg7) = m ((c.tc : Thread Cert.CombIdeal.nD Cert.CombIdeal.τ).loc Cert.CombIdeal.main_arg7)
          ∧ r.2.mem ((c.tc : Thread Cert.CombIdeal.nD Cert.CombIdeal.τ).loc Cert.CombIdeal.main_arg8) = m ((c.tc : Thread Cert.CombIdeal.nD Cert.CombIdeal.τ).loc Cert.CombIdeal.main_arg8)
          ∧ r.2.mem ((c.tc : Thread Cert.CombIdeal.nD Cert.CombIdeal.τ).loc Cert.CombIdeal.main_arg9) = m ((c.tc : Thread Cert.CombIdeal.nD Cert.CombIdeal.τ).loc Cert.CombIdeal.main_arg9)
          ∧ r.2.mem ((c.tc : Thread Cert.CombIdeal.nD Cert.CombIdeal.τ).loc Cert.CombIdeal.main_arg10) = m ((c.tc : Thread Cert.CombIdeal.nD Cert.CombIdeal.τ).loc Cert.CombIdeal.main_arg10)
          ∧ r.2.mem ((c.tc : Thread Cert.CombIdeal.nD Cert.CombIdeal.τ).loc Cert.CombIdeal.main_arg11) = m ((c.tc : Thread Cert.CombIdeal.nD Cert.CombIdeal.τ).loc Cert.CombIdeal.main_arg11))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v100) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4)
          ∧ r.2.mem ((c.tc : Thread Cert.CombRefIdeal.nD Cert.CombRefIdeal.τ).loc Cert.CombRefIdeal.main_arg5) = m' ((c.tc : Thread Cert.CombRefIdeal.nD Cert.CombRefIdeal.τ).loc Cert.CombRefIdeal.main_arg5)
          ∧ r.2.mem ((c.tc : Thread Cert.CombRefIdeal.nD Cert.CombRefIdeal.τ).loc Cert.CombRefIdeal.main_arg6) = m' ((c.tc : Thread Cert.CombRefIdeal.nD Cert.CombRefIdeal.τ).loc Cert.CombRefIdeal.main_arg6)
          ∧ r.2.mem ((c.tc : Thread Cert.CombRefIdeal.nD Cert.CombRefIdeal.τ).loc Cert.CombRefIdeal.main_arg7) = m' ((c.tc : Thread Cert.CombRefIdeal.nD Cert.CombRefIdeal.τ).loc Cert.CombRefIdeal.main_arg7)
          ∧ r.2.mem ((c.tc : Thread Cert.CombRefIdeal.nD Cert.CombRefIdeal.τ).loc Cert.CombRefIdeal.main_arg8) = m' ((c.tc : Thread Cert.CombRefIdeal.nD Cert.CombRefIdeal.τ).loc Cert.CombRefIdeal.main_arg8)
          ∧ r.2.mem ((c.tc : Thread Cert.CombRefIdeal.nD Cert.CombRefIdeal.τ).loc Cert.CombRefIdeal.main_arg9) = m' ((c.tc : Thread Cert.CombRefIdeal.nD Cert.CombRefIdeal.τ).loc Cert.CombRefIdeal.main_arg9)
          ∧ r.2.mem ((c.tc : Thread Cert.CombRefIdeal.nD Cert.CombRefIdeal.τ).loc Cert.CombRefIdeal.main_arg10) = m' ((c.tc : Thread Cert.CombRefIdeal.nD Cert.CombRefIdeal.τ).loc Cert.CombRefIdeal.main_arg10)
          ∧ r.2.mem ((c.tc : Thread Cert.CombRefIdeal.nD Cert.CombRefIdeal.τ).loc Cert.CombRefIdeal.main_arg11) = m' ((c.tc : Thread Cert.CombRefIdeal.nD Cert.CombRefIdeal.τ).loc Cert.CombRefIdeal.main_arg11))

def preserves_Ffns_FfnsIdeal : Prop :=
  True

def algebraic_FfnsIdeal_FfnsRefIdeal [hFfnsIdeal : Cert.FfnsIdeal.Facts] [hFfnsRefIdeal : Cert.FfnsRefIdeal.Facts] : Prop :=
  ∀ (m : (ℓ : Loc Cert.FfnsIdeal.nD Cert.FfnsIdeal.τ Cert.FfnsIdeal.sig) → Buf (Elt Ideal) ℓ) (g : Dev Cert.FfnsIdeal.nD → PrngReg)
    (m' : (ℓ : Loc Cert.FfnsRefIdeal.nD Cert.FfnsRefIdeal.τ Cert.FfnsRefIdeal.sig) → Buf (Elt Ideal) ℓ) (g' : Dev Cert.FfnsRefIdeal.nD → PrngReg), Pre_FfnsIdeal m →
    (∀ c : Dev Cert.FfnsIdeal.nD,
      m' ((c.tc : Thread Cert.FfnsRefIdeal.nD Cert.FfnsRefIdeal.τ).loc Cert.FfnsRefIdeal.main_arg0) = m ((c.tc : Thread Cert.FfnsIdeal.nD Cert.FfnsIdeal.τ).loc Cert.FfnsIdeal.main_arg0)
      ∧ m' ((c.tc : Thread Cert.FfnsRefIdeal.nD Cert.FfnsRefIdeal.τ).loc Cert.FfnsRefIdeal.main_arg1) = m ((c.tc : Thread Cert.FfnsIdeal.nD Cert.FfnsIdeal.τ).loc Cert.FfnsIdeal.main_arg1)
      ∧ m' ((c.tc : Thread Cert.FfnsRefIdeal.nD Cert.FfnsRefIdeal.τ).loc Cert.FfnsRefIdeal.main_arg2) = m ((c.tc : Thread Cert.FfnsIdeal.nD Cert.FfnsIdeal.τ).loc Cert.FfnsIdeal.main_arg2)
      ∧ m' ((c.tc : Thread Cert.FfnsRefIdeal.nD Cert.FfnsRefIdeal.τ).loc Cert.FfnsRefIdeal.main_arg3) = m ((c.tc : Thread Cert.FfnsIdeal.nD Cert.FfnsIdeal.τ).loc Cert.FfnsIdeal.main_arg3)
      ∧ m' ((c.tc : Thread Cert.FfnsRefIdeal.nD Cert.FfnsRefIdeal.τ).loc Cert.FfnsRefIdeal.main_arg4) = m ((c.tc : Thread Cert.FfnsIdeal.nD Cert.FfnsIdeal.τ).loc Cert.FfnsIdeal.main_arg4)) →
    ∃ (v0 : (c : Dev Cert.FfnsIdeal.nD) → Buf (Elt Ideal) ((c.tc : Thread Cert.FfnsIdeal.nD Cert.FfnsIdeal.τ).loc Cert.FfnsIdeal.main_v9)),
      θ_run (Cert.FfnsIdeal.defs (F := Ideal)) (onTc (τ := Cert.FfnsIdeal.τ) (Cert.FfnsIdeal.main (F := Ideal))) ⟨m, fun _ => 0, g⟩ (fun r => ∀ c : Dev Cert.FfnsIdeal.nD,
          r.2.mem ((c.tc : Thread Cert.FfnsIdeal.nD Cert.FfnsIdeal.τ).loc Cert.FfnsIdeal.main_v9) = v0 c
          ∧ r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
          ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
          ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
          ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
          ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4))
      ∧ θ_run (Cert.FfnsRefIdeal.defs (F := Ideal)) (onTc (τ := Cert.FfnsRefIdeal.τ) (Cert.FfnsRefIdeal.main (F := Ideal))) ⟨m', fun _ => 0, g'⟩ (fun r => ∀ c : Dev Cert.FfnsRefIdeal.nD,
          r.2.mem ((c.tc : Thread Cert.FfnsRefIdeal.nD Cert.FfnsRefIdeal.τ).loc Cert.FfnsRefIdeal.main_v35) = v0 c
          ∧ r.2.mem ((c.tc : Thread Cert.FfnsRefIdeal.nD Cert.FfnsRefIdeal.τ).loc Cert.FfnsRefIdeal.main_arg0) = m' ((c.tc : Thread Cert.FfnsRefIdeal.nD Cert.FfnsRefIdeal.τ).loc Cert.FfnsRefIdeal.main_arg0)
          ∧ r.2.mem ((c.tc : Thread Cert.FfnsRefIdeal.nD Cert.FfnsRefIdeal.τ).loc Cert.FfnsRefIdeal.main_arg1) = m' ((c.tc : Thread Cert.FfnsRefIdeal.nD Cert.FfnsRefIdeal.τ).loc Cert.FfnsRefIdeal.main_arg1)
          ∧ r.2.mem ((c.tc : Thread Cert.FfnsRefIdeal.nD Cert.FfnsRefIdeal.τ).loc Cert.FfnsRefIdeal.main_arg2) = m' ((c.tc : Thread Cert.FfnsRefIdeal.nD Cert.FfnsRefIdeal.τ).loc Cert.FfnsRefIdeal.main_arg2)
          ∧ r.2.mem ((c.tc : Thread Cert.FfnsRefIdeal.nD Cert.FfnsRefIdeal.τ).loc Cert.FfnsRefIdeal.main_arg3) = m' ((c.tc : Thread Cert.FfnsRefIdeal.nD Cert.FfnsRefIdeal.τ).loc Cert.FfnsRefIdeal.main_arg3)
          ∧ r.2.mem ((c.tc : Thread Cert.FfnsRefIdeal.nD Cert.FfnsRefIdeal.τ).loc Cert.FfnsRefIdeal.main_arg4) = m' ((c.tc : Thread Cert.FfnsRefIdeal.nD Cert.FfnsRefIdeal.τ).loc Cert.FfnsRefIdeal.main_arg4))

def preserves_Projs_ProjsIdeal : Prop :=
  True

def algebraic_ProjsIdeal_ProjsRefIdeal [hProjsIdeal : Cert.ProjsIdeal.Facts] [hProjsRefIdeal : Cert.ProjsRefIdeal.Facts] : Prop :=
  ∀ (m : (ℓ : Loc Cert.ProjsIdeal.nD Cert.ProjsIdeal.τ Cert.ProjsIdeal.sig) → Buf (Elt Ideal) ℓ) (g : Dev Cert.ProjsIdeal.nD → PrngReg)
    (m' : (ℓ : Loc Cert.ProjsRefIdeal.nD Cert.ProjsRefIdeal.τ Cert.ProjsRefIdeal.sig) → Buf (Elt Ideal) ℓ) (g' : Dev Cert.ProjsRefIdeal.nD → PrngReg), Pre_ProjsIdeal m →
    (∀ c : Dev Cert.ProjsIdeal.nD,
      m' ((c.tc : Thread Cert.ProjsRefIdeal.nD Cert.ProjsRefIdeal.τ).loc Cert.ProjsRefIdeal.main_arg0) = m ((c.tc : Thread Cert.ProjsIdeal.nD Cert.ProjsIdeal.τ).loc Cert.ProjsIdeal.main_arg0)
      ∧ m' ((c.tc : Thread Cert.ProjsRefIdeal.nD Cert.ProjsRefIdeal.τ).loc Cert.ProjsRefIdeal.main_arg1) = m ((c.tc : Thread Cert.ProjsIdeal.nD Cert.ProjsIdeal.τ).loc Cert.ProjsIdeal.main_arg1)
      ∧ m' ((c.tc : Thread Cert.ProjsRefIdeal.nD Cert.ProjsRefIdeal.τ).loc Cert.ProjsRefIdeal.main_arg2) = m ((c.tc : Thread Cert.ProjsIdeal.nD Cert.ProjsIdeal.τ).loc Cert.ProjsIdeal.main_arg2)
      ∧ m' ((c.tc : Thread Cert.ProjsRefIdeal.nD Cert.ProjsRefIdeal.τ).loc Cert.ProjsRefIdeal.main_arg3) = m ((c.tc : Thread Cert.ProjsIdeal.nD Cert.ProjsIdeal.τ).loc Cert.ProjsIdeal.main_arg3)) →
    ∃ (v0 : (c : Dev Cert.ProjsIdeal.nD) → Buf (Elt Ideal) ((c.tc : Thread Cert.ProjsIdeal.nD Cert.ProjsIdeal.τ).loc Cert.ProjsIdeal.main_v18_0)) (v1 : (c : Dev Cert.ProjsIdeal.nD) → Buf (Elt Ideal) ((c.tc : Thread Cert.ProjsIdeal.nD Cert.ProjsIdeal.τ).loc Cert.ProjsIdeal.main_v18_1)) (v2 : (c : Dev Cert.ProjsIdeal.nD) → Buf (Elt Ideal) ((c.tc : Thread Cert.ProjsIdeal.nD Cert.ProjsIdeal.τ).loc Cert.ProjsIdeal.main_v18_2)) (v3 : (c : Dev Cert.ProjsIdeal.nD) → Buf (Elt Ideal) ((c.tc : Thread Cert.ProjsIdeal.nD Cert.ProjsIdeal.τ).loc Cert.ProjsIdeal.main_v18_3)) (v4 : (c : Dev Cert.ProjsIdeal.nD) → Buf (Elt Ideal) ((c.tc : Thread Cert.ProjsIdeal.nD Cert.ProjsIdeal.τ).loc Cert.ProjsIdeal.main_v18_4)) (v5 : (c : Dev Cert.ProjsIdeal.nD) → Buf (Elt Ideal) ((c.tc : Thread Cert.ProjsIdeal.nD Cert.ProjsIdeal.τ).loc Cert.ProjsIdeal.main_v18_5)) (v6 : (c : Dev Cert.ProjsIdeal.nD) → Buf (Elt Ideal) ((c.tc : Thread Cert.ProjsIdeal.nD Cert.ProjsIdeal.τ).loc Cert.ProjsIdeal.main_v18_6)),
      θ_run (Cert.ProjsIdeal.defs (F := Ideal)) (onTc (τ := Cert.ProjsIdeal.τ) (Cert.ProjsIdeal.main (F := Ideal))) ⟨m, fun _ => 0, g⟩ (fun r => ∀ c : Dev Cert.ProjsIdeal.nD,
          r.2.mem ((c.tc : Thread Cert.ProjsIdeal.nD Cert.ProjsIdeal.τ).loc Cert.ProjsIdeal.main_v18_0) = v0 c
          ∧ r.2.mem ((c.tc : Thread Cert.ProjsIdeal.nD Cert.ProjsIdeal.τ).loc Cert.ProjsIdeal.main_v18_1) = v1 c
          ∧ r.2.mem ((c.tc : Thread Cert.ProjsIdeal.nD Cert.ProjsIdeal.τ).loc Cert.ProjsIdeal.main_v18_2) = v2 c
          ∧ r.2.mem ((c.tc : Thread Cert.ProjsIdeal.nD Cert.ProjsIdeal.τ).loc Cert.ProjsIdeal.main_v18_3) = v3 c
          ∧ r.2.mem ((c.tc : Thread Cert.ProjsIdeal.nD Cert.ProjsIdeal.τ).loc Cert.ProjsIdeal.main_v18_4) = v4 c
          ∧ r.2.mem ((c.tc : Thread Cert.ProjsIdeal.nD Cert.ProjsIdeal.τ).loc Cert.ProjsIdeal.main_v18_5) = v5 c
          ∧ r.2.mem ((c.tc : Thread Cert.ProjsIdeal.nD Cert.ProjsIdeal.τ).loc Cert.ProjsIdeal.main_v18_6) = v6 c
          ∧ r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
          ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
          ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
          ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3))
      ∧ θ_run (Cert.ProjsRefIdeal.defs (F := Ideal)) (onTc (τ := Cert.ProjsRefIdeal.τ) (Cert.ProjsRefIdeal.main (F := Ideal))) ⟨m', fun _ => 0, g'⟩ (fun r => ∀ c : Dev Cert.ProjsRefIdeal.nD,
          r.2.mem ((c.tc : Thread Cert.ProjsRefIdeal.nD Cert.ProjsRefIdeal.τ).loc Cert.ProjsRefIdeal.main_v36) = v0 c
          ∧ r.2.mem ((c.tc : Thread Cert.ProjsRefIdeal.nD Cert.ProjsRefIdeal.τ).loc Cert.ProjsRefIdeal.main_v37) = v1 c
          ∧ r.2.mem ((c.tc : Thread Cert.ProjsRefIdeal.nD Cert.ProjsRefIdeal.τ).loc Cert.ProjsRefIdeal.main_v40) = v2 c
          ∧ r.2.mem ((c.tc : Thread Cert.ProjsRefIdeal.nD Cert.ProjsRefIdeal.τ).loc Cert.ProjsRefIdeal.main_v41) = v3 c
          ∧ r.2.mem ((c.tc : Thread Cert.ProjsRefIdeal.nD Cert.ProjsRefIdeal.τ).loc Cert.ProjsRefIdeal.main_v42) = v4 c
          ∧ r.2.mem ((c.tc : Thread Cert.ProjsRefIdeal.nD Cert.ProjsRefIdeal.τ).loc Cert.ProjsRefIdeal.main_v43) = v5 c
          ∧ r.2.mem ((c.tc : Thread Cert.ProjsRefIdeal.nD Cert.ProjsRefIdeal.τ).loc Cert.ProjsRefIdeal.main_v44) = v6 c
          ∧ r.2.mem ((c.tc : Thread Cert.ProjsRefIdeal.nD Cert.ProjsRefIdeal.τ).loc Cert.ProjsRefIdeal.main_arg0) = m' ((c.tc : Thread Cert.ProjsRefIdeal.nD Cert.ProjsRefIdeal.τ).loc Cert.ProjsRefIdeal.main_arg0)
          ∧ r.2.mem ((c.tc : Thread Cert.ProjsRefIdeal.nD Cert.ProjsRefIdeal.τ).loc Cert.ProjsRefIdeal.main_arg1) = m' ((c.tc : Thread Cert.ProjsRefIdeal.nD Cert.ProjsRefIdeal.τ).loc Cert.ProjsRefIdeal.main_arg1)
          ∧ r.2.mem ((c.tc : Thread Cert.ProjsRefIdeal.nD Cert.ProjsRefIdeal.τ).loc Cert.ProjsRefIdeal.main_arg2) = m' ((c.tc : Thread Cert.ProjsRefIdeal.nD Cert.ProjsRefIdeal.τ).loc Cert.ProjsRefIdeal.main_arg2)
          ∧ r.2.mem ((c.tc : Thread Cert.ProjsRefIdeal.nD Cert.ProjsRefIdeal.τ).loc Cert.ProjsRefIdeal.main_arg3) = m' ((c.tc : Thread Cert.ProjsRefIdeal.nD Cert.ProjsRefIdeal.τ).loc Cert.ProjsRefIdeal.main_arg3))

def preserves_Combs_CombsIdeal : Prop :=
  True

def algebraic_CombsIdeal_CombsRefIdeal [hCombsIdeal : Cert.CombsIdeal.Facts] [hCombsRefIdeal : Cert.CombsRefIdeal.Facts] : Prop :=
  ∀ (m : (ℓ : Loc Cert.CombsIdeal.nD Cert.CombsIdeal.τ Cert.CombsIdeal.sig) → Buf (Elt Ideal) ℓ) (g : Dev Cert.CombsIdeal.nD → PrngReg)
    (m' : (ℓ : Loc Cert.CombsRefIdeal.nD Cert.CombsRefIdeal.τ Cert.CombsRefIdeal.sig) → Buf (Elt Ideal) ℓ) (g' : Dev Cert.CombsRefIdeal.nD → PrngReg), Pre_CombsIdeal m →
    (∀ c : Dev Cert.CombsIdeal.nD,
      m' ((c.tc : Thread Cert.CombsRefIdeal.nD Cert.CombsRefIdeal.τ).loc Cert.CombsRefIdeal.main_arg0) = m ((c.tc : Thread Cert.CombsIdeal.nD Cert.CombsIdeal.τ).loc Cert.CombsIdeal.main_arg0)
      ∧ m' ((c.tc : Thread Cert.CombsRefIdeal.nD Cert.CombsRefIdeal.τ).loc Cert.CombsRefIdeal.main_arg1) = m ((c.tc : Thread Cert.CombsIdeal.nD Cert.CombsIdeal.τ).loc Cert.CombsIdeal.main_arg1)
      ∧ m' ((c.tc : Thread Cert.CombsRefIdeal.nD Cert.CombsRefIdeal.τ).loc Cert.CombsRefIdeal.main_arg2) = m ((c.tc : Thread Cert.CombsIdeal.nD Cert.CombsIdeal.τ).loc Cert.CombsIdeal.main_arg2)
      ∧ m' ((c.tc : Thread Cert.CombsRefIdeal.nD Cert.CombsRefIdeal.τ).loc Cert.CombsRefIdeal.main_arg3) = m ((c.tc : Thread Cert.CombsIdeal.nD Cert.CombsIdeal.τ).loc Cert.CombsIdeal.main_arg3)
      ∧ m' ((c.tc : Thread Cert.CombsRefIdeal.nD Cert.CombsRefIdeal.τ).loc Cert.CombsRefIdeal.main_arg4) = m ((c.tc : Thread Cert.CombsIdeal.nD Cert.CombsIdeal.τ).loc Cert.CombsIdeal.main_arg4)
      ∧ m' ((c.tc : Thread Cert.CombsRefIdeal.nD Cert.CombsRefIdeal.τ).loc Cert.CombsRefIdeal.main_arg5) = m ((c.tc : Thread Cert.CombsIdeal.nD Cert.CombsIdeal.τ).loc Cert.CombsIdeal.main_arg5)
      ∧ m' ((c.tc : Thread Cert.CombsRefIdeal.nD Cert.CombsRefIdeal.τ).loc Cert.CombsRefIdeal.main_arg6) = m ((c.tc : Thread Cert.CombsIdeal.nD Cert.CombsIdeal.τ).loc Cert.CombsIdeal.main_arg6)
      ∧ m' ((c.tc : Thread Cert.CombsRefIdeal.nD Cert.CombsRefIdeal.τ).loc Cert.CombsRefIdeal.main_arg7) = m ((c.tc : Thread Cert.CombsIdeal.nD Cert.CombsIdeal.τ).loc Cert.CombsIdeal.main_arg7)
      ∧ m' ((c.tc : Thread Cert.CombsRefIdeal.nD Cert.CombsRefIdeal.τ).loc Cert.CombsRefIdeal.main_arg8) = m ((c.tc : Thread Cert.CombsIdeal.nD Cert.CombsIdeal.τ).loc Cert.CombsIdeal.main_arg8)
      ∧ m' ((c.tc : Thread Cert.CombsRefIdeal.nD Cert.CombsRefIdeal.τ).loc Cert.CombsRefIdeal.main_arg9) = m ((c.tc : Thread Cert.CombsIdeal.nD Cert.CombsIdeal.τ).loc Cert.CombsIdeal.main_arg9)
      ∧ m' ((c.tc : Thread Cert.CombsRefIdeal.nD Cert.CombsRefIdeal.τ).loc Cert.CombsRefIdeal.main_arg10) = m ((c.tc : Thread Cert.CombsIdeal.nD Cert.CombsIdeal.τ).loc Cert.CombsIdeal.main_arg10)
      ∧ m' ((c.tc : Thread Cert.CombsRefIdeal.nD Cert.CombsRefIdeal.τ).loc Cert.CombsRefIdeal.main_arg11) = m ((c.tc : Thread Cert.CombsIdeal.nD Cert.CombsIdeal.τ).loc Cert.CombsIdeal.main_arg11)) →
    ∃ (v0 : (c : Dev Cert.CombsIdeal.nD) → Buf (Elt Ideal) ((c.tc : Thread Cert.CombsIdeal.nD Cert.CombsIdeal.τ).loc Cert.CombsIdeal.main_v18)),
      θ_run (Cert.CombsIdeal.defs (F := Ideal)) (onTc (τ := Cert.CombsIdeal.τ) (Cert.CombsIdeal.main (F := Ideal))) ⟨m, fun _ => 0, g⟩ (fun r => ∀ c : Dev Cert.CombsIdeal.nD,
          r.2.mem ((c.tc : Thread Cert.CombsIdeal.nD Cert.CombsIdeal.τ).loc Cert.CombsIdeal.main_v18) = v0 c
          ∧ r.2.mem ((c.tc : Thread Cert.CombsIdeal.nD Cert.CombsIdeal.τ).loc Cert.CombsIdeal.main_arg0) = m ((c.tc : Thread Cert.CombsIdeal.nD Cert.CombsIdeal.τ).loc Cert.CombsIdeal.main_arg0)
          ∧ r.2.mem ((c.tc : Thread Cert.CombsIdeal.nD Cert.CombsIdeal.τ).loc Cert.CombsIdeal.main_arg1) = m ((c.tc : Thread Cert.CombsIdeal.nD Cert.CombsIdeal.τ).loc Cert.CombsIdeal.main_arg1)
          ∧ r.2.mem ((c.tc : Thread Cert.CombsIdeal.nD Cert.CombsIdeal.τ).loc Cert.CombsIdeal.main_arg2) = m ((c.tc : Thread Cert.CombsIdeal.nD Cert.CombsIdeal.τ).loc Cert.CombsIdeal.main_arg2)
          ∧ r.2.mem ((c.tc : Thread Cert.CombsIdeal.nD Cert.CombsIdeal.τ).loc Cert.CombsIdeal.main_arg3) = m ((c.tc : Thread Cert.CombsIdeal.nD Cert.CombsIdeal.τ).loc Cert.CombsIdeal.main_arg3)
          ∧ r.2.mem ((c.tc : Thread Cert.CombsIdeal.nD Cert.CombsIdeal.τ).loc Cert.CombsIdeal.main_arg4) = m ((c.tc : Thread Cert.CombsIdeal.nD Cert.CombsIdeal.τ).loc Cert.CombsIdeal.main_arg4)
          ∧ r.2.mem ((c.tc : Thread Cert.CombsIdeal.nD Cert.CombsIdeal.τ).loc Cert.CombsIdeal.main_arg5) = m ((c.tc : Thread Cert.CombsIdeal.nD Cert.CombsIdeal.τ).loc Cert.CombsIdeal.main_arg5)
          ∧ r.2.mem ((c.tc : Thread Cert.CombsIdeal.nD Cert.CombsIdeal.τ).loc Cert.CombsIdeal.main_arg6) = m ((c.tc : Thread Cert.CombsIdeal.nD Cert.CombsIdeal.τ).loc Cert.CombsIdeal.main_arg6)
          ∧ r.2.mem ((c.tc : Thread Cert.CombsIdeal.nD Cert.CombsIdeal.τ).loc Cert.CombsIdeal.main_arg7) = m ((c.tc : Thread Cert.CombsIdeal.nD Cert.CombsIdeal.τ).loc Cert.CombsIdeal.main_arg7)
          ∧ r.2.mem ((c.tc : Thread Cert.CombsIdeal.nD Cert.CombsIdeal.τ).loc Cert.CombsIdeal.main_arg8) = m ((c.tc : Thread Cert.CombsIdeal.nD Cert.CombsIdeal.τ).loc Cert.CombsIdeal.main_arg8)
          ∧ r.2.mem ((c.tc : Thread Cert.CombsIdeal.nD Cert.CombsIdeal.τ).loc Cert.CombsIdeal.main_arg9) = m ((c.tc : Thread Cert.CombsIdeal.nD Cert.CombsIdeal.τ).loc Cert.CombsIdeal.main_arg9)
          ∧ r.2.mem ((c.tc : Thread Cert.CombsIdeal.nD Cert.CombsIdeal.τ).loc Cert.CombsIdeal.main_arg10) = m ((c.tc : Thread Cert.CombsIdeal.nD Cert.CombsIdeal.τ).loc Cert.CombsIdeal.main_arg10)
          ∧ r.2.mem ((c.tc : Thread Cert.CombsIdeal.nD Cert.CombsIdeal.τ).loc Cert.CombsIdeal.main_arg11) = m ((c.tc : Thread Cert.CombsIdeal.nD Cert.CombsIdeal.τ).loc Cert.CombsIdeal.main_arg11))
      ∧ θ_run (Cert.CombsRefIdeal.defs (F := Ideal)) (onTc (τ := Cert.CombsRefIdeal.τ) (Cert.CombsRefIdeal.main (F := Ideal))) ⟨m', fun _ => 0, g'⟩ (fun r => ∀ c : Dev Cert.CombsRefIdeal.nD,
          r.2.mem ((c.tc : Thread Cert.CombsRefIdeal.nD Cert.CombsRefIdeal.τ).loc Cert.CombsRefIdeal.main_v100) = v0 c
          ∧ r.2.mem ((c.tc : Thread Cert.CombsRefIdeal.nD Cert.CombsRefIdeal.τ).loc Cert.CombsRefIdeal.main_arg0) = m' ((c.tc : Thread Cert.CombsRefIdeal.nD Cert.CombsRefIdeal.τ).loc Cert.CombsRefIdeal.main_arg0)
          ∧ r.2.mem ((c.tc : Thread Cert.CombsRefIdeal.nD Cert.CombsRefIdeal.τ).loc Cert.CombsRefIdeal.main_arg1) = m' ((c.tc : Thread Cert.CombsRefIdeal.nD Cert.CombsRefIdeal.τ).loc Cert.CombsRefIdeal.main_arg1)
          ∧ r.2.mem ((c.tc : Thread Cert.CombsRefIdeal.nD Cert.CombsRefIdeal.τ).loc Cert.CombsRefIdeal.main_arg2) = m' ((c.tc : Thread Cert.CombsRefIdeal.nD Cert.CombsRefIdeal.τ).loc Cert.CombsRefIdeal.main_arg2)
          ∧ r.2.mem ((c.tc : Thread Cert.CombsRefIdeal.nD Cert.CombsRefIdeal.τ).loc Cert.CombsRefIdeal.main_arg3) = m' ((c.tc : Thread Cert.CombsRefIdeal.nD Cert.CombsRefIdeal.τ).loc Cert.CombsRefIdeal.main_arg3)
          ∧ r.2.mem ((c.tc : Thread Cert.CombsRefIdeal.nD Cert.CombsRefIdeal.τ).loc Cert.CombsRefIdeal.main_arg4) = m' ((c.tc : Thread Cert.CombsRefIdeal.nD Cert.CombsRefIdeal.τ).loc Cert.CombsRefIdeal.main_arg4)
          ∧ r.2.mem ((c.tc : Thread Cert.CombsRefIdeal.nD Cert.CombsRefIdeal.τ).loc Cert.CombsRefIdeal.main_arg5) = m' ((c.tc : Thread Cert.CombsRefIdeal.nD Cert.CombsRefIdeal.τ).loc Cert.CombsRefIdeal.main_arg5)
          ∧ r.2.mem ((c.tc : Thread Cert.CombsRefIdeal.nD Cert.CombsRefIdeal.τ).loc Cert.CombsRefIdeal.main_arg6) = m' ((c.tc : Thread Cert.CombsRefIdeal.nD Cert.CombsRefIdeal.τ).loc Cert.CombsRefIdeal.main_arg6)
          ∧ r.2.mem ((c.tc : Thread Cert.CombsRefIdeal.nD Cert.CombsRefIdeal.τ).loc Cert.CombsRefIdeal.main_arg7) = m' ((c.tc : Thread Cert.CombsRefIdeal.nD Cert.CombsRefIdeal.τ).loc Cert.CombsRefIdeal.main_arg7)
          ∧ r.2.mem ((c.tc : Thread Cert.CombsRefIdeal.nD Cert.CombsRefIdeal.τ).loc Cert.CombsRefIdeal.main_arg8) = m' ((c.tc : Thread Cert.CombsRefIdeal.nD Cert.CombsRefIdeal.τ).loc Cert.CombsRefIdeal.main_arg8)
          ∧ r.2.mem ((c.tc : Thread Cert.CombsRefIdeal.nD Cert.CombsRefIdeal.τ).loc Cert.CombsRefIdeal.main_arg9) = m' ((c.tc : Thread Cert.CombsRefIdeal.nD Cert.CombsRefIdeal.τ).loc Cert.CombsRefIdeal.main_arg9)
          ∧ r.2.mem ((c.tc : Thread Cert.CombsRefIdeal.nD Cert.CombsRefIdeal.τ).loc Cert.CombsRefIdeal.main_arg10) = m' ((c.tc : Thread Cert.CombsRefIdeal.nD Cert.CombsRefIdeal.τ).loc Cert.CombsRefIdeal.main_arg10)
          ∧ r.2.mem ((c.tc : Thread Cert.CombsRefIdeal.nD Cert.CombsRefIdeal.τ).loc Cert.CombsRefIdeal.main_arg11) = m' ((c.tc : Thread Cert.CombsRefIdeal.nD Cert.CombsRefIdeal.τ).loc Cert.CombsRefIdeal.main_arg11))

def preserves_Win_WinIdeal : Prop :=
  True

def algebraic_WinIdeal_WinRefIdeal_pre_win_finite [hWinIdeal : Cert.WinIdeal.Facts] [hWinRefIdeal : Cert.WinRefIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v19_0)) (v1 : (c : Dev Cert.WinIdeal.nD) → Buf (Elt Ideal) ((c.tc : Thread Cert.WinIdeal.nD Cert.WinIdeal.τ).loc Cert.WinIdeal.main_v19_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v19_0) = v0 c
          ∧ r.2.mem ((c.tc : Thread Cert.WinIdeal.nD Cert.WinIdeal.τ).loc Cert.WinIdeal.main_v19_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v38) = v0 c
          ∧ r.2.mem ((c.tc : Thread Cert.WinRefIdeal.nD Cert.WinRefIdeal.τ).loc Cert.WinRefIdeal.main_v40) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hComb : Cert.Comb.Facts) (hCombIdeal : Cert.CombIdeal.Facts) (hCombRefIdeal : Cert.CombRefIdeal.Facts) (hFfns : Cert.Ffns.Facts) (hFfnsIdeal : Cert.FfnsIdeal.Facts) (hFfnsRefIdeal : Cert.FfnsRefIdeal.Facts) (hProjs : Cert.Projs.Facts) (hProjsIdeal : Cert.ProjsIdeal.Facts) (hProjsRefIdeal : Cert.ProjsRefIdeal.Facts) (hCombs : Cert.Combs.Facts) (hCombsIdeal : Cert.CombsIdeal.Facts) (hCombsRefIdeal : Cert.CombsRefIdeal.Facts) (hWin : Cert.Win.Facts) (hWinIdeal : Cert.WinIdeal.Facts) (hWinRefIdeal : Cert.WinRefIdeal.Facts) (hPre_win_finite : Cert.Pre_win_finite.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Comb (hComb := hComb)
    ∧ quiescent_CombIdeal (hCombIdeal := hCombIdeal)
    ∧ quiescent_CombRefIdeal (hCombRefIdeal := hCombRefIdeal)
    ∧ quiescent_Ffns (hFfns := hFfns)
    ∧ quiescent_FfnsIdeal (hFfnsIdeal := hFfnsIdeal)
    ∧ quiescent_FfnsRefIdeal (hFfnsRefIdeal := hFfnsRefIdeal)
    ∧ quiescent_Projs (hProjs := hProjs)
    ∧ quiescent_ProjsIdeal (hProjsIdeal := hProjsIdeal)
    ∧ quiescent_ProjsRefIdeal (hProjsRefIdeal := hProjsRefIdeal)
    ∧ quiescent_Combs (hCombs := hCombs)
    ∧ quiescent_CombsIdeal (hCombsIdeal := hCombsIdeal)
    ∧ quiescent_CombsRefIdeal (hCombsRefIdeal := hCombsRefIdeal)
    ∧ quiescent_Win (hWin := hWin)
    ∧ quiescent_WinIdeal (hWinIdeal := hWinIdeal)
    ∧ quiescent_WinIdeal_pre_win_finite (hWinIdeal := hWinIdeal) (hPre_win_finite := hPre_win_finite)
    ∧ quiescent_WinRefIdeal (hWinRefIdeal := hWinRefIdeal)
    ∧ quiescent_WinRefIdeal_pre_win_finite (hWinRefIdeal := hWinRefIdeal) (hPre_win_finite := hPre_win_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Comb_CombIdeal
    ∧ algebraic_CombIdeal_CombRefIdeal (hCombIdeal := hCombIdeal) (hCombRefIdeal := hCombRefIdeal)
    ∧ preserves_Ffns_FfnsIdeal
    ∧ algebraic_FfnsIdeal_FfnsRefIdeal (hFfnsIdeal := hFfnsIdeal) (hFfnsRefIdeal := hFfnsRefIdeal)
    ∧ preserves_Projs_ProjsIdeal
    ∧ algebraic_ProjsIdeal_ProjsRefIdeal (hProjsIdeal := hProjsIdeal) (hProjsRefIdeal := hProjsRefIdeal)
    ∧ preserves_Combs_CombsIdeal
    ∧ algebraic_CombsIdeal_CombsRefIdeal (hCombsIdeal := hCombsIdeal) (hCombsRefIdeal := hCombsRefIdeal)
    ∧ preserves_Win_WinIdeal
    ∧ algebraic_WinIdeal_WinRefIdeal_pre_win_finite (hWinIdeal := hWinIdeal) (hWinRefIdeal := hWinRefIdeal) (hPre_win_finite := hPre_win_finite)
-- ==== Pre_win_finite.lean ====
abbrev S128x8x2x4x64 : Shape := ⟨5, ![128, 8, 2, 4, 64]⟩
abbrev S128x8x2x2x64 : Shape := ⟨5, ![128, 8, 2, 2, 64]⟩
abbrev S1x128x512x2x2x64 : Shape := ⟨6, ![1, 128, 512, 2, 2, 64]⟩
abbrev S32x8 : Shape := ⟨2, ![32, 8]⟩
abbrev S_ : Shape := ⟨0, ![]⟩

class Facts : Prop where
  bcast_S_S128x8x2x4x64 : S_.BroadcastsInDim S128x8x2x4x64 (![] : Fin 0 → Fin S128x8x2x4x64.rank)
  bcast_S_S128x8x2x2x64 : S_.BroadcastsInDim S128x8x2x2x64 (![] : Fin 0 → Fin S128x8x2x2x64.rank)
  bcast_S_S1x128x512x2x2x64 : S_.BroadcastsInDim S1x128x512x2x2x64 (![] : Fin 0 → Fin S1x128x512x2x2x64.rank)
  bcast_S_S32x8 : S_.BroadcastsInDim S32x8 (![] : Fin 0 → Fin S32x8.rank)

variable [Facts]

def fn {F : FTy → Type} [FloatOps F] (main_arg0 : FVec F S128x8x2x4x64 .f32) (main_arg1 : FVec F S128x8x2x2x64 .f32) (main_arg2 : FVec F S1x128x512x2x2x64 .f32) (main_arg3 : FVec F S32x8 .f32) : IVec S128x8x2x4x64 1 × IVec S128x8x2x2x64 1 × IVec S1x128x512x2x2x64 1 × IVec S32x8 1 :=
  let main_v0 : FVec F S128x8x2x4x64 .f32 := Host.absf main_arg0
  let main_cst : FVec F S_ .f32 := constant S_ .f32 0x7F800000#32
  let main_v1 : FVec F S128x8x2x4x64 .f32 := broadcastInDim S128x8x2x4x64 ![] bcast_S_S128x8x2x4x64 main_cst
  let main_v2 : IVec S128x8x2x4x64 1 := cmpf .olt main_v0 main_v1
  let main_v3 : FVec F S128x8x2x2x64 .f32 := Host.absf main_arg1
  let main_cst_0 : FVec F S_ .f32 := constant S_ .f32 0x7F800000#32
  let main_v4 : FVec F S128x8x2x2x64 .f32 := broadcastInDim S128x8x2x2x64 ![] bcast_S_S128x8x2x2x64 main_cst_0
  let main_v5 : IVec S128x8x2x2x64 1 := cmpf .olt main_v3 main_v4
  let main_v6 : FVec F S1x128x512x2x2x64 .f32 := Host.absf main_arg2
  let main_cst_1 : FVec F S_ .f32 := constant S_ .f32 0x7F800000#32
  let main_v7 : FVec F S1x128x512x2x2x64 .f32 := broadcastInDim S1x128x512x2x2x64 ![] bcast_S_S1x128x512x2x2x64 main_cst_1
  let main_v8 : IVec S1x128x512x2x2x64 1 := cmpf .olt main_v6 main_v7
  let main_v9 : FVec F S32x8 .f32 := Host.absf main_arg3
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  (main_v2, main_v5, main_v8, main_v11)
-- ==== Ffn.lean ====
abbrev S8x2048x1024 : Shape := ⟨3, ![8, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S8x2048x1024 : Shape := ⟨3, ![8, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S16384x1024 : Shape := ⟨2, ![16384, 1024]⟩
abbrev S1024x4096 : Shape := ⟨2, ![1024, 4096]⟩
abbrev S4096x1024 : Shape := ⟨2, ![4096, 1024]⟩
abbrev S1024 : Shape := ⟨1, ![1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x2048x1024 : Shape := ⟨3, ![8, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S8x2048x4096 : Shape := ⟨3, ![8, 2048, 4096]⟩
abbrev S_ : Shape := ⟨0, ![]⟩
abbrev S4096x1024 : Shape := ⟨2, ![4096, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S4096x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proj.lean ====
abbrev S8x2048x1024 : Shape := ⟨3, ![8, 2048, 1024]⟩
abbrev S1024 : Shape := ⟨1, ![1024]⟩
abbrev S1x1024x2848 : Shape := ⟨3, ![1, 1024, 2848]⟩
abbrev S16384x1024 : Shape := ⟨2, ![16384, 1024]⟩
abbrev S1x1024 : Shape := ⟨2, ![1, 1024]⟩
abbrev S1024x2848 : Shape := ⟨2, ![1024, 2848]⟩
abbrev S1024x512 : Shape := ⟨2, ![1024, 512]⟩
abbrev S1024x1024 : Shape := ⟨2, ![1024, 1024]⟩
abbrev S1024x8 : Shape := ⟨2, ![1024, 8]⟩
abbrev S1024x256 : Shape := ⟨2, ![1024, 256]⟩
abbrev S1024x24 : Shape := ⟨2, ![1024, 24]⟩
abbrev S1024x32 : Shape := ⟨2, ![1024, 32]⟩
abbrev S_ : Shape := ⟨0, ![]⟩
abbrev S1024x128 : Shape := ⟨2, ![1024, 128]⟩
abbrev S1024x2944 : Shape := ⟨2, ![1024, 2944]⟩
abbrev S16384x512 : Shape := ⟨2, ![16384, 512]⟩
abbrev S2x16384x128 : Shape := ⟨3, ![2, 16384, 128]⟩
abbrev S8x256x2048 : Shape := ⟨3, ![8, 256, 2048]⟩
abbrev S16384x128 : Shape := ⟨2, ![16384, 128]⟩
abbrev S512x1024 : Shape := ⟨2, ![512, 1024]⟩
abbrev S512x512 : Shape := ⟨2, ![512, 512]⟩
abbrev S2x512x128 : Shape := ⟨3, ![2, 512, 128]⟩
abbrev S1x256x512 : Shape := ⟨3, ![1, 256, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩
abbrev S256x512 : Shape := ⟨2, ![256, 512]⟩

abbrev nBuf : Space → Nat
  | .hbm => 33
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2848, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S1024x2848, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x24, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x2944, .f32⟩
  | .hbm, ⟨24, _⟩ => ⟨S1024x2944, .bf16⟩
  | .hbm, ⟨25, _⟩ => ⟨S16384x512, .f32⟩
  | .hbm, ⟨26, _⟩ => ⟨S16384x1024, .f32⟩
  | .hbm, ⟨27, _⟩ => ⟨S16384x512, .bf16⟩
  | .hbm, ⟨28, _⟩ => ⟨S2x16384x128, .f32⟩
  | .hbm, ⟨29, _⟩ => ⟨S8x256x2048, .f32⟩
  | .hbm, ⟨30, _⟩ => ⟨S8x256x2048, .f32⟩
  | .hbm, ⟨31, _⟩ => ⟨S8x256x2048, .f32⟩
  | .hbm, ⟨32, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2944, .bf16⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S2x512x128, .f32⟩
  | .local _ .vmem, ⟨12, _⟩ => ⟨S2x512x128, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S512x128, .f32⟩
  | .local _ .vmem, ⟨20, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S8x2048x1024 : Shape := ⟨3, ![8, 2048, 1024]⟩
abbrev S1024 : Shape := ⟨1, ![1024]⟩
abbrev S1x1024x2848 : Shape := ⟨3, ![1, 1024, 2848]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2848 : Shape := ⟨2, ![1024, 2848]⟩
abbrev S8x2048x2848 : Shape := ⟨3, ![8, 2048, 2848]⟩
abbrev S8x2048x512 : Shape := ⟨3, ![8, 2048, 512]⟩
abbrev S8x2048x8 : Shape := ⟨3, ![8, 2048, 8]⟩
abbrev S8x2048x256 : Shape := ⟨3, ![8, 2048, 256]⟩
abbrev S8x2048x24 : Shape := ⟨3, ![8, 2048, 24]⟩
abbrev S8x2048x32 : Shape := ⟨3, ![8, 2048, 32]⟩
abbrev S8x2048x128 : Shape := ⟨3, ![8, 2048, 128]⟩
abbrev S16384x2x128 : Shape := ⟨3, ![16384, 2, 128]⟩
abbrev S2x16384x128 : Shape := ⟨3, ![2, 16384, 128]⟩
abbrev S16384x512 : Shape := ⟨2, ![16384, 512]⟩
abbrev S16384x1024 : Shape := ⟨2, ![16384, 1024]⟩
abbrev S8x256x2048 : Shape := ⟨3, ![8, 256, 2048]⟩
abbrev S16384x128 : Shape := ⟨2, ![16384, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2848, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S1024x2848, .f32⟩
  | .hbm, ⟨34, _⟩ => ⟨S8x2048x2848, .f32⟩
  | .hbm, ⟨35, _⟩ => ⟨S8x2048x512, .f32⟩
  | .hbm, ⟨36, _⟩ => ⟨S8x2048x1024, .f32⟩
  | .hbm, ⟨37, _⟩ => ⟨S8x2048x8, .f32⟩
  | .hbm, ⟨38, _⟩ => ⟨S8x2048x512, .f32⟩
  | .hbm, ⟨39, _⟩ => ⟨S8x2048x256, .f32⟩
  | .hbm, ⟨40, _⟩ => ⟨S8x2048x256, .f32⟩
  | .hbm, ⟨41, _⟩ => ⟨S8x2048x256, .f32⟩
  | .hbm, ⟨42, _⟩ => ⟨S8x2048x24, .f32⟩
  | .hbm, ⟨43, _⟩ => ⟨S8x2048x32, .f32⟩
  | .hbm, ⟨44, _⟩ => ⟨S_, .i32⟩
  | .hbm, ⟨45, _⟩ => ⟨S_, .f32⟩
  | .hbm, ⟨46, _⟩ => ⟨S8x2048x128, .f32⟩
  | .hbm, ⟨47, _⟩ => ⟨S16384x2x128, .f32⟩
  | .hbm, ⟨48, _⟩ => ⟨S2x16384x128, .f32⟩
  | .hbm, ⟨49, _⟩ => ⟨S16384x512, .f32⟩
  | .hbm, ⟨50, _⟩ => ⟨S16384x1024, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S16384x512, .bf16⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_call0_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Comb.lean ====
abbrev S8x2048x1024 : Shape := ⟨3, ![8, 2048, 1024]⟩
abbrev S8x2048x512 : Shape := ⟨3, ![8, 2048, 512]⟩
abbrev S16384x128 : Shape := ⟨2, ![16384, 128]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S3x128x8 : Shape := ⟨3, ![3, 128, 8]⟩
abbrev S16384x1024 : Shape := ⟨2, ![16384, 1024]⟩
abbrev S16384x512 : Shape := ⟨2, ![16384, 512]⟩
abbrev S3x128x8x1 : Shape := ⟨4, ![3, 128, 8, 1]⟩
abbrev S3x128x8x64 : Shape := ⟨4, ![3, 128, 8, 64]⟩
abbrev S3x128x512 : Shape := ⟨3, ![3, 128, 512]⟩
abbrev S512 : Shape := ⟨1, ![512]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128x512 : Shape := ⟨3, ![1, 128, 512]⟩
abbrev S128x512 : Shape := ⟨2, ![128, 512]⟩

abbrev nBuf : Space → Nat
  | .hbm => 32
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16384x128, .f32⟩
  | .hbm, ⟨6, _⟩ => ⟨S1024, .f32⟩
  | .hbm, ⟨7, _⟩ => ⟨S1024, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S3x128x8, .bf16⟩
  | .hbm, ⟨13, _⟩ => ⟨S16384x1024, .f32⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x1024, .f32⟩
  | .hbm, ⟨19, _⟩ => ⟨S1x1024, .f32⟩
  | .hbm, ⟨20, _⟩ => ⟨S3x128x8x1, .bf16⟩
  | .hbm, ⟨21, _⟩ => ⟨S3x128x8x64, .bf16⟩
  | .hbm, ⟨22, _⟩ => ⟨S3x128x512, .bf16⟩
  | .hbm, ⟨23, _⟩ => ⟨S512, .f32⟩
  | .hbm, ⟨24, _⟩ => ⟨S1x512, .f32⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S1x1024, .f32⟩
  | .local _ .vmem, ⟨14, _⟩ => ⟨S3x128x512, .bf16⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CombIdeal.lean ====
abbrev S8x2048x1024 : Shape := ⟨3, ![8, 2048, 1024]⟩
abbrev S8x2048x512 : Shape := ⟨3, ![8, 2048, 512]⟩
abbrev S16384x128 : Shape := ⟨2, ![16384, 128]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S3x128x8 : Shape := ⟨3, ![3, 128, 8]⟩
abbrev S16384x1024 : Shape := ⟨2, ![16384, 1024]⟩
abbrev S16384x512 : Shape := ⟨2, ![16384, 512]⟩
abbrev S3x128x8x1 : Shape := ⟨4, ![3, 128, 8, 1]⟩
abbrev S3x128x8x64 : Shape := ⟨4, ![3, 128, 8, 64]⟩
abbrev S3x128x512 : Shape := ⟨3, ![3, 128, 512]⟩
abbrev S512 : Shape := ⟨1, ![512]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128x512 : Shape := ⟨3, ![1, 128, 512]⟩
abbrev S128x512 : Shape := ⟨2, ![128, 512]⟩

abbrev nBuf : Space → Nat
  | .hbm => 32
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16384x128, .f32⟩
  | .hbm, ⟨6, _⟩ => ⟨S1024, .f32⟩
  | .hbm, ⟨7, _⟩ => ⟨S1024, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S3x128x8, .bf16⟩
  | .hbm, ⟨13, _⟩ => ⟨S16384x1024, .f32⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x1024, .f32⟩
  | .hbm, ⟨19, _⟩ => ⟨S1x1024, .f32⟩
  | .hbm, ⟨20, _⟩ => ⟨S3x128x8x1, .bf16⟩
  | .hbm, ⟨21, _⟩ => ⟨S3x128x8x64, .bf16⟩
  | .hbm, ⟨22, _⟩ => ⟨S3x128x512, .bf16⟩
  | .hbm, ⟨23, _⟩ => ⟨S512, .f32⟩
  | .hbm, ⟨24, _⟩ => ⟨S1x512, .f32⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S1x1024, .f32⟩
  | .local _ .vmem, ⟨14, _⟩ => ⟨S3x128x512, .bf16⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CombRefIdeal.lean ====
abbrev S8x2048x1024 : Shape := ⟨3, ![8, 2048, 1024]⟩
abbrev S8x2048x512 : Shape := ⟨3, ![8, 2048, 512]⟩
abbrev S16384x128 : Shape := ⟨2, ![16384, 128]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S16384x24 : Shape := ⟨2, ![16384, 24]⟩
abbrev S8x2048x3x2x4 : Shape := ⟨5, ![8, 2048, 3, 2, 4]⟩
abbrev S_ : Shape := ⟨0, ![]⟩
abbrev S8x2048x1x2x4 : Shape := ⟨5, ![8, 2048, 1, 2, 4]⟩
abbrev S8x2048x2x4 : Shape := ⟨4, ![8, 2048, 2, 4]⟩
abbrev S8x2048x2x4x1 : Shape := ⟨5, ![8, 2048, 2, 4, 1]⟩
abbrev S8x2048x2x4x64 : Shape := ⟨5, ![8, 2048, 2, 4, 64]⟩
abbrev S8x2048 : Shape := ⟨2, ![8, 2048]⟩
abbrev S8x2048x1 : Shape := ⟨3, ![8, 2048, 1]⟩
abbrev S512 : Shape := ⟨1, ![512]⟩
abbrev S1x1x512 : Shape := ⟨3, ![1, 1, 512]⟩
abbrev S1024x1024 : Shape := ⟨2, ![1024, 1024]⟩
abbrev S1x1x1024 : Shape := ⟨3, ![1, 1, 1024]⟩
abbrev S16384x1024 : Shape := ⟨2, ![16384, 1024]⟩

abbrev nBuf : Space → Nat
  | .hbm => 129
  | .vmem => 0
  | .smem => 0
  | _ => 0

abbrev hbmTy0_0 (i : Nat) : BufTy := match i % 128 with
  | 0 => ⟨S8x2048x1024, .f32⟩
  | 1 => ⟨S8x2048x512, .bf16⟩
  | 2 => ⟨S8x2048x512, .f32⟩
  | 3 => ⟨S8x2048x512, .f32⟩
  | 4 => ⟨S8x2048x512, .f32⟩
  | 5 => ⟨S16384x128, .f32⟩
  | 6 => ⟨S1024, .f32⟩
  | 7 => ⟨S1024, .f32⟩
  | 8 => ⟨S1x512, .f32⟩
  | 9 => ⟨S1x1024x1024, .f32⟩
  | 10 => ⟨S1x1024, .f32⟩
  | 11 => ⟨S1x1024, .f32⟩
  | 12 => ⟨S16384x24, .f32⟩
  | 13 => ⟨S8x2048x3x2x4, .f32⟩
  | 14 => ⟨S8x2048x3x2x4, .f32⟩
  | 15 => ⟨S8x2048x3x2x4, .f32⟩
  | 16 => ⟨S_, .f32⟩
  | 17 => ⟨S8x2048x3x2x4, .f32⟩
  | 18 => ⟨S8x2048x3x2x4, .f32⟩
  | 19 => ⟨S_, .f32⟩
  | 20 => ⟨S8x2048x3x2x4, .f32⟩
  | 21 => ⟨S8x2048x3x2x4, .f32⟩
  | 22 => ⟨S8x2048x1x2x4, .f32⟩
  | 23 => ⟨S8x2048x2x4, .f32⟩
  | 24 => ⟨S8x2048x2x4x1, .f32⟩
  | 25 => ⟨S8x2048x2x4x64, .f32⟩
  | 26 => ⟨S8x2048x2x4x64, .f32⟩
  | 27 => ⟨S8x2048x2x4x64, .f32⟩
  | 28 => ⟨S8x2048x1x2x4, .f32⟩
  | 29 => ⟨S8x2048x2x4, .f32⟩
  | 30 => ⟨S8x2048x2x4x1, .f32⟩
  | 31 => ⟨S8x2048x2x4x64, .f32⟩
  | 32 => ⟨S8x2048x2x4x64, .f32⟩
  | 33 => ⟨S8x2048x2x4x64, .f32⟩
  | 34 => ⟨S8x2048x2x4x64, .f32⟩
  | 35 => ⟨S8x2048x1x2x4, .f32⟩
  | 36 => ⟨S8x2048x2x4, .f32⟩
  | 37 => ⟨S8x2048x2x4x1, .f32⟩
  | 38 => ⟨S8x2048x2x4x64, .f32⟩
  | 39 => ⟨S8x2048x2x4x64, .f32⟩
  | 40 => ⟨S8x2048x2x4x64, .f32⟩
  | 41 => ⟨S8x2048x2x4x64, .f32⟩
  | 42 => ⟨S8x2048x512, .f32⟩
  | 43 => ⟨S8x2048x512, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S_, .f32⟩
  | 51 => ⟨S8x2048x1, .f32⟩
  | 52 => ⟨S8x2048x1, .f32⟩
  | 53 => ⟨S8x2048x1, .f32⟩
  | 54 => ⟨S8x2048x512, .f32⟩
  | 55 => ⟨S8x2048x512, .f32⟩
  | 56 => ⟨S512, .f32⟩
  | 57 => ⟨S1x1x512, .f32⟩
  | 58 => ⟨S8x2048x512, .f32⟩
  | 59 => ⟨S8x2048x512, .f32⟩
  | 60 => ⟨S8x2048x512, .f32⟩
  | 61 => ⟨S8x2048x1024, .f32⟩
  | 62 => ⟨S1024x1024, .f32⟩
  | 63 => ⟨S8x2048x1024, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S8x2048x1024, .f32⟩
  | 71 => ⟨S8x2048x1024, .f32⟩
  | 72 => ⟨S8x2048x1024, .f32⟩
  | 73 => ⟨S_, .f32⟩
  | 74 => ⟨S8x2048, .f32⟩
  | 75 => ⟨S8x2048x1, .f32⟩
  | 76 => ⟨S_, .f32⟩
  | 77 => ⟨S8x2048x1, .f32⟩
  | 78 => ⟨S8x2048x1, .f32⟩
  | 79 => ⟨S8x2048x1024, .f32⟩
  | 80 => ⟨S8x2048x1024, .f32⟩
  | 81 => ⟨S_, .f32⟩
  | 82 => ⟨S8x2048x1, .f32⟩
  | 83 => ⟨S8x2048x1, .f32⟩
  | 84 => ⟨S8x2048x1, .f32⟩
  | 85 => ⟨S8x2048x1024, .f32⟩
  | 86 => ⟨S8x2048x1024, .f32⟩
  | 87 => ⟨S1x1x1024, .f32⟩
  | 88 => ⟨S8x2048x1024, .f32⟩
  | 89 => ⟨S8x2048x1024, .f32⟩
  | 90 => ⟨S1x1x1024, .f32⟩
  | 91 => ⟨S8x2048x1024, .f32⟩
  | 92 => ⟨S8x2048x1024, .f32⟩
  | 93 => ⟨S_, .f32⟩
  | 94 => ⟨S8x2048x1024, .f32⟩
  | 95 => ⟨S8x2048x1024, .f32⟩
  | 96 => ⟨S8x2048x1024, .f32⟩
  | 97 => ⟨S1024, .f32⟩
  | 98 => ⟨S1024, .f32⟩
  | 99 => ⟨S_, .f32⟩
  | 100 => ⟨S8x2048, .f32⟩
  | 101 => ⟨S8x2048x1, .f32⟩
  | 102 => ⟨S_, .f32⟩
  | 103 => ⟨S8x2048x1, .f32⟩
  | 104 => ⟨S8x2048x1, .f32⟩
  | 105 => ⟨S8x2048x1024, .f32⟩
  | 106 => ⟨S8x2048x1024, .f32⟩
  | 107 => ⟨S8x2048x1024, .f32⟩
  | 108 => ⟨S_, .f32⟩
  | 109 => ⟨S8x2048, .f32⟩
  | 110 => ⟨S8x2048x1, .f32⟩
  | 111 => ⟨S_, .f32⟩
  | 112 => ⟨S8x2048x1, .f32⟩
  | 113 => ⟨S8x2048x1, .f32⟩
  | 114 => ⟨S8x2048x1024, .f32⟩
  | 115 => ⟨S8x2048x1024, .f32⟩
  | 116 => ⟨S_, .f32⟩
  | 117 => ⟨S8x2048x1, .f32⟩
  | 118 => ⟨S8x2048x1, .f32⟩
  | 119 => ⟨S8x2048x1, .f32⟩
  | 120 => ⟨S8x2048x1024, .f32⟩
  | 121 => ⟨S8x2048x1024, .f32⟩
  | 122 => ⟨S1x1x1024, .f32⟩
  | 123 => ⟨S8x2048x1024, .f32⟩
  | 124 => ⟨S8x2048x1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Ffns.lean ====
abbrev S128x8x1024 : Shape := ⟨3, ![128, 8, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S128x8x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnsRefIdeal.lean ====
abbrev S128x8x1024 : Shape := ⟨3, ![128, 8, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S128x8x4096 : Shape := ⟨3, ![128, 8, 4096]⟩
abbrev S_ : Shape := ⟨0, ![]⟩
abbrev S4096x1024 : Shape := ⟨2, ![4096, 1024]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S128x8x4096, .f32⟩
  | .hbm, ⟨7, _⟩ => ⟨S_, .f32⟩
  | .hbm, ⟨8, _⟩ => ⟨S128x8x4096, .f32⟩
  | .hbm, ⟨9, _⟩ => ⟨S128x8x4096, .f32⟩
  | .hbm, ⟨10, _⟩ => ⟨S128x8x4096, .f32⟩
  | .hbm, ⟨11, _⟩ => ⟨S4096x1024, .f32⟩
  | .hbm, ⟨12, _⟩ => ⟨S128x8x1024, .f32⟩
  | .hbm, ⟨13, _⟩ => ⟨S_, .f32⟩
  | .hbm, ⟨14, _⟩ => ⟨S128x8x1024, .f32⟩
  | .hbm, ⟨15, _⟩ => ⟨S128x8x1024, .f32⟩
  | .hbm, ⟨16, _⟩ => ⟨S128x8x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S128x8, .f32⟩
  | .hbm, ⟨21, _⟩ => ⟨S128x8x1, .f32⟩
  | .hbm, ⟨22, _⟩ => ⟨S_, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S128x8x1024, .f32⟩
  | .hbm, ⟨28, _⟩ => ⟨S_, .f32⟩
  | .hbm, ⟨29, _⟩ => ⟨S128x8, .f32⟩
  | .hbm, ⟨30, _⟩ => ⟨S128x8x1, .f32⟩
  | .hbm, ⟨31, _⟩ => ⟨S_, .f32⟩
  | .hbm, ⟨32, _⟩ => ⟨S128x8x1, .f32⟩
  | .hbm, ⟨33, _⟩ => ⟨S128x8x1, .f32⟩
  | .hbm, ⟨34, _⟩ => ⟨S128x8x1024, .f32⟩
  | .hbm, ⟨35, _⟩ => ⟨S128x8x1024, .f32⟩
  | .hbm, ⟨36, _⟩ => ⟨S_, .f32⟩
  | .hbm, ⟨37, _⟩ => ⟨S128x8x1, .f32⟩
  | .hbm, ⟨38, _⟩ => ⟨S128x8x1, .f32⟩
  | .hbm, ⟨39, _⟩ => ⟨S128x8x1, .f32⟩
  | .hbm, ⟨40, _⟩ => ⟨S128x8x1024, .f32⟩
  | .hbm, ⟨41, _⟩ => ⟨S128x8x1024, .f32⟩
  | .hbm, ⟨42, _⟩ => ⟨S1x1x1024, .f32⟩
  | .hbm, ⟨43, _⟩ => ⟨S128x8x1024, .f32⟩
  | .hbm, ⟨44, _⟩ => ⟨S128x8x1024, .f32⟩
  | .hbm, ⟨45, _⟩ => ⟨S1x1x1024, .f32⟩
  | .hbm, ⟨46, _⟩ => ⟨S128x8x1024, .f32⟩
  | .hbm, ⟨47, _⟩ => ⟨S128x8x1024, .f32⟩
  | .hbm, ⟨48, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Projs.lean ====
abbrev S128x8x1024 : Shape := ⟨3, ![128, 8, 1024]⟩
abbrev S1024 : Shape := ⟨1, ![1024]⟩
abbrev S1x1024x2848 : Shape := ⟨3, ![1, 1024, 2848]⟩
abbrev S1024x1024 : Shape := ⟨2, ![1024, 1024]⟩
abbrev S1x1024 : Shape := ⟨2, ![1, 1024]⟩
abbrev S1024x2848 : Shape := ⟨2, ![1024, 2848]⟩
abbrev S1024x512 : Shape := ⟨2, ![1024, 512]⟩
abbrev S1024x8 : Shape := ⟨2, ![1024, 8]⟩
abbrev S1024x256 : Shape := ⟨2, ![1024, 256]⟩
abbrev S1024x24 : Shape := ⟨2, ![1024, 24]⟩
abbrev S1024x32 : Shape := ⟨2, ![1024, 32]⟩
abbrev S_ : Shape := ⟨0, ![]⟩
abbrev S1024x128 : Shape := ⟨2, ![1024, 128]⟩
abbrev S1024x2944 : Shape := ⟨2, ![1024, 2944]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 32
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024, .f32⟩
  | .hbm, ⟨3, _⟩ => ⟨S1x1024x2848, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x2848, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x24, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x2944, .f32⟩
  | .hbm, ⟨24, _⟩ => ⟨S1024x2944, .bf16⟩
  | .hbm, ⟨25, _⟩ => ⟨S1024x512, .f32⟩
  | .hbm, ⟨26, _⟩ => ⟨S1024x1024, .f32⟩
  | .hbm, ⟨27, _⟩ => ⟨S1024x512, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2944, .bf16⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjsRefIdeal.lean ====
abbrev S128x8x1024 : Shape := ⟨3, ![128, 8, 1024]⟩
abbrev S1024 : Shape := ⟨1, ![1024]⟩
abbrev S1x1024x2848 : Shape := ⟨3, ![1, 1024, 2848]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x2848 : Shape := ⟨2, ![1024, 2848]⟩
abbrev S128x8x2848 : Shape := ⟨3, ![128, 8, 2848]⟩
abbrev S128x8x512 : Shape := ⟨3, ![128, 8, 512]⟩
abbrev S128x8x8 : Shape := ⟨3, ![128, 8, 8]⟩
abbrev S128x8x256 : Shape := ⟨3, ![128, 8, 256]⟩
abbrev S128x8x24 : Shape := ⟨3, ![128, 8, 24]⟩
abbrev S128x8x32 : Shape := ⟨3, ![128, 8, 32]⟩
abbrev S128x8x128 : Shape := ⟨3, ![128, 8, 128]⟩
abbrev S1024x512 : Shape := ⟨2, ![1024, 512]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 57
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024, .f32⟩
  | .hbm, ⟨3, _⟩ => ⟨S1x1024x2848, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S_, .f32⟩
  | .hbm, ⟨14, _⟩ => ⟨S128x8, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S128x8x1024, .f32⟩
  | .hbm, ⟨20, _⟩ => ⟨S128x8x1024, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x1024, .f32⟩
  | .hbm, ⟨26, _⟩ => ⟨S128x8x1024, .f32⟩
  | .hbm, ⟨27, _⟩ => ⟨S1x1x1024, .f32⟩
  | .hbm, ⟨28, _⟩ => ⟨S128x8x1024, .f32⟩
  | .hbm, ⟨29, _⟩ => ⟨S128x8x1024, .f32⟩
  | .hbm, ⟨30, _⟩ => ⟨S1x1x1024, .f32⟩
  | .hbm, ⟨31, _⟩ => ⟨S128x8x1024, .f32⟩
  | .hbm, ⟨32, _⟩ => ⟨S128x8x1024, .f32⟩
  | .hbm, ⟨33, _⟩ => ⟨S1024x2848, .f32⟩
  | .hbm, ⟨34, _⟩ => ⟨S128x8x2848, .f32⟩
  | .hbm, ⟨35, _⟩ => ⟨S128x8x512, .f32⟩
  | .hbm, ⟨36, _⟩ => ⟨S128x8x1024, .f32⟩
  | .hbm, ⟨37, _⟩ => ⟨S128x8x8, .f32⟩
  | .hbm, ⟨38, _⟩ => ⟨S128x8x512, .f32⟩
  | .hbm, ⟨39, _⟩ => ⟨S128x8x256, .f32⟩
  | .hbm, ⟨40, _⟩ => ⟨S128x8x256, .f32⟩
  | .hbm, ⟨41, _⟩ => ⟨S128x8x256, .f32⟩
  | .hbm, ⟨42, _⟩ => ⟨S128x8x24, .f32⟩
  | .hbm, ⟨43, _⟩ => ⟨S128x8x32, .f32⟩
  | .hbm, ⟨44, _⟩ => ⟨S_, .i32⟩
  | .hbm, ⟨45, _⟩ => ⟨S_, .f32⟩
  | .hbm, ⟨46, _⟩ => ⟨S128x8x128, .f32⟩
  | .hbm, ⟨47, _⟩ => ⟨S1024x512, .f32⟩
  | .hbm, ⟨48, _⟩ => ⟨S1024x1024, .f32⟩
  | .hbm, ⟨49, _⟩ => ⟨S1024x512, .f32⟩
  | .hbm, ⟨50, _⟩ => ⟨S_, .f32⟩
  | .hbm, ⟨51, _⟩ => ⟨S1024x512, .f32⟩
  | .hbm, ⟨52, _⟩ => ⟨S1024x512, .f32⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S1024x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_call0_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Combs.lean ====
abbrev S128x8x1024 : Shape := ⟨3, ![128, 8, 1024]⟩
abbrev S128x8x512 : Shape := ⟨3, ![128, 8, 512]⟩
abbrev S1024x128 : Shape := ⟨2, ![1024, 128]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S3x128x8 : Shape := ⟨3, ![3, 128, 8]⟩
abbrev S1024x1024 : Shape := ⟨2, ![1024, 1024]⟩
abbrev S1024x512 : Shape := ⟨2, ![1024, 512]⟩
abbrev S3x128x8x1 : Shape := ⟨4, ![3, 128, 8, 1]⟩
abbrev S3x128x8x64 : Shape := ⟨4, ![3, 128, 8, 64]⟩
abbrev S3x128x512 : Shape := ⟨3, ![3, 128, 512]⟩
abbrev S512 : Shape := ⟨1, ![512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128x512 : Shape := ⟨3, ![1, 128, 512]⟩
abbrev S128x512 : Shape := ⟨2, ![128, 512]⟩

abbrev nBuf : Space → Nat
  | .hbm => 32
  | .vmem => 21
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .bf16⟩
  | .hbm, ⟨2, _⟩ => ⟨S128x8x512, .f32⟩
  | .hbm, ⟨3, _⟩ => ⟨S128x8x512, .f32⟩
  | .hbm, ⟨4, _⟩ => ⟨S128x8x512, .f32⟩
  | .hbm, ⟨5, _⟩ => ⟨S1024x128, .f32⟩
  | .hbm, ⟨6, _⟩ => ⟨S1024, .f32⟩
  | .hbm, ⟨7, _⟩ => ⟨S1024, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S3x128x8, .bf16⟩
  | .hbm, ⟨13, _⟩ => ⟨S1024x1024, .f32⟩
  | .hbm, ⟨14, _⟩ => ⟨S1024x512, .bf16⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1x1024, .f32⟩
  | .hbm, ⟨19, _⟩ => ⟨S1x1024, .f32⟩
  | .hbm, ⟨20, _⟩ => ⟨S3x128x8x1, .bf16⟩
  | .hbm, ⟨21, _⟩ => ⟨S3x128x8x64, .bf16⟩
  | .hbm, ⟨22, _⟩ => ⟨S3x128x512, .bf16⟩
  | .hbm, ⟨23, _⟩ => ⟨S512, .f32⟩
  | .hbm, ⟨24, _⟩ => ⟨S1x512, .f32⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S1x1024, .f32⟩
  | .local _ .vmem, ⟨14, _⟩ => ⟨S3x128x512, .bf16⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CombsRefIdeal.lean ====
abbrev S128x8x1024 : Shape := ⟨3, ![128, 8, 1024]⟩
abbrev S128x8x512 : Shape := ⟨3, ![128, 8, 512]⟩
abbrev S1024x128 : Shape := ⟨2, ![1024, 128]⟩
abbrev S1024 : Shape := ⟨1, ![1024]⟩
abbrev S1x512 : Shape := ⟨2, ![1, 512]⟩
abbrev S1x1024x1024 : Shape := ⟨3, ![1, 1024, 1024]⟩
abbrev S1x1024 : Shape := ⟨2, ![1, 1024]⟩
abbrev S1024x24 : Shape := ⟨2, ![1024, 24]⟩
abbrev S128x8x3x2x4 : Shape := ⟨5, ![128, 8, 3, 2, 4]⟩
abbrev S_ : Shape := ⟨0, ![]⟩
abbrev S128x8x1x2x4 : Shape := ⟨5, ![128, 8, 1, 2, 4]⟩
abbrev S128x8x2x4 : Shape := ⟨4, ![128, 8, 2, 4]⟩
abbrev S128x8x2x4x1 : Shape := ⟨5, ![128, 8, 2, 4, 1]⟩
abbrev S128x8x2x4x64 : Shape := ⟨5, ![128, 8, 2, 4, 64]⟩
abbrev S128x8 : Shape := ⟨2, ![128, 8]⟩
abbrev S128x8x1 : Shape := ⟨3, ![128, 8, 1]⟩
abbrev S512 : Shape := ⟨1, ![512]⟩
abbrev S1x1x512 : Shape := ⟨3, ![1, 1, 512]⟩
abbrev S1024x1024 : Shape := ⟨2, ![1024, 1024]⟩
abbrev S1x1x1024 : Shape := ⟨3, ![1, 1, 1024]⟩

abbrev nBuf : Space → Nat
  | .hbm => 129
  | .vmem => 0
  | .smem => 0
  | _ => 0

abbrev hbmTy0_0 (i : Nat) : BufTy := match i % 128 with
  | 0 => ⟨S128x8x1024, .f32⟩
  | 1 => ⟨S128x8x512, .bf16⟩
  | 2 => ⟨S128x8x512, .f32⟩
  | 3 => ⟨S128x8x512, .f32⟩
  | 4 => ⟨S128x8x512, .f32⟩
  | 5 => ⟨S1024x128, .f32⟩
  | 6 => ⟨S1024, .f32⟩
  | 7 => ⟨S1024, .f32⟩
  | 8 => ⟨S1x512, .f32⟩
  | 9 => ⟨S1x1024x1024, .f32⟩
  | 10 => ⟨S1x1024, .f32⟩
  | 11 => ⟨S1x1024, .f32⟩
  | 12 => ⟨S1024x24, .f32⟩
  | 13 => ⟨S128x8x3x2x4, .f32⟩
  | 14 => ⟨S128x8x3x2x4, .f32⟩
  | 15 => ⟨S128x8x3x2x4, .f32⟩
  | 16 => ⟨S_, .f32⟩
  | 17 => ⟨S128x8x3x2x4, .f32⟩
  | 18 => ⟨S128x8x3x2x4, .f32⟩
  | 19 => ⟨S_, .f32⟩
  | 20 => ⟨S128x8x3x2x4, .f32⟩
  | 21 => ⟨S128x8x3x2x4, .f32⟩
  | 22 => ⟨S128x8x1x2x4, .f32⟩
  | 23 => ⟨S128x8x2x4, .f32⟩
  | 24 => ⟨S128x8x2x4x1, .f32⟩
  | 25 => ⟨S128x8x2x4x64, .f32⟩
  | 26 => ⟨S128x8x2x4x64, .f32⟩
  | 27 => ⟨S128x8x2x4x64, .f32⟩
  | 28 => ⟨S128x8x1x2x4, .f32⟩
  | 29 => ⟨S128x8x2x4, .f32⟩
  | 30 => ⟨S128x8x2x4x1, .f32⟩
  | 31 => ⟨S128x8x2x4x64, .f32⟩
  | 32 => ⟨S128x8x2x4x64, .f32⟩
  | 33 => ⟨S128x8x2x4x64, .f32⟩
  | 34 => ⟨S128x8x2x4x64, .f32⟩
  | 35 => ⟨S128x8x1x2x4, .f32⟩
  | 36 => ⟨S128x8x2x4, .f32⟩
  | 37 => ⟨S128x8x2x4x1, .f32⟩
  | 38 => ⟨S128x8x2x4x64, .f32⟩
  | 39 => ⟨S128x8x2x4x64, .f32⟩
  | 40 => ⟨S128x8x2x4x64, .f32⟩
  | 41 => ⟨S128x8x2x4x64, .f32⟩
  | 42 => ⟨S128x8x512, .f32⟩
  | 43 => ⟨S128x8x512, .f32⟩
  | 44 => ⟨S_, .f32⟩
  | 45 => ⟨S128x8, .f32⟩
  | 46 => ⟨S128x8x1, .f32⟩
  | 47 => ⟨S_, .f32⟩
  | 48 => ⟨S128x8x1, .f32⟩
  | 49 => ⟨S128x8x1, .f32⟩
  | 50 => ⟨S_, .f32⟩
  | 51 => ⟨S128x8x1, .f32⟩
  | 52 => ⟨S128x8x1, .f32⟩
  | 53 => ⟨S128x8x1, .f32⟩
  | 54 => ⟨S128x8x512, .f32⟩
  | 55 => ⟨S128x8x512, .f32⟩
  | 56 => ⟨S512, .f32⟩
  | 57 => ⟨S1x1x512, .f32⟩
  | 58 => ⟨S128x8x512, .f32⟩
  | 59 => ⟨S128x8x512, .f32⟩
  | 60 => ⟨S128x8x512, .f32⟩
  | 61 => ⟨S128x8x1024, .f32⟩
  | 62 => ⟨S1024x1024, .f32⟩
  | 63 => ⟨S128x8x1024, .f32⟩
  | 64 => ⟨S_, .f32⟩
  | 65 => ⟨S128x8, .f32⟩
  | 66 => ⟨S128x8x1, .f32⟩
  | 67 => ⟨S_, .f32⟩
  | 68 => ⟨S128x8x1, .f32⟩
  | 69 => ⟨S128x8x1, .f32⟩
  | 70 => ⟨S128x8x1024, .f32⟩
  | 71 => ⟨S128x8x1024, .f32⟩
  | 72 => ⟨S128x8x1024, .f32⟩
  | 73 => ⟨S_, .f32⟩
  | 74 => ⟨S128x8, .f32⟩
  | 75 => ⟨S128x8x1, .f32⟩
  | 76 => ⟨S_, .f32⟩
  | 77 => ⟨S128x8x1, .f32⟩
  | 78 => ⟨S128x8x1, .f32⟩
  | 79 => ⟨S128x8x1024, .f32⟩
  | 80 => ⟨S128x8x1024, .f32⟩
  | 81 => ⟨S_, .f32⟩
  | 82 => ⟨S128x8x1, .f32⟩
  | 83 => ⟨S128x8x1, .f32⟩
  | 84 => ⟨S128x8x1, .f32⟩
  | 85 => ⟨S128x8x1024, .f32⟩
  | 86 => ⟨S128x8x1024, .f32⟩
  | 87 => ⟨S1x1x1024, .f32⟩
  | 88 => ⟨S128x8x1024, .f32⟩
  | 89 => ⟨S128x8x1024, .f32⟩
  | 90 => ⟨S1x1x1024, .f32⟩
  | 91 => ⟨S128x8x1024, .f32⟩
  | 92 => ⟨S128x8x1024, .f32⟩
  | 93 => ⟨S_, .f32⟩
  | 94 => ⟨S128x8x1024, .f32⟩
  | 95 => ⟨S128x8x1024, .f32⟩
  | 96 => ⟨S128x8x1024, .f32⟩
  | 97 => ⟨S1024, .f32⟩
  | 98 => ⟨S1024, .f32⟩
  | 99 => ⟨S_, .f32⟩
  | 100 => ⟨S128x8, .f32⟩
  | 101 => ⟨S128x8x1, .f32⟩
  | 102 => ⟨S_, .f32⟩
  | 103 => ⟨S128x8x1, .f32⟩
  | 104 => ⟨S128x8x1, .f32⟩
  | 105 => ⟨S128x8x1024, .f32⟩
  | 106 => ⟨S128x8x1024, .f32⟩
  | 107 => ⟨S128x8x1024, .f32⟩
  | 108 => ⟨S_, .f32⟩
  | 109 => ⟨S128x8, .f32⟩
  | 110 => ⟨S128x8x1, .f32⟩
  | 111 => ⟨S_, .f32⟩
  | 112 => ⟨S128x8x1, .f32⟩
  | 113 => ⟨S128x8x1, .f32⟩
  | 114 => ⟨S128x8x1024, .f32⟩
  | 115 => ⟨S128x8x1024, .f32⟩
  | 116 => ⟨S_, .f32⟩
  | 117 => ⟨S128x8x1, .f32⟩
  | 118 => ⟨S128x8x1, .f32⟩
  | 119 => ⟨S128x8x1, .f32⟩
  | 120 => ⟨S128x8x1024, .f32⟩
  | 121 => ⟨S128x8x1024, .f32⟩
  | 122 => ⟨S1x1x1024, .f32⟩
  | 123 => ⟨S128x8x1024, .f32⟩
  | 124 => ⟨S128x8x1024, .f32⟩
  | 125 => ⟨S1x1x1024, .f32⟩
  | 126 => ⟨S128x8x1024, .f32⟩
  | 127 => ⟨S128x8x1024, .f32⟩
  | _ => ⟨S128x8x1024, .f32⟩

abbrev hbmTy0_1 (i : Nat) : BufTy := match i % 128 with
  | 0 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Win.lean ====
abbrev S128x8x2x4x64 : Shape := ⟨5, ![128, 8, 2, 4, 64]⟩
abbrev S128x8x2x2x64 : Shape := ⟨5, ![128, 8, 2, 2, 64]⟩
abbrev S1x128x512x2x2x64 : Shape := ⟨6, ![1, 128, 512, 2, 2, 64]⟩
abbrev S32x8 : Shape := ⟨2, ![32, 8]⟩
abbrev S8x128 : Shape := ⟨2, ![8, 128]⟩
abbrev S1024x32 : Shape := ⟨2, ![1024, 32]⟩
abbrev S8x512 : Shape := ⟨2, ![8, 512]⟩
abbrev S4096x32 : Shape := ⟨2, ![4096, 32]⟩
abbrev S1x8x128 : Shape := ⟨3, ![1, 8, 128]⟩
abbrev S1024x8 : Shape := ⟨2, ![1024, 8]⟩
abbrev S8x1024 : Shape := ⟨2, ![8, 1024]⟩
abbrev S8x8x128 : Shape := ⟨3, ![8, 8, 128]⟩
abbrev S_ : Shape := ⟨0, ![]⟩
abbrev S2x32x128 : Shape := ⟨3, ![2, 32, 128]⟩
abbrev S1x8x512 : Shape := ⟨3, ![1, 8, 512]⟩
abbrev S4096x8 : Shape := ⟨2, ![4096, 8]⟩
abbrev S8x4096 : Shape := ⟨2, ![8, 4096]⟩
abbrev S8x8x512 : Shape := ⟨3, ![8, 8, 512]⟩
abbrev S2x32x512 : Shape := ⟨3, ![2, 32, 512]⟩
abbrev S128x512x2x2x64 : Shape := ⟨5, ![128, 512, 2, 2, 64]⟩
abbrev S128x512x256 : Shape := ⟨3, ![128, 512, 256]⟩
abbrev S128x256x512 : Shape := ⟨3, ![128, 256, 512]⟩
abbrev S128x8x256 : Shape := ⟨3, ![128, 8, 256]⟩
abbrev S128x8x512 : Shape := ⟨3, ![128, 8, 512]⟩
abbrev S4x256x512 : Shape := ⟨3, ![4, 256, 512]⟩
abbrev S4x8x256 : Shape := ⟨3, ![4, 8, 256]⟩
abbrev S4x8x512 : Shape := ⟨3, ![4, 8, 512]⟩
abbrev S256x128 : Shape := ⟨2, ![256, 128]⟩
abbrev S1x256x512 : Shape := ⟨3, ![1, 256, 512]⟩
abbrev S256x512 : Shape := ⟨2, ![256, 512]⟩
abbrev S1x8x256 : Shape := ⟨3, ![1, 8, 256]⟩
abbrev S8x256 : Shape := ⟨2, ![8, 256]⟩
abbrev S120x256 : Shape := ⟨2, ![120, 256]⟩
abbrev S128x256 : Shape := ⟨2, ![128, 256]⟩
abbrev S256x384 : Shape := ⟨2, ![256, 384]⟩
abbrev S1x256x384 : Shape := ⟨3, ![1, 256, 384]⟩
abbrev S1x256x128 : Shape := ⟨3, ![1, 256, 128]⟩
abbrev S1x8x64 : Shape := ⟨3, ![1, 8, 64]⟩
abbrev S8x64 : Shape := ⟨2, ![8, 64]⟩
abbrev S32x64 : Shape := ⟨2, ![32, 64]⟩
abbrev S64x512 : Shape := ⟨2, ![64, 512]⟩
abbrev S32x512 : Shape := ⟨2, ![32, 512]⟩
abbrev S1x32x512 : Shape := ⟨3, ![1, 32, 512]⟩
abbrev S128x64 : Shape := ⟨2, ![128, 64]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩

abbrev nBuf : Space → Nat
  | .hbm => 38
  | .vmem => 12
  | .smem => 0
  | _ => 0

abbrev bufTy : (tb : Table) → Fin (tcTables nBuf tb) → BufTy
  | .hbm, ⟨0, _⟩ => ⟨S128x8x2x4x64, .f32⟩
  | .hbm, ⟨1, _⟩ => ⟨S128x8x2x2x64, .f32⟩
  | .hbm, ⟨2, _⟩ => ⟨S1x128x512x2x2x64, .f32⟩
  | .hbm, ⟨3, _⟩ => ⟨S32x8, .f32⟩
  | .hbm, ⟨4, _⟩ => ⟨S8x128, .i1⟩
  | .hbm, ⟨5, _⟩ => ⟨S1024x32, .f32⟩
  | .hbm, ⟨6, _⟩ => ⟨S8x512, .i1⟩
  | .hbm, ⟨7, _⟩ => ⟨S4096x32, .f32⟩
  | .hbm, ⟨8, _⟩ => ⟨S1x8x128, .i1⟩
  | .hbm, ⟨9, _⟩ => ⟨S1024x8, .f32⟩
  | .hbm, ⟨10, _⟩ => ⟨S8x1024, .f32⟩
  | .hbm, ⟨11, _⟩ => ⟨S8x8x128, .f32⟩
  | .hbm, ⟨12, _⟩ => ⟨S_, .f32⟩
  | .hbm, ⟨13, _⟩ => ⟨S_, .f32⟩
  | .hbm, ⟨14, _⟩ => ⟨S8x8x128, .i1⟩
  | .hbm, ⟨15, _⟩ => ⟨S8x8x128, .f32⟩
  | .hbm, ⟨16, _⟩ => ⟨S8x8x128, .f32⟩
  | .hbm, ⟨17, _⟩ => ⟨S2x32x128, .f32⟩
  | .hbm, ⟨18, _⟩ => ⟨S1x8x512, .i1⟩
  | .hbm, ⟨19, _⟩ => ⟨S4096x8, .f32⟩
  | .hbm, ⟨20, _⟩ => ⟨S8x4096, .f32⟩
  | .hbm, ⟨21, _⟩ => ⟨S8x8x512, .f32⟩
  | .hbm, ⟨22, _⟩ => ⟨S_, .f32⟩
  | .hbm, ⟨23, _⟩ => ⟨S_, .f32⟩
  | .hbm, ⟨24, _⟩ => ⟨S8x8x512, .i1⟩
  | .hbm, ⟨25, _⟩ => ⟨S8x8x512, .f32⟩
  | .hbm, ⟨26, _⟩ => ⟨S8x8x512, .f32⟩
  | .hbm, ⟨27, _⟩ => ⟨S2x32x512, .f32⟩
  | .hbm, ⟨28, _⟩ => ⟨S128x512x2x2x64, .f32⟩
  | .hbm, ⟨29, _⟩ => ⟨S128x512x256, .f32⟩
  | .hbm, ⟨30, _⟩ => ⟨S128x256x512, .f32⟩
  | .hbm, ⟨31, _⟩ => ⟨S128x8x256, .f32⟩
  | .hbm, ⟨32, _⟩ => ⟨S128x8x512, .f32⟩
  | .hbm, ⟨33, _⟩ => ⟨S_, .f32⟩
  | .hbm, ⟨34, _⟩ => ⟨S128x8x512, .f32⟩
  | .hbm, ⟨35, _⟩ => ⟨S128x8x512, .f32⟩
  | .hbm, ⟨36, _⟩ => ⟨S128x8x512, .f32⟩
  | .hbm, ⟨37, _⟩ => ⟨S128x256x512, .f32⟩
  | .local _ .vmem, ⟨0, _⟩ => ⟨S4x256x512, .f32⟩
  | .local _ .vmem, ⟨1, _⟩ => ⟨S4x256x512, .f32⟩
  | .local _ .vmem, ⟨2, _⟩ => ⟨S4x8x256, .f32⟩
  | .local _ .vmem, ⟨3, _⟩ => ⟨S4x8x256, .f32⟩
  | .local _ .vmem, ⟨4, _⟩ => ⟨S4x8x512, .f32⟩
  | .local _ .vmem, ⟨5, _⟩ => ⟨S4x8x512, .f32⟩
  | .local _ .vmem, ⟨6, _⟩ => ⟨S2x32x512, .f32⟩
  | .local _ .vmem, ⟨7, _⟩ => ⟨S2x32x128, .f32⟩
  | .local _ .vmem, ⟨8, _⟩ => ⟨S4x8x512, .f32⟩
  | .local _ .vmem, ⟨9, _⟩ => ⟨S4x8x512, .f32⟩
  | .local _ .vmem, ⟨10, _⟩ => ⟨S4x256x512, .f32⟩
  | .local _ .vmem, ⟨11, _⟩ => ⟨S4x256x512, .f32⟩
  | _, _ => ⟨S128x8x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_c_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WinRefIdeal.lean ====
abbrev S128x8x2x4x64 : Shape := ⟨5, ![128, 8, 2, 4, 64]⟩
abbrev S128x8x2x2x64 : Shape := ⟨5, ![128, 8, 2, 2, 64]⟩
abbrev S1x128x512x2x2x64 : Shape := ⟨6, ![1, 128, 512, 2, 2, 64]⟩
abbrev S32x8 : Shape := ⟨2, ![32, 8]⟩
abbrev S8x520 : Shape := ⟨2, ![8, 520]⟩
abbrev S8x520x1x1 : Shape := ⟨4, ![8, 520, 1, 1]⟩
abbrev S128x512x2x2x64 : Shape := ⟨5, ![128, 512, 2, 2, 64]⟩
abbrev S128x520x2x2x64 : Shape := ⟨5, ![128, 520, 2, 2, 64]⟩
abbrev S128x520x2x1x64 : Shape := ⟨5, ![128, 520, 2, 1, 64]⟩
abbrev S128x520x2x64 : Shape := ⟨4, ![128, 520, 2, 64]⟩
abbrev S128x2x520x8x4 : Shape := ⟨5, ![128, 2, 520, 8, 4]⟩
abbrev S128x8x520x2x4 : Shape := ⟨5, ![128, 8, 520, 2, 4]⟩
abbrev S_ : Shape := ⟨0, ![]⟩
abbrev S8x520x1 : Shape := ⟨3, ![8, 520, 1]⟩
abbrev S8x520x8 : Shape := ⟨3, ![8, 520, 8]⟩
abbrev S8x520x2x4 : Shape := ⟨4, ![8, 520, 2, 4]⟩
abbrev S1x8x520x2x4 : Shape := ⟨5, ![1, 8, 520, 2, 4]⟩
abbrev S128x8x2x4 : Shape := ⟨4, ![128, 8, 2, 4]⟩
abbrev S128x8x1x2x4 : Shape := ⟨5, ![128, 8, 1, 2, 4]⟩
abbrev S128x2x64x8x4 : Shape := ⟨5, ![128, 2, 64, 8, 4]⟩
abbrev S128x8x512 : Shape := ⟨3, ![128, 8, 512]⟩
abbrev S128x512x256 : Shape := ⟨3, ![128, 512, 256]⟩
abbrev S128x256x512 : Shape := ⟨3, ![128, 256, 512]⟩

abbrev nBuf : Space → Nat
  | .hbm => 61
  | .vmem => 0
  | .smem => 0
  | _ => 0

abbrev bufTy : (tb : Table) → Fin (tcTables nBuf tb) → BufTy
  | .hbm, ⟨0, _⟩ => ⟨S128x8x2x4x64, .f32⟩
  | .hbm, ⟨1, _⟩ => ⟨S128x8x2x2x64, .f32⟩
  | .hbm, ⟨2, _⟩ => ⟨S1x128x512x2x2x64, .f32⟩
  | .hbm, ⟨3, _⟩ => ⟨S32x8, .f32⟩
  | .hbm, ⟨4, _⟩ => ⟨S8x520, .i32⟩
  | .hbm, ⟨5, _⟩ => ⟨S8x520, .i1⟩
  | .hbm, ⟨6, _⟩ => ⟨S8x520, .i1⟩
  | .hbm, ⟨7, _⟩ => ⟨S8x520x1x1, .i1⟩
  | .hbm, ⟨8, _⟩ => ⟨S128x512x2x2x64, .f32⟩
  | .hbm, ⟨9, _⟩ => ⟨S128x520x2x2x64, .f32⟩
  | .hbm, ⟨10, _⟩ => ⟨S128x520x2x1x64, .f32⟩
  | .hbm, ⟨11, _⟩ => ⟨S128x520x2x64, .f32⟩
  | .hbm, ⟨12, _⟩ => ⟨S128x520x2x1x64, .f32⟩
  | .hbm, ⟨13, _⟩ => ⟨S128x520x2x64, .f32⟩
  | .hbm, ⟨14, _⟩ => ⟨S128x2x520x8x4, .f32⟩
  | .hbm, ⟨15, _⟩ => ⟨S128x8x520x2x4, .f32⟩
  | .hbm, ⟨16, _⟩ => ⟨S_, .f32⟩
  | .hbm, ⟨17, _⟩ => ⟨S128x8x520x2x4, .f32⟩
  | .hbm, ⟨18, _⟩ => ⟨S128x8x520x2x4, .f32⟩
  | .hbm, ⟨19, _⟩ => ⟨S_, .i32⟩
  | .hbm, ⟨20, _⟩ => ⟨S8x520, .i32⟩
  | .hbm, ⟨21, _⟩ => ⟨S8x520, .i32⟩
  | .hbm, ⟨22, _⟩ => ⟨S8x520, .i32⟩
  | .hbm, ⟨23, _⟩ => ⟨S8x520x1, .i32⟩
  | .hbm, ⟨24, _⟩ => ⟨S8x520x8, .f32⟩
  | .hbm, ⟨25, _⟩ => ⟨S8x520x2x4, .f32⟩
  | .hbm, ⟨26, _⟩ => ⟨S1x8x520x2x4, .f32⟩
  | .hbm, ⟨27, _⟩ => ⟨S128x8x520x2x4, .f32⟩
  | .hbm, ⟨28, _⟩ => ⟨S128x8x520x2x4, .f32⟩
  | .hbm, ⟨29, _⟩ => ⟨S_, .f32⟩
  | .hbm, ⟨30, _⟩ => ⟨S_, .f32⟩
  | .hbm, ⟨31, _⟩ => ⟨S128x8x520x2x4, .i1⟩
  | .hbm, ⟨32, _⟩ => ⟨S128x8x520x2x4, .f32⟩
  | .hbm, ⟨33, _⟩ => ⟨S128x8x520x2x4, .f32⟩
  | .hbm, ⟨34, _⟩ => ⟨S_, .f32⟩
  | .hbm, ⟨35, _⟩ => ⟨S128x8x2x4, .f32⟩
  | .hbm, ⟨36, _⟩ => ⟨S128x8x1x2x4, .f32⟩
  | .hbm, ⟨37, _⟩ => ⟨S_, .f32⟩
  | .hbm, ⟨38, _⟩ => ⟨S128x8x1x2x4, .f32⟩
  | .hbm, ⟨39, _⟩ => ⟨S128x8x1x2x4, .i1⟩
  | .hbm, ⟨40, _⟩ => ⟨S_, .f32⟩
  | .hbm, ⟨41, _⟩ => ⟨S_, .f32⟩
  | .hbm, ⟨42, _⟩ => ⟨S128x8x1x2x4, .f32⟩
  | .hbm, ⟨43, _⟩ => ⟨S128x8x1x2x4, .f32⟩
  | .hbm, ⟨44, _⟩ => ⟨S128x8x520x2x4, .f32⟩
  | .hbm, ⟨45, _⟩ => ⟨S128x8x520x2x4, .f32⟩
  | .hbm, ⟨46, _⟩ => ⟨S128x8x520x2x4, .f32⟩
  | .hbm, ⟨47, _⟩ => ⟨S_, .f32⟩
  | .hbm, ⟨48, _⟩ => ⟨S128x8x2x4, .f32⟩
  | .hbm, ⟨49, _⟩ => ⟨S128x8x1x2x4, .f32⟩
  | .hbm, ⟨50, _⟩ => ⟨S_, .f32⟩
  | .hbm, ⟨51, _⟩ => ⟨S128x8x1x2x4, .f32⟩
  | .hbm, ⟨52, _⟩ => ⟨S128x8x1x2x4, .f32⟩
  | .hbm, ⟨53, _⟩ => ⟨S128x8x520x2x4, .f32⟩
  | .hbm, ⟨54, _⟩ => ⟨S128x8x520x2x4, .f32⟩
  | .hbm, ⟨55, _⟩ => ⟨S128x2x64x8x4, .f32⟩
  | .hbm, ⟨56, _⟩ => ⟨S128x8x2x4x64, .f32⟩
  | .hbm, ⟨57, _⟩ => ⟨S128x512x2x2x64, .f32⟩
  | .hbm, ⟨58, _⟩ => ⟨S128x8x512, .f32⟩
  | .hbm, ⟨59, _⟩ => ⟨S128x512x256, .f32⟩
  | .hbm, ⟨60, _⟩ => ⟨S128x256x512, .f32⟩
  | _, _ => ⟨S128x8x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Rows.lean ====
module
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Rows

/-- A sum over the 4096 hidden units is the sum of its four slabs of 1024, in the kernel's order. -/
theorem sum_slabs (f : Fin 4096 → EReal) :
    ∑ k, f k = (∑ x : Fin 1024, f ⟨x.val, by omega⟩ + ∑ x : Fin 1024, f ⟨1024 + x.val, by omega⟩
      + ∑ x : Fin 1024, f ⟨2048 + x.val, by omega⟩) + ∑ x : Fin 1024, f ⟨3072 + x.val, by omega⟩ := by
  rw [Fin.sum_univ_tiles 4 1024 rfl f, Fin.sum_univ_four]
  have h0 : ∀ t : Fin 1024, ((0 : Fin 4) : ℕ) * 1024 + t.val = t.val := fun t => by simp
  have h1 : ∀ t : Fin 1024, ((1 : Fin 4) : ℕ) * 1024 + t.val = 1024 + t.val := fun t => by simp
  have h2 : ∀ t : Fin 1024, ((2 : Fin 4) : ℕ) * 1024 + t.val = 2048 + t.val := fun t => by simp
  have h3 : ∀ t : Fin 1024, ((3 : Fin 4) : ℕ) * 1024 + t.val = 3072 + t.val := fun t => by simp
  simp only [h0, h1, h2, h3]

/-- The row before normalisation: `ALPHA * h + relu(h U)^2 D`, all 4096 hidden units in one sum. -/
def mlpRow (h : Fin 1024 → EReal) (U : Fin 1024 → Fin 4096 → EReal) (D : Fin 4096 → Fin 1024 → EReal) (j : Fin 1024) : EReal :=
  Ideal.ofBits FTy.f32 0x3F9837F0#32 * h j
    + ∑ k, max (∑ x, h x * U x k) 0 * max (∑ x, h x * U x k) 0 * D k j

/-- The mean of a row of 1024. -/
def rowMean (p : Fin 1024 → EReal) : EReal := Ideal.div (∑ x, p x) (Ideal.ofBits FTy.f32 0x44800000#32)

/-- The layer norm of a row, at one column. -/
def lnRow (p g b : Fin 1024 → EReal) (j : Fin 1024) : EReal :=
  (p j - rowMean p) * Ideal.rsqrt (rowMean (fun x => (p x - rowMean p) * (p x - rowMean p)) + Ideal.ofBits FTy.f32 0x3727C5AC#32)
    * g j + b j

end Cert.Rows
-- ==== Proof.FfnPay.lean ====
module
public import proofs.«01_k».proof.Proof.Gen.FfnIdeal.Value
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen Cert.Rows

/-- The kernel's payload, at a row and a column of its block. -/
theorem pay_at (x0 : FVec Ideal S512x1024 .f32) (x1 : FVec Ideal S1024x4096 .bf16) (x2 : FVec Ideal S4096x1024 .bf16)
    (x3 x4 : FVec Ideal S1x1024 .f32) (r : Fin 512) (j : Fin 1024) :
    k0_pay1 (F := Ideal) (k0_pay2 x0) (k0_pay3 x0)
      (k0_pay4 x0 (View.ld (x1 : Vec Ideal S1024x4096 .bf16) r0_1) (View.ld (x2 : Vec Ideal S4096x1024 .bf16) r0_2) (View.ld (x1 : Vec Ideal S1024x4096 .bf16) r0_3)
        (View.ld (x2 : Vec Ideal S4096x1024 .bf16) r0_4) (View.ld (x1 : Vec Ideal S1024x4096 .bf16) r0_5) (View.ld (x2 : Vec Ideal S4096x1024 .bf16) r0_6))
      (View.ld (x1 : Vec Ideal S1024x4096 .bf16) r0_7) (View.ld (x2 : Vec Ideal S4096x1024 .bf16) r0_8) x3 x4 (ix2 r j)
    = lnRow (mlpRow (fun x => x0 (ix2 r x)) (fun x k => x1 (ix2 x k)) (fun k x => x2 (ix2 k x)))
        (fun x => x3 (ix2 0 x)) (fun x => x4 (ix2 0 x)) j := by
  pointwise [k0_pay1, k0_pay2, k0_pay3, k0_pay4]
  simp only [lnRow, rowMean, mlpRow, sum_slabs]

end Cert.FfnIdeal.Value
-- ==== Proof.FfnRef.lean ====
module
public import proofs.«01_k».proof.Proof.Gen.FfnRefIdeal.Run
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnRefIdeal.Value
open Cert.FfnRefIdeal Cert.FfnRefIdeal.Gen Cert.Rows

/-- The reference's rows before normalisation, as its own operations. -/
def preTerm (H : FVec Ideal S8x2048x1024 .f32) (U : FVec Ideal S1x1024x4096 .f32) (D : FVec Ideal S1x4096x1024 .f32) :
    FVec Ideal S8x2048x1024 .f32 :=
  let up : FVec Ideal S8x2048x4096 .f32 := maximumf (Host.dotGeneral dot_S8x2048x1024_S1024x4096_S8x2048x4096_2_0_01_1_n_n none H
    (shapeCast S1024x4096 U shapeCasts_S1x1024x4096_S1024x4096)) (broadcastInDim S8x2048x4096 ![] bcast_S_S8x2048x4096 (constant S_ .f32 0x00000000#32))
  addf (mulf (broadcastInDim S8x2048x1024 ![] bcast_S_S8x2048x1024 (constant S_ .f32 0x3F9837F0#32)) H)
    (Host.dotGeneral dot_S8x2048x4096_S4096x1024_S8x2048x1024_2_0_01_1_n_n none (mulf up up) (shapeCast S4096x1024 D shapeCasts_S1x4096x1024_S4096x1024))

/-- The reference's mean over the last axis, as its own operations. -/
def meanTerm (v : FVec Ideal S8x2048x1024 .f32) : FVec Ideal S8x2048x1 .f32 :=
  Host.divf (broadcastInDim S8x2048x1 ![0, 1] bcast_S8x2048_S8x2048x1_0_1 (Host.reduceAdd v (constant S_ .f32 0x00000000#32) reducesTo_S8x2048x1024_S8x2048_d2 h_S_))
    (broadcastInDim S8x2048x1 ![] bcast_S_S8x2048x1 (constant S_ .f32 0x44800000#32))

/-- The reference's layer norm and final reshape, as its own operations. -/
def lnTerm (v : FVec Ideal S8x2048x1024 .f32) (G B : FVec Ideal S1x1024 .f32) : FVec Ideal S16384x1024 .f32 :=
  let cen : FVec Ideal S8x2048x1024 .f32 := subf v (broadcastInDim S8x2048x1024 ![0, 1, 2] bcast_S8x2048x1_S8x2048x1024_0_1_2 (meanTerm v))
  shapeCast S16384x1024 (addf (mulf (mulf cen
      (broadcastInDim S8x2048x1024 ![0, 1, 2] bcast_S8x2048x1_S8x2048x1024_0_1_2 (Host.rsqrt (addf (meanTerm (mulf cen cen)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast S1024 G shapeCasts_S1x1024_S1024))))
      (broadcastInDim S8x2048x1024 ![0, 1, 2] bcast_S1x1x1024_S8x2048x1024_0_1_2 (broadcastInDim S1x1x1024 ![2] bcast_S1024_S1x1x1024_2 (shapeCast S1024 B shapeCasts_S1x1024_S1024))))
    shapeCasts_S8x2048x1024_S16384x1024

/-- The reference's result is these operations over its arguments. -/
theorem res_eq (m : (ℓ : Loc nD τ sig) → Buf (Elt Ideal) ℓ) (c : Dev nD) :
    res_main_v35 m c = lnTerm (preTerm (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

/-- The reference's rows before normalisation, at an index. -/
theorem preTerm_at (H : FVec Ideal S8x2048x1024 .f32) (U : FVec Ideal S1x1024x4096 .f32) (D : FVec Ideal S1x4096x1024 .f32)
    (b : Fin 8) (s : Fin 2048) (j : Fin 1024) : preTerm H U D (ix3 b s j)
      = mlpRow (fun x => H (ix3 b s x)) (fun x k => U (ix3 0 x k)) (fun k x => D (ix3 0 k x)) j := by
  pointwise [preTerm, mlpRow]

/-- The reference's layer norm, at an index. -/
theorem lnTerm_at (v : FVec Ideal S8x2048x1024 .f32) (G B : FVec Ideal S1x1024 .f32) (i : Fin 16384) (j : Fin 1024) :
    lnTerm v G B (ix2 i j) = lnRow (fun x => v (ix3 ⟨i.val / 2048, by omega⟩ ⟨i.val % 2048, by omega⟩ x))
      (fun x => G (ix2 0 x)) (fun x => B (ix2 0 x)) j := by
  pointwise [lnTerm, meanTerm, lnRow, rowMean]

end Cert.FfnRefIdeal.Value
-- ==== Proof.FfnValue.lean ====
module
public import proofs.«01_k».proof.Proof.FfnPay
public import proofs.«01_k».proof.Proof.FfnRef
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen Cert.Rows
variable (m : (ℓ : Loc nD τ sig) → Buf (Elt Ideal) ℓ)
  (m' : (ℓ : Loc Cert.FfnRefIdeal.nD Cert.FfnRefIdeal.τ Cert.FfnRefIdeal.sig) → Buf (Elt Ideal) ℓ)

/-- The windows' index maps at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reference's argument arrays are the kernel's. -/
abbrev SameArgs (c : Dev nD) : Prop :=
  m' ((c.tc : Thread Cert.FfnRefIdeal.nD Cert.FfnRefIdeal.τ).loc Cert.FfnRefIdeal.main_arg0) = m ((c.tc : Thread nD τ).loc main_arg0)
  ∧ m' ((c.tc : Thread Cert.FfnRefIdeal.nD Cert.FfnRefIdeal.τ).loc Cert.FfnRefIdeal.main_arg1) = m ((c.tc : Thread nD τ).loc main_arg1)
  ∧ m' ((c.tc : Thread Cert.FfnRefIdeal.nD Cert.FfnRefIdeal.τ).loc Cert.FfnRefIdeal.main_arg2) = m ((c.tc : Thread nD τ).loc main_arg2)
  ∧ m' ((c.tc : Thread Cert.FfnRefIdeal.nD Cert.FfnRefIdeal.τ).loc Cert.FfnRefIdeal.main_arg3) = m ((c.tc : Thread nD τ).loc main_arg3)
  ∧ m' ((c.tc : Thread Cert.FfnRefIdeal.nD Cert.FfnRefIdeal.τ).loc Cert.FfnRefIdeal.main_arg4) = m ((c.tc : Thread nD τ).loc main_arg4)

/-- The hidden rows' block, read at the reference's array. -/
theorem read0 (c : Dev nD) (t : Fin cfg0.N) (r : Fin 512) (x : Fin 1024) :
    (show FVec Ideal S512x1024 .f32 from iblk m c 0 t) (ix2 r x)
      = (show FVec Ideal S8x2048x1024 .f32 from m ((c.tc : Thread nD τ).loc main_arg0))
          (ix3 ⟨(t.val * 512 + r.val) / 2048, by idx_bounds; omega⟩ ⟨(t.val * 512 + r.val) % 2048, by omega⟩ x) := by
  blk_point [iblk, V, idx t]

/-- The up-projection's block is the whole weight. -/
theorem read1 (c : Dev nD) (t : Fin cfg0.N) (x : Fin 1024) (k : Fin 4096) :
    (show FVec Ideal S1024x4096 .bf16 from iblk m c 1 t) (ix2 x k)
      = (show FVec Ideal S1x1024x4096 .f32 from m ((c.tc : Thread nD τ).loc main_arg1)) (ix3 0 x k) := by
  blk_point [iblk, V, idx t]

/-- The down-projection's block is the whole weight. -/
theorem read2 (c : Dev nD) (t : Fin cfg0.N) (k : Fin 4096) (x : Fin 1024) :
    (show FVec Ideal S4096x1024 .bf16 from iblk m c 2 t) (ix2 k x)
      = (show FVec Ideal S1x4096x1024 .f32 from m ((c.tc : Thread nD τ).loc main_arg2)) (ix3 0 k x) := by
  blk_point [iblk, V, idx t]

/-- The scale's block is the whole vector. -/
theorem read3 (c : Dev nD) (t : Fin cfg0.N) (x : Fin 1024) :
    (show FVec Ideal S1x1024 .f32 from iblk m c 3 t) (ix2 0 x)
      = (show FVec Ideal S1x1024 .f32 from m ((c.tc : Thread nD τ).loc main_arg3)) (ix2 0 x) := by
  blk_point [iblk, V, idx t]

/-- The shift's block is the whole vector. -/
theorem read4 (c : Dev nD) (t : Fin cfg0.N) (x : Fin 1024) :
    (show FVec Ideal S1x1024 .f32 from iblk m c 4 t) (ix2 0 x)
      = (show FVec Ideal S1x1024 .f32 from m ((c.tc : Thread nD τ).loc main_arg4)) (ix2 0 x) := by
  blk_point [iblk, V, idx t]

/-- An entry of grid point `t`'s output block sits `512 t` rows down the result. -/
theorem emb5 (t : Fin cfg0.N) (r : Fin 512) (j : Fin 1024) :
    ((cfg0.win 5).blk t).view.emb (ix2 r j) = (ix2 ⟨t.val * 512 + r.val, by idx_bounds; omega⟩ j : S16384x1024.Idx) := by
  blk_ext [idx t]

/-- The kernel's result array is the reference's result. -/
theorem final (c : Dev nD) (h : SameArgs m m' c) :
    (dats m 0 c).arrAt 5 (cfgs 0).N = Cert.FfnRefIdeal.Value.res_main_v35 m' c := by
  refine (dats m 0 c).arrAt_eq_of_covers 5 _ (by decide +kernel) fun t _ y => ?_
  blk_simp
  rw [after0_5]; frame_out
  obtain ⟨h0, h1, h2, h3, h4⟩ := h
  obtain ⟨r, j, rfl⟩ : ∃ (r : Fin 512) (j : Fin 1024), y = ix2 r j := ⟨y 0, y 1, by blk_ext []⟩
  refine (pay_at (iblk m c 0 t) (iblk m c 1 t) (iblk m c 2 t) (iblk m c 3 t) (iblk m c 4 t) r j).trans ?_
  rw [Cert.FfnRefIdeal.Value.res_eq, h0, h1, h2, h3, h4]
  refine Eq.trans ?_ (congrArg _ (emb5 t r j)).symm
  refine Eq.trans ?_ (Cert.FfnRefIdeal.Value.lnTerm_at _ _ _ _ j).symm
  congr 1
  · funext x
    refine Eq.trans ?_ (Cert.FfnRefIdeal.Value.preTerm_at _ _ _ _ _ x).symm
    congr 1
    · funext x; exact read0 m c t r x
    · funext x k; exact read1 m c t x k
    · funext k x; exact read2 m c t k x
  · funext x; exact read3 m c t x
  · funext x; exact read4 m c t x

end Cert.FfnIdeal.Value
-- ==== Proof.ProjPay.lean ====
module
public import proofs.«01_k».proof.Proof.Gen.ProjIdeal.Frame
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows

variable (x0 : FVec Ideal S512x1024 .f32) (x1 x2 : FVec Ideal S1x1024 .f32) (x3 : FVec Ideal S1024x2944 .bf16)

/-- A row of the block, normalised and multiplied into one column of the prepared weight. -/
def rowDot (r : Fin 512) (e : Fin 2944) : EReal :=
  ∑ x, lnRow (fun x => x0 (ix2 r x)) (fun x => x1 (ix2 0 x)) (fun x => x2 (ix2 0 x)) x * x3 (ix2 x e)

/-- The normalised rows of the block. -/
theorem ln_at (r : Fin 512) (j : Fin 1024) : k0_pay3 (F := Ideal) x0 x1 x2 (ix2 r j)
    = lnRow (fun x => x0 (ix2 r x)) (fun x => x1 (ix2 0 x)) (fun x => x2 (ix2 0 x)) j := by
  pointwise [k0_pay3, lnRow, rowMean]

/-- The payload stored for `z`, at an index of its block. -/
theorem z_at (r : Fin 512) (j : Fin 512) : k0_pay4 (F := Ideal) x0 x1 x2 (View.ld (x3 : Vec Ideal S1024x2944 .bf16) r0_2) (ix2 r j) = rowDot x0 x1 x2 x3 r ⟨j.val, by omega⟩ := by
  pointwise [k0_pay4, rowDot, ln_at]

/-- The payload stored for `xbc`, at an index of its block. -/
theorem xbc_at (r : Fin 512) (j : Fin 1024) : k0_pay5 (F := Ideal) x0 x1 x2 (View.ld (x3 : Vec Ideal S1024x2944 .bf16) r0_4) (ix2 r j) = rowDot x0 x1 x2 x3 r ⟨512 + j.val, by omega⟩ := by
  pointwise [k0_pay5, rowDot, ln_at]

/-- The payload stored for `q`, at an index of its block. -/
theorem q_at (r : Fin 512) (j : Fin 512) : k0_pay6 (F := Ideal) (k0_pay3 x0 x1 x2) (View.ld (x3 : Vec Ideal S1024x2944 .bf16) r0_5) (ix2 r j) = rowDot x0 x1 x2 x3 r ⟨1536 + j.val, by omega⟩ := by
  pointwise [k0_pay6, rowDot, ln_at]

/-- The payload stored for `kvh0`, at an index of its block. -/
theorem kvh0_at (r : Fin 512) (j : Fin 128) : k0_pay8 (F := Ideal) (k0_pay3 x0 x1 x2) (View.ld (x3 : Vec Ideal S1024x2944 .bf16) r0_6) (ix3 0 r j) = rowDot x0 x1 x2 x3 r ⟨2048 + j.val, by omega⟩ := by
  pointwise [k0_pay8, k0_pay7, rowDot, ln_at]

/-- The payload stored for `kvh1`, at an index of its block. -/
theorem kvh1_at (r : Fin 512) (j : Fin 128) : k0_pay9 (F := Ideal) (k0_pay3 x0 x1 x2) (View.ld (x3 : Vec Ideal S1024x2944 .bf16) r0_6) (ix3 0 r j) = rowDot x0 x1 x2 x3 r ⟨2048 + (128 + j.val), by omega⟩ := by
  pointwise [k0_pay9, k0_pay7, rowDot, ln_at]

/-- The payload stored for `kvc`, at an index of its block. -/
theorem kvc_at (r : Fin 512) (j : Fin 256) : k0_pay10 (F := Ideal) (k0_pay3 x0 x1 x2) (View.ld (x3 : Vec Ideal S1024x2944 .bf16) r0_6) (ix3 0 j r) = rowDot x0 x1 x2 x3 r ⟨2048 + j.val, by omega⟩ := by
  pointwise [k0_pay10, k0_pay7, rowDot, ln_at]

/-- The payload stored for `kvs`, at an index of its block. -/
theorem kvs_at (r : Fin 512) (j : Fin 256) : k0_pay11 (F := Ideal) (k0_pay3 x0 x1 x2) (View.ld (x3 : Vec Ideal S1024x2944 .bf16) r0_10) (ix3 0 j r) = rowDot x0 x1 x2 x3 r ⟨2304 + j.val, by omega⟩ := by
  pointwise [k0_pay11, rowDot, ln_at]

/-- The payload stored for `kvw`, at an index of its block. -/
theorem kvw_at (r : Fin 512) (j : Fin 256) : k0_pay1 (F := Ideal) (k0_pay12 (k0_pay3 x0 x1 x2) (View.ld (x3 : Vec Ideal S1024x2944 .bf16) r0_11)) (ix3 0 j r) = rowDot x0 x1 x2 x3 r ⟨2560 + j.val, by omega⟩ := by
  pointwise [k0_pay1, k0_pay12, rowDot, ln_at]

/-- The payload stored for `small`, at an index of its block. -/
theorem small_at (r : Fin 512) (j : Fin 128) : k0_pay2 (F := Ideal) (k0_pay3 x0 x1 x2) (View.ld (x3 : Vec Ideal S1024x2944 .bf16) r0_12) (ix2 r j) = rowDot x0 x1 x2 x3 r ⟨2816 + j.val, by omega⟩ := by
  pointwise [k0_pay2, rowDot, ln_at]

end Cert.ProjIdeal.Value
-- ==== Proof.ProjRef.lean ====
module
public import proofs.«01_k».proof.Proof.Gen.ProjRefIdeal.Run
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjRefIdeal.Value
open Cert.ProjRefIdeal Cert.ProjRefIdeal.Gen Cert.Rows

/-- The reference's mean over the last axis, as its own operations. -/
def meanTerm (v : FVec Ideal S8x2048x1024 .f32) : FVec Ideal S8x2048x1 .f32 :=
  Host.divf (broadcastInDim S8x2048x1 ![0, 1] bcast_S8x2048_S8x2048x1_0_1 (Host.reduceAdd v (constant S_ .f32 0x00000000#32) reducesTo_S8x2048x1024_S8x2048_d2 h_S_))
    (broadcastInDim S8x2048x1 ![] bcast_S_S8x2048x1 (constant S_ .f32 0x44800000#32))

/-- The reference's projection of the normalised rows, before it is split, as its own operations. -/
def projTerm (v : FVec Ideal S8x2048x1024 .f32) (G B : FVec Ideal S1024 .f32) (W : FVec Ideal S1x1024x2848 .f32) : FVec Ideal S8x2048x2848 .f32 :=
  let cen : FVec Ideal S8x2048x1024 .f32 := subf v (broadcastInDim S8x2048x1024 ![0, 1, 2] bcast_S8x2048x1_S8x2048x1024_0_1_2 (meanTerm v))
  Host.dotGeneral dot_S8x2048x1024_S1024x2848_S8x2048x2848_2_0_01_1_n_n none
    (addf (mulf (mulf cen
      (broadcastInDim S8x2048x1024 ![0, 1, 2] bcast_S8x2048x1_S8x2048x1024_0_1_2 (Host.rsqrt (addf (meanTerm (mulf cen cen)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 G)))
      (broadcastInDim S8x2048x1024 ![0, 1, 2] bcast_S1x1x1024_S8x2048x1024_0_1_2 (broadcastInDim S1x1x1024 ![2] bcast_S1024_S1x1x1024_2 B)))
    (shapeCast S1024x2848 W shapeCasts_S1x1024x2848_S1024x2848)

/-- The reference's projection, at an index. -/
theorem projTerm_at (v : FVec Ideal S8x2048x1024 .f32) (G B : FVec Ideal S1024 .f32) (W : FVec Ideal S1x1024x2848 .f32) (b : Fin 8) (s : Fin 2048) (e : Fin 2848) :
    projTerm v G B W (ix3 b s e) = ∑ x, lnRow (fun x => v (ix3 b s x)) (fun x => G (ix1 x)) (fun x => B (ix1 x)) x * W (ix3 0 x e) := by
  pointwise [projTerm, meanTerm, lnRow, rowMean]

/-- `z`, the gate of the state-space branch: columns 0 to 511. -/
abbrev zTerm (u : FVec Ideal S8x2048x2848 .f32) : FVec Ideal S16384x512 .f32 :=
  shapeCast _ (extractStridedSlice S8x2048x512 ![0, 0, 0] u slices_S8x2048x2848_S8x2048x512_0_0_0) shapeCasts_S8x2048x512_S16384x512
/-- `xbc`, the input of the convolution: columns 512 to 1535. -/
abbrev xbcTerm (u : FVec Ideal S8x2048x2848 .f32) : FVec Ideal S16384x1024 .f32 :=
  shapeCast _ (extractStridedSlice S8x2048x1024 ![0, 0, 512] u slices_S8x2048x2848_S8x2048x1024_0_0_512) shapeCasts_S8x2048x1024_S16384x1024
/-- `q`, the scaled queries: columns 1544 to 2055. -/
abbrev qTerm (u : FVec Ideal S8x2048x2848 .f32) : FVec Ideal S16384x512 .bf16 :=
  truncf .bf16 (mulf (shapeCast S16384x512 (extractStridedSlice S8x2048x512 ![0, 0, 1544] u slices_S8x2048x2848_S8x2048x512_0_0_1544) shapeCasts_S8x2048x512_S16384x512)
    (broadcastInDim S16384x512 ![] bcast_S_S16384x512 (constant S_ .f32 0x3E000000#32))) bitsLt_bf16_f32
/-- The compressed branch's keys and values, a head at a time: columns 2056 to 2311. -/
abbrev kvhTerm (u : FVec Ideal S8x2048x2848 .f32) : FVec Ideal S2x16384x128 .f32 :=
  transpose S2x16384x128 [1, 0, 2] (shapeCast S16384x2x128 (extractStridedSlice S8x2048x256 ![0, 0, 2056] u slices_S8x2048x2848_S8x2048x256_0_0_2056) shapeCasts_S8x2048x256_S16384x2x128) transposes_S16384x2x128_S2x16384x128_1_0_2
/-- The compressed branch's keys and values, feature major: columns 2056 to 2311. -/
abbrev kvcTerm (u : FVec Ideal S8x2048x2848 .f32) : FVec Ideal S8x256x2048 .f32 :=
  transpose S8x256x2048 [0, 2, 1] (extractStridedSlice S8x2048x256 ![0, 0, 2056] u slices_S8x2048x2848_S8x2048x256_0_0_2056) transposes_S8x2048x256_S8x256x2048_0_2_1
/-- The selected branch's keys and values, feature major: columns 2312 to 2567. -/
abbrev kvsTerm (u : FVec Ideal S8x2048x2848 .f32) : FVec Ideal S8x256x2048 .f32 :=
  transpose S8x256x2048 [0, 2, 1] (extractStridedSlice S8x2048x256 ![0, 0, 2312] u slices_S8x2048x2848_S8x2048x256_0_0_2312) transposes_S8x2048x256_S8x256x2048_0_2_1
/-- The window branch's keys and values, feature major: columns 2568 to 2823. -/
abbrev kvwTerm (u : FVec Ideal S8x2048x2848 .f32) : FVec Ideal S8x256x2048 .f32 :=
  transpose S8x256x2048 [0, 2, 1] (extractStridedSlice S8x2048x256 ![0, 0, 2568] u slices_S8x2048x2848_S8x2048x256_0_0_2568) transposes_S8x2048x256_S8x256x2048_0_2_1
/-- The time steps and gates, padded to 128 columns with zeros: columns 1536 to 1543 and 2824 to 2847. -/
abbrev smallTerm (u : FVec Ideal S8x2048x2848 .f32) : FVec Ideal S16384x128 .f32 :=
  shapeCast _ (pad S8x2048x128 ![0, 0, 0] ![0, 0, 96] ![0, 0, 0] (concatenate S8x2048x32 2 [⟨S8x2048x8, (extractStridedSlice S8x2048x8 ![0, 0, 1536] u slices_S8x2048x2848_S8x2048x8_0_0_1536)⟩, ⟨S8x2048x24, (extractStridedSlice S8x2048x24 ![0, 0, 2824] u slices_S8x2048x2848_S8x2048x24_0_0_2824)⟩] concatenates_S8x2048x8_S8x2048x24_S8x2048x32_d2) (sitofp .f32 (constantI S_ 32 0#32)) pads_S8x2048x32_S8x2048x128_000_000_0960 h_S_) shapeCasts_S8x2048x128_S16384x128

end Cert.ProjRefIdeal.Value
-- ==== Proof.ProjHost.lean ====
module
public import proofs.«01_k».proof.Proof.ProjPay
public import proofs.«01_k».proof.Proof.ProjRef
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows Idealize.ShloMosaic.StableHlo

variable (m : (ℓ : Loc nD τ sig) → Buf (Elt Ideal) ℓ)

/-- The kernel's rows, at their literal type. -/
abbrev xArg (c : Dev nD) : FVec Ideal S8x2048x1024 .f32 := m ((c.tc : Thread nD τ).loc main_arg0)
/-- The layer norm's scale, at its literal type. -/
abbrev gArg (c : Dev nD) : FVec Ideal S1024 .f32 := m ((c.tc : Thread nD τ).loc main_arg1)
/-- The layer norm's shift, at its literal type. -/
abbrev bArg (c : Dev nD) : FVec Ideal S1024 .f32 := m ((c.tc : Thread nD τ).loc main_arg2)
/-- The projection's weight, at its literal type. -/
abbrev wArg (c : Dev nD) : FVec Ideal S1x1024x2848 .f32 := m ((c.tc : Thread nD τ).loc main_arg3)

/-- The windows' index maps at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val, 0] ∧ win0_8.index t = ![t.val / 4, 0, t.val % 4] ∧ win0_9.index t = ![t.val / 4, 0, t.val % 4]
    ∧ win0_10.index t = ![t.val / 4, 0, t.val % 4] ∧ win0_11.index t = ![t.val, 0] :=
  (by decide +kernel : ∀ t : Fin grid0.N, _)

/-- The prepared weight as the host's operations over the raw one: columns regrouped, the queries' scaled, the last
    group padded with zeros. -/
def prepW (W : FVec Ideal S1x1024x2848 .f32) : FVec Ideal S1024x2944 .bf16 :=
  let w : FVec Ideal S1024x2848 .f32 := shapeCast S1024x2848 W shapeCasts_S1x1024x2848_S1024x2848
  truncf .bf16 (concatenate S1024x2944 1
    [⟨S1024x512, extractStridedSlice S1024x512 ![0, 0] w slices_S1024x2848_S1024x512_0_0⟩,
     ⟨S1024x1024, extractStridedSlice S1024x1024 ![0, 512] w slices_S1024x2848_S1024x1024_0_512⟩,
     ⟨S1024x512, mulf (extractStridedSlice S1024x512 ![0, 1544] w slices_S1024x2848_S1024x512_0_1544)
        (broadcastInDim S1024x512 ![] bcast_S_S1024x512 (constant S_ .f32 0x3E000000#32))⟩,
     ⟨S1024x256, extractStridedSlice S1024x256 ![0, 2056] w slices_S1024x2848_S1024x256_0_2056⟩,
     ⟨S1024x256, extractStridedSlice S1024x256 ![0, 2312] w slices_S1024x2848_S1024x256_0_2312⟩,
     ⟨S1024x256, extractStridedSlice S1024x256 ![0, 2568] w slices_S1024x2848_S1024x256_0_2568⟩,
     ⟨S1024x128, pad S1024x128 ![0, 0] ![0, 96] ![0, 0]
        (concatenate S1024x32 1 [⟨S1024x8, extractStridedSlice S1024x8 ![0, 1536] w slices_S1024x2848_S1024x8_0_1536⟩,
          ⟨S1024x24, extractStridedSlice S1024x24 ![0, 2824] w slices_S1024x2848_S1024x24_0_2824⟩] concatenates_S1024x8_S1024x24_S1024x32_d1)
        (sitofp .f32 (constantI S_ 32 0#32)) pads_S1024x32_S1024x128_000_0960 h_S_⟩]
    concatenates_S1024x512_S1024x1024_S1024x512_S1024x256_S1024x256_S1024x256_S1024x128_S1024x2944_d1) bitsLt_bf16_f32

/-- Host: the rows, batch and position flattened. -/
theorem v0_eq (c : Dev nD) : V m c main_v0 = shapeCast S16384x1024 (xArg m c) shapeCasts_S8x2048x1024_S16384x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the scale as one row. -/
theorem v1_eq (c : Dev nD) : V m c main_v1 = shapeCast S1x1024 (gArg m c) shapeCasts_S1024_S1x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the shift as one row. -/
theorem v2_eq (c : Dev nD) : V m c main_v2 = shapeCast S1x1024 (bArg m c) shapeCasts_S1024_S1x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the prepared weight. -/
theorem v17_eq (c : Dev nD) : V m c main_v17 = prepW (wArg m c) := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- The rows' block, read at the argument. -/
theorem read0 (c : Dev nD) (t : Fin cfg0.N) (r : Fin 512) (x : Fin 1024) :
    (show FVec Ideal S512x1024 .f32 from iblk m c 0 t) (ix2 r x)
      = xArg m c (ix3 ⟨(t.val * 512 + r.val) / 2048, by idx_bounds; omega⟩ ⟨(t.val * 512 + r.val) % 2048, by omega⟩ x) := by
  blk_simp [iblk]
  rw [v0_eq]
  pointwise
  blk_ext [idx t]

/-- The scale's block is the whole vector. -/
theorem read1 (c : Dev nD) (t : Fin cfg0.N) (x : Fin 1024) :
    (show FVec Ideal S1x1024 .f32 from iblk m c 1 t) (ix2 0 x) = gArg m c (ix1 x) := by
  blk_simp [iblk]
  rw [v1_eq]
  pointwise
  blk_ext [idx t]

/-- The shift's block is the whole vector. -/
theorem read2 (c : Dev nD) (t : Fin cfg0.N) (x : Fin 1024) :
    (show FVec Ideal S1x1024 .f32 from iblk m c 2 t) (ix2 0 x) = bArg m c (ix1 x) := by
  blk_simp [iblk]
  rw [v2_eq]
  pointwise
  blk_ext [idx t]

/-- The weight's block is the whole prepared weight. -/
theorem read3 (c : Dev nD) (t : Fin cfg0.N) (x : Fin 1024) (e : Fin 2944) :
    (show FVec Ideal S1024x2944 .bf16 from iblk m c 3 t) (ix2 x e) = prepW (wArg m c) (ix2 x e) := by
  blk_simp [iblk]
  rw [v17_eq]
  blk_ext [idx t]

variable (W : FVec Ideal S1x1024x2848 .f32)

/-- The prepared columns that become `z`. -/
theorem prepW_z (x : Fin 1024) (j : Fin 512) : prepW W (ix2 x ⟨j.val, by omega⟩) = W (ix3 0 x ⟨j.val, by omega⟩) := by
  pointwise [prepW]

/-- The prepared columns that become `xbc`. -/
theorem prepW_xbc (x : Fin 1024) (j : Fin 1024) : prepW W (ix2 x ⟨512 + j.val, by omega⟩) = W (ix3 0 x ⟨512 + j.val, by omega⟩) := by
  pointwise [prepW]

/-- The prepared columns that become `q`, scaled. -/
theorem prepW_q (x : Fin 1024) (j : Fin 512) : prepW W (ix2 x ⟨1536 + j.val, by omega⟩)
    = W (ix3 0 x ⟨1544 + j.val, by omega⟩) * Ideal.ofBits FTy.f32 0x3E000000#32 := by
  pointwise [prepW]
  rw [dif_neg (by omega), dif_neg (by omega), dif_pos (by omega)]
  first | blk_ext [] | (congr 1; blk_ext [])

/-- The prepared columns of the compressed branch's keys and values. -/
theorem prepW_kvc (x : Fin 1024) (j : Fin 256) : prepW W (ix2 x ⟨2048 + j.val, by omega⟩) = W (ix3 0 x ⟨2056 + j.val, by omega⟩) := by
  pointwise [prepW]
  rw [dif_neg (by omega), dif_neg (by omega), dif_neg (by omega), dif_pos (by omega)]
  first | blk_ext [] | (congr 1; blk_ext [])

/-- The prepared columns of the selected branch's keys and values. -/
theorem prepW_kvs (x : Fin 1024) (j : Fin 256) : prepW W (ix2 x ⟨2304 + j.val, by omega⟩) = W (ix3 0 x ⟨2312 + j.val, by omega⟩) := by
  pointwise [prepW]
  rw [dif_neg (by omega), dif_neg (by omega), dif_neg (by omega), dif_neg (by omega), dif_pos (by omega)]
  first | blk_ext [] | (congr 1; blk_ext [])

/-- The prepared columns of the window branch's keys and values. -/
theorem prepW_kvw (x : Fin 1024) (j : Fin 256) : prepW W (ix2 x ⟨2560 + j.val, by omega⟩) = W (ix3 0 x ⟨2568 + j.val, by omega⟩) := by
  pointwise [prepW]
  rw [dif_neg (by omega), dif_neg (by omega), dif_neg (by omega), dif_neg (by omega), dif_neg (by omega), dif_pos (by omega)]
  first | blk_ext [] | (congr 1; blk_ext [])

end Cert.ProjIdeal.Value
-- ==== Proof.ProjSmall.lean ====
module
public import proofs.«01_k».proof.Proof.ProjHost
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows

variable (W : FVec Ideal S1x1024x2848 .f32)

/-- The prepared columns of the time steps. -/
theorem prepW_dt (x : Fin 1024) (j : Fin 8) : prepW W (ix2 x ⟨2816 + j.val, by omega⟩) = W (ix3 0 x ⟨1536 + j.val, by omega⟩) := by
  pointwise [prepW]
  rw [dif_neg (by omega), dif_neg (by omega), dif_neg (by omega), dif_neg (by omega), dif_neg (by omega), dif_neg (by omega), dif_pos (by omega), dif_pos (by omega)]
  blk_ext []

/-- The prepared columns of the gates. -/
theorem prepW_gate (x : Fin 1024) (j : Fin 24) : prepW W (ix2 x ⟨2824 + j.val, by omega⟩) = W (ix3 0 x ⟨2824 + j.val, by omega⟩) := by
  pointwise [prepW]
  rw [dif_neg (by omega), dif_neg (by omega), dif_neg (by omega), dif_neg (by omega), dif_neg (by omega), dif_neg (by omega), dif_pos (by omega), dif_neg (by omega)]
  blk_ext []

/-- The prepared columns of the padding. -/
theorem prepW_pad (x : Fin 1024) (j : Fin 96) : prepW W (ix2 x ⟨2848 + j.val, by omega⟩) = 0 := by
  pointwise [prepW]
  rw [dif_neg (by omega), dif_neg (by omega), dif_neg (by omega), dif_neg (by omega), dif_neg (by omega), dif_neg (by omega), dif_neg (by omega)]
  simp [FloatOps.sitofp]

end Cert.ProjIdeal.Value
-- ==== Proof.ProjRows.lean ====
module
public import proofs.«01_k».proof.Proof.ProjSmall
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows Cert.ProjRefIdeal.Value

variable (m : (ℓ : Loc nD τ sig) → Buf (Elt Ideal) ℓ)

/-- The reference's projection of the kernel's arguments, before it is split. -/
abbrev uArg (c : Dev nD) : FVec Ideal Cert.ProjRefIdeal.S8x2048x2848 .f32 := projTerm (xArg m c) (gArg m c) (bArg m c) (wArg m c)

/-- Row `r` of grid point `t`'s block, normalised, is the row it came from, normalised. -/
abbrev lnArg (c : Dev nD) (i : Fin 16384) : Fin 1024 → EReal :=
  lnRow (fun x => xArg m c (ix3 ⟨i.val / 2048, by omega⟩ ⟨i.val % 2048, by omega⟩ x)) (fun x => gArg m c (ix1 x)) (fun x => bArg m c (ix1 x))

/-- A block's row times a prepared column. -/
theorem rowDot_eq (c : Dev nD) (t : Fin cfg0.N) (r : Fin 512) (e : Fin 2944) :
    rowDot (iblk m c 0 t) (iblk m c 1 t) (iblk m c 2 t) (iblk m c 3 t) r e
      = ∑ x, lnArg m c ⟨t.val * 512 + r.val, by idx_bounds; omega⟩ x * prepW (wArg m c) (ix2 x e) := by
  unfold rowDot lnArg
  refine Finset.sum_congr rfl fun x _ => ?_
  congr 1
  · congr 1
    · funext x; exact read0 m c t r x
    · funext x; exact read1 m c t x
    · funext x; exact read2 m c t x
  · exact read3 m c t x e

/-- A block's row times a prepared column that is a raw one is the reference's projection. -/
theorem rowDot_raw (c : Dev nD) (t : Fin cfg0.N) (r : Fin 512) (e : Fin 2944) (e' : Fin 2848)
    (h : ∀ x, prepW (wArg m c) (ix2 x e) = wArg m c (ix3 0 x e')) :
    rowDot (iblk m c 0 t) (iblk m c 1 t) (iblk m c 2 t) (iblk m c 3 t) r e
      = uArg m c (ix3 ⟨(t.val * 512 + r.val) / 2048, by idx_bounds; omega⟩ ⟨(t.val * 512 + r.val) % 2048, by omega⟩ e') := by
  refine (rowDot_eq m c t r e).trans (Eq.trans ?_ (projTerm_at _ _ _ _ _ _ _).symm)
  exact Finset.sum_congr rfl fun x _ => by rw [h x]

/-- One eighth, as the constant that scales the queries. -/
theorem eighth : Ideal.ofBits FTy.f32 0x3E000000#32 = ((1 / 8 : ℝ) : EReal) := by
  simp [Ideal.ofBits, Ideal.ieee, -EReal.coe_mul]; norm_num

/-- A nonnegative real constant moves out of a finite sum of extended reals. -/
theorem sum_mul_real {n : ℕ} (f : Fin n → EReal) (k : ℝ) (hk : 0 ≤ k) : ∑ x, f x * (k : EReal) = (∑ x, f x) * (k : EReal) := by
  have h0 : (0 : EReal) ≤ (k : EReal) := by exact_mod_cast hk
  induction n with
  | zero => simp
  | succ n ih =>
    rw [Fin.sum_univ_succ, Fin.sum_univ_succ, ih]
    exact (EReal.right_distrib_of_nonneg_of_ne_top h0 (EReal.coe_ne_top k) _ _).symm

/-- A block's row times a scaled column is the reference's projection, scaled. -/
theorem rowDot_q (c : Dev nD) (t : Fin cfg0.N) (r : Fin 512) (j : Fin 512) :
    rowDot (iblk m c 0 t) (iblk m c 1 t) (iblk m c 2 t) (iblk m c 3 t) r ⟨1536 + j.val, by omega⟩
      = uArg m c (ix3 ⟨(t.val * 512 + r.val) / 2048, by idx_bounds; omega⟩ ⟨(t.val * 512 + r.val) % 2048, by omega⟩ ⟨1544 + j.val, by omega⟩)
        * Ideal.ofBits FTy.f32 0x3E000000#32 := by
  refine (rowDot_eq m c t r _).trans (Eq.trans ?_ (congrArg (· * _) (projTerm_at _ _ _ _ _ _ _).symm))
  rw [eighth, ← sum_mul_real _ _ (by norm_num)]
  refine Finset.sum_congr rfl fun x _ => ?_
  rw [prepW_q, eighth, mul_assoc]

/-- A block's row times a padding column is zero. -/
theorem rowDot_pad (c : Dev nD) (t : Fin cfg0.N) (r : Fin 512) (j : Fin 96) :
    rowDot (iblk m c 0 t) (iblk m c 1 t) (iblk m c 2 t) (iblk m c 3 t) r ⟨2848 + j.val, by omega⟩ = 0 := by
  refine (rowDot_eq m c t r _).trans (Finset.sum_eq_zero fun x _ => ?_)
  rw [prepW_pad, mul_zero]

end Cert.ProjIdeal.Value
-- ==== Proof.ProjFinal.lean ====
module
public import proofs.«01_k».proof.Proof.ProjRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows Cert.ProjRefIdeal.Value

variable (m : (ℓ : Loc nD τ sig) → Buf (Elt Ideal) ℓ)

/-- The normalised rows, read through whole-block loads. -/
theorem pay13_eq (x0 : FVec Ideal S512x1024 .f32) (x1 x2 : FVec Ideal S1x1024 .f32) (x3 : FVec Ideal S1024x2944 .bf16) :
    k0_pay13 (F := Ideal) x0 x1 x2 x3 = k0_pay3 x0 x1 x2 := by
  unfold k0_pay13
  frame_out

/-- Where an entry of grid point `t`'s block of `z` sits in the array. -/
theorem emb4 (t : Fin cfg0.N) (r : Fin 512) (j : Fin 512) :
    ((cfg0.win 4).blk t).view.emb (ix2 r j) = (ix2 ⟨t.val * 512 + r.val, by idx_bounds; omega⟩ j : S16384x512.Idx) := by
  blk_ext [idx t]

/-- The kernel's `z` is the reference's. -/
theorem final_z (c : Dev nD) : (dats m 0 c).arrAt 4 (cfgs 0).N = zTerm (uArg m c) := by
  refine (dats m 0 c).arrAt_eq_of_covers 4 _ (by decide +kernel) fun t _ y => ?_
  blk_simp
  rw [after0_4]; frame_out
  obtain ⟨r, j, rfl⟩ : ∃ (r : Fin 512) (j : Fin 512), y = ix2 r j := ⟨y 0, y 1, by blk_ext []⟩
  refine (z_at (iblk m c 0 t) (iblk m c 1 t) (iblk m c 2 t) (iblk m c 3 t) r j).trans ?_
  refine Eq.trans ?_ (congrArg _ (emb4 t r j)).symm
  refine (rowDot_raw m c t r _ ⟨j.val, by omega⟩ fun x => prepW_z _ x j).trans ?_
  pointwise [zTerm]

/-- Where an entry of grid point `t`'s block of `xbc` sits in the array. -/
theorem emb5 (t : Fin cfg0.N) (r : Fin 512) (j : Fin 1024) :
    ((cfg0.win 5).blk t).view.emb (ix2 r j) = (ix2 ⟨t.val * 512 + r.val, by idx_bounds; omega⟩ j : S16384x1024.Idx) := by
  blk_ext [idx t]

/-- The kernel's `xbc` is the reference's. -/
theorem final_xbc (c : Dev nD) : (dats m 0 c).arrAt 5 (cfgs 0).N = xbcTerm (uArg m c) := by
  refine (dats m 0 c).arrAt_eq_of_covers 5 _ (by decide +kernel) fun t _ y => ?_
  blk_simp
  rw [after0_5]; frame_out
  obtain ⟨r, j, rfl⟩ : ∃ (r : Fin 512) (j : Fin 1024), y = ix2 r j := ⟨y 0, y 1, by blk_ext []⟩
  refine (xbc_at (iblk m c 0 t) (iblk m c 1 t) (iblk m c 2 t) (iblk m c 3 t) r j).trans ?_
  refine Eq.trans ?_ (congrArg _ (emb5 t r j)).symm
  refine (rowDot_raw m c t r _ ⟨512 + j.val, by omega⟩ fun x => prepW_xbc _ x j).trans ?_
  pointwise [xbcTerm]

/-- Where an entry of grid point `t`'s block of `kvc` sits in the array. -/
theorem emb8 (t : Fin cfg0.N) (r : Fin 512) (j : Fin 256) :
    ((cfg0.win 8).blk t).view.emb (ix3 0 j r) = (ix3 ⟨t.val / 4, by idx_bounds; omega⟩ j ⟨t.val % 4 * 512 + r.val, by omega⟩ : S8x256x2048.Idx) := by
  blk_ext [idx t]

/-- The kernel's `kvc` is the reference's. -/
theorem final_kvc (c : Dev nD) : (dats m 0 c).arrAt 8 (cfgs 0).N = kvcTerm (uArg m c) := by
  refine (dats m 0 c).arrAt_eq_of_covers 8 _ (by decide +kernel) fun t _ y => ?_
  blk_simp
  rw [after0_8]; frame_out
  obtain ⟨r, j, rfl⟩ : ∃ (r : Fin 512) (j : Fin 256), y = ix3 0 j r := ⟨y 2, y 1, by blk_ext []⟩
  erw [pay13_eq]
  refine (kvc_at (iblk m c 0 t) (iblk m c 1 t) (iblk m c 2 t) (iblk m c 3 t) r j).trans ?_
  refine Eq.trans ?_ (congrArg _ (emb8 t r j)).symm
  refine (rowDot_raw m c t r _ ⟨2056 + j.val, by omega⟩ fun x => prepW_kvc _ x j).trans ?_
  pointwise [kvcTerm]
  try blk_ext []

/-- Where an entry of grid point `t`'s block of `kvs` sits in the array. -/
theorem emb9 (t : Fin cfg0.N) (r : Fin 512) (j : Fin 256) :
    ((cfg0.win 9).blk t).view.emb (ix3 0 j r) = (ix3 ⟨t.val / 4, by idx_bounds; omega⟩ j ⟨t.val % 4 * 512 + r.val, by omega⟩ : S8x256x2048.Idx) := by
  blk_ext [idx t]

/-- The kernel's `kvs` is the reference's. -/
theorem final_kvs (c : Dev nD) : (dats m 0 c).arrAt 9 (cfgs 0).N = kvsTerm (uArg m c) := by
  refine (dats m 0 c).arrAt_eq_of_covers 9 _ (by decide +kernel) fun t _ y => ?_
  blk_simp
  rw [after0_9]; frame_out
  obtain ⟨r, j, rfl⟩ : ∃ (r : Fin 512) (j : Fin 256), y = ix3 0 j r := ⟨y 2, y 1, by blk_ext []⟩
  erw [pay13_eq]
  refine (kvs_at (iblk m c 0 t) (iblk m c 1 t) (iblk m c 2 t) (iblk m c 3 t) r j).trans ?_
  refine Eq.trans ?_ (congrArg _ (emb9 t r j)).symm
  refine (rowDot_raw m c t r _ ⟨2312 + j.val, by omega⟩ fun x => prepW_kvs _ x j).trans ?_
  pointwise [kvsTerm]
  try blk_ext []

/-- Where an entry of grid point `t`'s block of `kvw` sits in the array. -/
theorem emb10 (t : Fin cfg0.N) (r : Fin 512) (j : Fin 256) :
    ((cfg0.win 10).blk t).view.emb (ix3 0 j r) = (ix3 ⟨t.val / 4, by idx_bounds; omega⟩ j ⟨t.val % 4 * 512 + r.val, by omega⟩ : S8x256x2048.Idx) := by
  blk_ext [idx t]

/-- The kernel's `kvw` is the reference's. -/
theorem final_kvw (c : Dev nD) : (dats m 0 c).arrAt 10 (cfgs 0).N = kvwTerm (uArg m c) := by
  refine (dats m 0 c).arrAt_eq_of_covers 10 _ (by decide +kernel) fun t _ y => ?_
  blk_simp
  rw [after0_10]; frame_out
  obtain ⟨r, j, rfl⟩ : ∃ (r : Fin 512) (j : Fin 256), y = ix3 0 j r := ⟨y 2, y 1, by blk_ext []⟩
  erw [pay13_eq]
  refine (kvw_at (iblk m c 0 t) (iblk m c 1 t) (iblk m c 2 t) (iblk m c 3 t) r j).trans ?_
  refine Eq.trans ?_ (congrArg _ (emb10 t r j)).symm
  refine (rowDot_raw m c t r _ ⟨2568 + j.val, by omega⟩ fun x => prepW_kvw _ x j).trans ?_
  pointwise [kvwTerm]
  try blk_ext []

/-- Where an entry of grid point `t`'s block of `q` sits in the array. -/
theorem emb6 (t : Fin cfg0.N) (r : Fin 512) (j : Fin 512) :
    ((cfg0.win 6).blk t).view.emb (ix2 r j) = (ix2 ⟨t.val * 512 + r.val, by idx_bounds; omega⟩ j : S16384x512.Idx) := by
  blk_ext [idx t]

/-- The kernel's `q` is the reference's. -/
theorem final_q (c : Dev nD) : (dats m 0 c).arrAt 6 (cfgs 0).N = qTerm (uArg m c) := by
  refine (dats m 0 c).arrAt_eq_of_covers 6 _ (by decide +kernel) fun t _ y => ?_
  blk_simp
  rw [after0_6]; frame_out
  obtain ⟨r, j, rfl⟩ : ∃ (r : Fin 512) (j : Fin 512), y = ix2 r j := ⟨y 0, y 1, by blk_ext []⟩
  erw [pay13_eq]
  refine (q_at (iblk m c 0 t) (iblk m c 1 t) (iblk m c 2 t) (iblk m c 3 t) r j).trans ?_
  refine Eq.trans ?_ (congrArg _ (emb6 t r j)).symm
  refine (rowDot_q m c t r j).trans ?_
  pointwise [qTerm]

end Cert.ProjIdeal.Value
-- ==== Proof.ProjLast.lean ====
module
public import proofs.«01_k».proof.Proof.ProjFinal
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Rows Cert.ProjRefIdeal.Value

variable (m : (ℓ : Loc nD τ sig) → Buf (Elt Ideal) ℓ)

/-- Where an entry of grid point `t`'s block of the small columns sits in the array. -/
theorem emb11 (t : Fin cfg0.N) (r : Fin 512) (j : Fin 128) :
    ((cfg0.win 11).blk t).view.emb (ix2 r j) = (ix2 ⟨t.val * 512 + r.val, by idx_bounds; omega⟩ j : S16384x128.Idx) := by
  blk_ext [idx t]

variable (u : FVec Ideal Cert.ProjRefIdeal.S8x2048x2848 .f32)

/-- The time-step columns of the reference's small result. -/
theorem small_dt (i : Fin 16384) (j : Fin 8) : smallTerm u (ix2 i ⟨j.val, by omega⟩) = u (ix3 ⟨i.val / 2048, by omega⟩ ⟨i.val % 2048, by omega⟩ ⟨1536 + j.val, by omega⟩) := by
  pointwise [smallTerm]
  rw [dif_pos (by omega)]

/-- The gate columns of the reference's small result. -/
theorem small_gate (i : Fin 16384) (j : Fin 24) : smallTerm u (ix2 i ⟨8 + j.val, by omega⟩) = u (ix3 ⟨i.val / 2048, by omega⟩ ⟨i.val % 2048, by omega⟩ ⟨2824 + j.val, by omega⟩) := by
  pointwise [smallTerm]
  rw [dif_pos (by omega)]

/-- The padding columns of the reference's small result. -/
theorem small_pad (i : Fin 16384) (j : Fin 96) : smallTerm u (ix2 i ⟨32 + j.val, by omega⟩) = 0 := by
  pointwise [smallTerm]
  rw [dif_neg (by simp)]
  simp [FloatOps.sitofp]

/-- A row of 128 numbers agrees with the reference's small result when its three parts do. -/
theorem small_split (i : Fin 16384) (f : Fin 128 → EReal)
    (h1 : ∀ j : Fin 8, f ⟨j.val, by omega⟩ = u (ix3 ⟨i.val / 2048, by omega⟩ ⟨i.val % 2048, by omega⟩ ⟨1536 + j.val, by omega⟩))
    (h2 : ∀ j : Fin 24, f ⟨8 + j.val, by omega⟩ = u (ix3 ⟨i.val / 2048, by omega⟩ ⟨i.val % 2048, by omega⟩ ⟨2824 + j.val, by omega⟩))
    (h3 : ∀ j : Fin 96, f ⟨32 + j.val, by omega⟩ = 0) (j : Fin 128) : f j = smallTerm u (ix2 i j) := by
  rcases lt_or_ge j.val 8 with h | h
  · exact (h1 ⟨j.val, h⟩).trans (small_dt u i ⟨j.val, h⟩).symm
  rcases lt_or_ge j.val 32 with h' | h'
  · obtain ⟨k, e⟩ : ∃ k : Fin 24, j = ⟨8 + k.val, by omega⟩ := ⟨⟨j.val - 8, by omega⟩, by ext; simp; omega⟩
    rw [e]
    exact (h2 k).trans (small_gate u i k).symm
  · obtain ⟨k, e⟩ : ∃ k : Fin 96, j = ⟨32 + k.val, by omega⟩ := ⟨⟨j.val - 32, by omega⟩, by ext; simp; omega⟩
    rw [e]
    exact (h3 k).trans (small_pad u i k).symm

/-- The kernel's small columns are the reference's. -/
theorem final_small (c : Dev nD) : (dats m 0 c).arrAt 11 (cfgs 0).N = smallTerm (uArg m c) := by
  refine (dats m 0 c).arrAt_eq_of_covers 11 _ (by decide +kernel) fun t _ y => ?_
  blk_simp
  rw [after0_11]; frame_out
  obtain ⟨r, j, rfl⟩ : ∃ (r : Fin 512) (j : Fin 128), y = ix2 r j := ⟨y 0, y 1, by blk_ext []⟩
  erw [pay13_eq]
  refine (small_at (iblk m c 0 t) (iblk m c 1 t) (iblk m c 2 t) (iblk m c 3 t) r j).trans ?_
  refine Eq.trans ?_ (congrArg _ (emb11 t r j)).symm
  refine small_split (uArg m c) _ (fun j => rowDot (iblk m c 0 t) (iblk m c 1 t) (iblk m c 2 t) (iblk m c 3 t) r ⟨2816 + j.val, by omega⟩) (fun j => ?_) (fun j => ?_) (fun j => ?_) j
  · exact rowDot_raw m c t r _ _ fun x => prepW_dt _ x j
  · refine Eq.trans (congrArg _ (Fin.ext ?_)) (rowDot_raw m c t r ⟨2824 + j.val, by omega⟩ _ fun x => prepW_gate _ x j)
    simp; omega
  · refine Eq.trans (congrArg _ (Fin.ext ?_)) (rowDot_pad m c t r j)
    simp; omega

/-- Where an entry of grid point `t`'s block of the head-major keys and values sits in the array. -/
theorem emb7 (t : Fin cfg0.N) (a : Fin 2) (r : Fin 512) (j : Fin 128) :
    ((cfg0.win 7).blk t).view.emb (ix3 a r j) = (ix3 a ⟨t.val * 512 + r.val, by idx_bounds; omega⟩ j : S2x16384x128.Idx) := by
  blk_ext [idx t]

/-- What a grid point stores for the head-major keys and values, at an index of its block. -/
theorem kvh_at (x0 : FVec Ideal S512x1024 .f32) (x1 x2 : FVec Ideal S1x1024 .f32) (x3 : FVec Ideal S1024x2944 .bf16) (a : Fin 2) (r : Fin 512) (j : Fin 128) :
    out0_7 (F := Ideal) x0 x1 x2 x3 (ix3 a r j) = rowDot x0 x1 x2 x3 r ⟨2048 + (a.val * 128 + j.val), by omega⟩ := by
  unfold out0_7
  rw [pay13_eq]
  canon_tiles x h
  all_goals
    obtain ⟨r', j', rfl⟩ : ∃ (r' : Fin 512) (j' : Fin 128), x = ix3 0 r' j' := ⟨x 1, x 2, by blk_ext []⟩
  · refine (kvh1_at x0 x1 x2 x3 r' j').trans ?_
    have ha : a.val = 1 + 0 := h0
    obtain rfl : r = r' := Fin.ext h1
    obtain rfl : j = j' := Fin.ext h2
    refine congrArg _ (Fin.ext ?_)
    simp; omega
  · refine (kvh0_at x0 x1 x2 x3 r' j').trans ?_
    have ha : a.val = 0 + 0 := h0
    obtain rfl : r = r' := Fin.ext h1
    obtain rfl : j = j' := Fin.ext h2
    refine congrArg _ (Fin.ext ?_)
    simp; omega

/-- The kernel's head-major keys and values are the reference's. -/
theorem final_kvh (c : Dev nD) : (dats m 0 c).arrAt 7 (cfgs 0).N = kvhTerm (uArg m c) := by
  refine (dats m 0 c).arrAt_eq_of_covers 7 _ (by decide +kernel) fun t _ y => ?_
  blk_simp
  rw [after0_7]
  obtain ⟨a, r, j, rfl⟩ : ∃ (a : Fin 2) (r : Fin 512) (j : Fin 128), y = ix3 a r j := ⟨y 0, y 1, y 2, by blk_ext []⟩
  refine (kvh_at (iblk m c 0 t) (iblk m c 1 t) (iblk m c 2 t) (iblk m c 3 t) a r j).trans ?_
  refine Eq.trans ?_ (congrArg _ (emb7 t a r j)).symm
  refine (rowDot_raw m c t r _ ⟨2056 + (a.val * 128 + j.val), by omega⟩ fun x => prepW_kvc _ x ⟨a.val * 128 + j.val, by omega⟩).trans ?_
  pointwise [kvhTerm]

end Cert.ProjIdeal.Value
-- ==== Proof.ProjRuns.lean ====
module
public import proofs.«01_k».proof.Proof.ProjLast
public import proofs.«01_k».proof.Proof.ProjRef
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjRefIdeal.Value
open Cert.ProjRefIdeal Cert.ProjRefIdeal.Gen

/-- The reference's projection of its arguments, before it is split. -/
abbrev uRef (m : (ℓ : Loc nD τ sig) → Buf (Elt Ideal) ℓ) (c : Dev nD) : FVec Ideal S8x2048x2848 .f32 :=
  projTerm (m ((c.tc : Thread nD τ).loc main_arg0)) (m ((c.tc : Thread nD τ).loc main_arg1)) (m ((c.tc : Thread nD τ).loc main_arg2)) (m ((c.tc : Thread nD τ).loc main_arg3))

/-- The reference's run, each result as a part of one projection. -/
theorem parts_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = zTerm (uRef m c)
      ∧ r.2.mem ((c.tc : Thread nD τ).loc main_v39) = xbcTerm (uRef m c)
      ∧ r.2.mem ((c.tc : Thread nD τ).loc main_v43) = qTerm (uRef m c)
      ∧ r.2.mem ((c.tc : Thread nD τ).loc main_v37) = kvhTerm (uRef m c)
      ∧ r.2.mem ((c.tc : Thread nD τ).loc main_v44) = kvcTerm (uRef m c)
      ∧ r.2.mem ((c.tc : Thread nD τ).loc main_v45) = kvsTerm (uRef m c)
      ∧ r.2.mem ((c.tc : Thread nD τ).loc main_v46) = kvwTerm (uRef m c)
      ∧ r.2.mem ((c.tc : Thread nD τ).loc main_v47) = smallTerm (uRef m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl, (h c).2.2.2.2.1.trans rfl,
    (h c).2.2.2.2.2.1.trans rfl, (h c).2.2.2.2.2.2.1.trans rfl, (h c).2.2.2.2.2.2.2.1.trans rfl, (h c).2.2.2.2.2.2.2.2⟩) (run m ρ)

end Cert.ProjRefIdeal.Value

namespace Cert.ProjIdeal.Value
open Cert.ProjIdeal Cert.ProjIdeal.Gen Cert.ProjRefIdeal.Value

/-- The kernel's run, each result as a part of the reference's projection of the kernel's arguments. -/
theorem parts_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18_0) = zTerm (uArg m c)
      ∧ r.2.mem ((c.tc : Thread nD τ).loc main_v18_1) = xbcTerm (uArg m c)
      ∧ r.2.mem ((c.tc : Thread nD τ).loc main_v18_2) = qTerm (uArg m c)
      ∧ r.2.mem ((c.tc : Thread nD τ).loc main_v18_3) = kvhTerm (uArg m c)
      ∧ r.2.mem ((c.tc : Thread nD τ).loc main_v18_4) = kvcTerm (uArg m c)
      ∧ r.2.mem ((c.tc : Thread nD τ).loc main_v18_5) = kvsTerm (uArg m c)
      ∧ r.2.mem ((c.tc : Thread nD τ).loc main_v18_6) = kvwTerm (uArg m c)
      ∧ r.2.mem ((c.tc : Thread nD τ).loc main_v18_7) = smallTerm (uArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.out_eq c 4).trans (final_z m c), (h.1.out_eq c 5).trans (final_xbc m c), (h.1.out_eq c 6).trans (final_q m c), (h.1.out_eq c 7).trans (final_kvh m c), (h.1.out_eq c 8).trans (final_kvc m c), (h.1.out_eq c 9).trans (final_kvs m c), (h.1.out_eq c 10).trans (final_kvw m c), (h.1.out_eq c 11).trans (final_small m c), h.2 c⟩)
    (θ_run_and (Gen.run_main m ρ) (Gen.unchanged m ρ))

end Cert.ProjIdeal.Value
-- ==== Proof.CombRows.lean ====
module
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Rows

/-- The sigmoid of a number, spelt as both programs compute it. -/
def gateFn (x : EReal) : EReal := Ideal.div 1 (1 + Ideal.exp (-x))

/-- The three branches' outputs, each times its head's gate: `g` holds the gates by branch, key group and head in the group. -/
def gatedRow (g : Fin 3 → Fin 2 → Fin 4 → EReal) (a b c : Fin 512 → EReal) (j : Fin 512) : EReal :=
  g 0 ⟨j.val / 256, by omega⟩ ⟨j.val / 64 % 4, by omega⟩ * a j + g 1 ⟨j.val / 256, by omega⟩ ⟨j.val / 64 % 4, by omega⟩ * b j + g 2 ⟨j.val / 256, by omega⟩ ⟨j.val / 64 % 4, by omega⟩ * c j

/-- The root-mean-square norm of a row of 512, at one column. -/
def rmsRow (o g : Fin 512 → EReal) (j : Fin 512) : EReal :=
  o j * Ideal.rsqrt (Ideal.div (∑ x, o x * o x) (Ideal.ofBits FTy.f32 0x44000000#32) + Ideal.ofBits FTy.f32 0x3727C5AC#32) * g j

/-- Two rows of 512 side by side. -/
def catRow (y a : Fin 512 → EReal) (k : Fin 1024) : EReal := if h : k.val < 512 then y ⟨k.val, h⟩ else a ⟨k.val - 512, by omega⟩

/-- The residual row: `ALPHA * x + cat W`, at one column. -/
def mixRow (x cat : Fin 1024 → EReal) (W : Fin 1024 → Fin 1024 → EReal) (j : Fin 1024) : EReal :=
  Ideal.ofBits FTy.f32 0x3F9837F0#32 * x j + ∑ k, cat k * W k j

end Cert.Rows
-- ==== Proof.CombGate.lean ====
module
public import proofs.«01_k».proof.Proof.CombRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Rows

/-- The sigmoid is a real number everywhere. -/
theorem gateFn_real (x : EReal) : ∃ r : ℝ, gateFn x = (r : EReal) := by
  show ∃ r : ℝ, Ideal.logistic x = (r : EReal)
  induction x with
  | bot => exact ⟨0, by simp⟩
  | coe r => exact ⟨_, Ideal.logistic_coe r⟩
  | top => exact ⟨1, by simp⟩

/-- What the kernel adds up for one gate: the gates' row against a column of the expansion, and the part that a
    rounding of the gates leaves over, which is zero over the reals. -/
def gateSum (g e : Fin 128 → EReal) : EReal := ∑ l, g l * e l + ∑ l, (g l - g l) * e l

/-- Against a column that is one at lane `L` and zero elsewhere, the kernel's sum is the gate of lane `L`. -/
theorem gateSum_lane (s e : Fin 128 → EReal) (L : Fin 128) (he : ∀ l, e l = if l = L then 1 else 0) :
    gateSum (fun l => gateFn (s l)) e = gateFn (s L) := by
  have hz : ∀ l, gateFn (s l) - gateFn (s l) = 0 := fun l => by
    obtain ⟨r, hr⟩ := gateFn_real (s l)
    rw [hr, ← EReal.coe_sub, sub_self, EReal.coe_zero]
  unfold gateSum
  rw [Finset.sum_eq_single L (fun l _ h => by rw [he l, if_neg h, mul_zero]) (fun h => absurd (Finset.mem_univ _) h)]
  rw [Finset.sum_eq_zero (fun l _ => by rw [hz l, zero_mul]), he L, if_pos rfl, mul_one, add_zero]

end Cert.Rows
-- ==== Proof.CombPay.lean ====
module
public import proofs.«01_k».proof.Proof.Gen.CombIdeal.Value
public import proofs.«01_k».proof.Proof.CombGate
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen Cert.Rows

/-- The kernel's normalised rows, at a row and a column of the block. -/
theorem ln_at (x0 : FVec Ideal S512x1024 .f32) (x6 x7 : FVec Ideal S1x1024 .f32) (r : Fin 512) (j : Fin 1024) :
    k0_pay2 (F := Ideal) x0 x6 x7 (ix2 r j) = lnRow (fun x => x0 (ix2 r x)) (fun x => x6 (ix2 0 x)) (fun x => x7 (ix2 0 x)) j := by
  pointwise [k0_pay2]
  simp only [lnRow, rowMean]

/-- The kernel's gated sum of the branches, at a row and a column of the block. -/
theorem gated_at (x5 : FVec Ideal S512x128 .f32) (e0 e1 e2 : FVec Ideal S1x128x512 .bf16) (a b c : FVec Ideal S512x512 .f32)
    (r : Fin 512) (j : Fin 512) :
    k0_pay7 (F := Ideal) (k0_pay4 x5) (k0_pay5 x5) k0_pay6 e0 e0 a e1 e1 b e2 e2 c (ix2 r j)
      = gateSum (fun l => gateFn (x5 (ix2 r l))) (fun l => e0 (ix3 0 l j)) * a (ix2 r j)
        + gateSum (fun l => gateFn (x5 (ix2 r l))) (fun l => e1 (ix3 0 l j)) * b (ix2 r j)
        + gateSum (fun l => gateFn (x5 (ix2 r l))) (fun l => e2 (ix3 0 l j)) * c (ix2 r j) := by
  pointwise [k0_pay7, k0_pay6, k0_pay5, k0_pay4, k0_pay3]
  simp only [gateSum, gateFn, zero_sub]

/-- The kernel's output rows over the normalised rows `u` and the gated sum `o`, at a row and a column of the block. -/
theorem tail_at (u : FVec Ideal S512x1024 .f32) (o : FVec Ideal S512x512 .f32) (x9 : FVec Ideal S1x512 .f32) (x1 : FVec Ideal S512x512 .bf16)
    (x10 : FVec Ideal S1024x1024 .bf16) (x11 x12 : FVec Ideal S1x1024 .f32) (r : Fin 512) (j : Fin 1024) :
    k0_pay1 (F := Ideal) (k0_pay8 x11) (k0_pay9 x12) (k0_pay10 u o x9 x1 x10) (k0_pay11 u o x9 x1 x10) k0_pay12 (ix2 r j)
      = lnRow (mixRow (fun x => u (ix2 r x)) (catRow (fun x => x1 (ix2 r x)) (rmsRow (fun x => o (ix2 r x)) (fun x => x9 (ix2 0 x))))
          (fun k l => x10 (ix2 k l))) (fun x => x11 (ix2 0 x)) (fun x => x12 (ix2 0 x)) j := by
  pointwise [k0_pay1, k0_pay8, k0_pay9, k0_pay10, k0_pay11, k0_pay12, lnRow, rowMean, mixRow, catRow, rmsRow]

/-- The normalised rows the body hands on are the first part's. -/
theorem pay13_eq (x0 : FVec Ideal S512x1024 .f32) (x1 : FVec Ideal S512x512 .bf16) (x2 x3 x4 : FVec Ideal S512x512 .f32) (x5 : FVec Ideal S512x128 .f32) (x6 x7 : FVec Ideal S1x1024 .f32) (x8 : FVec Ideal S3x128x512 .bf16) (x9 : FVec Ideal S1x512 .f32) (x10 : FVec Ideal S1024x1024 .bf16) (x11 x12 : FVec Ideal S1x1024 .f32) :
    k0_pay13 (F := Ideal) x0 x1 x2 x3 x4 x5 x6 x7 x8 x9 x10 x11 x12 = k0_pay2 x0 x6 x7 := by
  unfold k0_pay13; frame_out

/-- The gated sum the body hands on is the second part's, over the three slabs of the expansion. -/
theorem pay14_eq (x0 : FVec Ideal S512x1024 .f32) (x1 : FVec Ideal S512x512 .bf16) (x2 x3 x4 : FVec Ideal S512x512 .f32) (x5 : FVec Ideal S512x128 .f32) (x6 x7 : FVec Ideal S1x1024 .f32) (x8 : FVec Ideal S3x128x512 .bf16) (x9 : FVec Ideal S1x512 .f32) (x10 : FVec Ideal S1024x1024 .bf16) (x11 x12 : FVec Ideal S1x1024 .f32) :
    k0_pay14 (F := Ideal) x0 x1 x2 x3 x4 x5 x6 x7 x8 x9 x10 x11 x12 = k0_pay7 (k0_pay4 x5) (k0_pay5 x5) k0_pay6 (View.ld (x8 : Vec Ideal S3x128x512 .bf16) r0_3) (View.ld (x8 : Vec Ideal S3x128x512 .bf16) r0_3) x2
      (View.ld (x8 : Vec Ideal S3x128x512 .bf16) r0_5) (View.ld (x8 : Vec Ideal S3x128x512 .bf16) r0_5) x3
      (View.ld (x8 : Vec Ideal S3x128x512 .bf16) r0_6) (View.ld (x8 : Vec Ideal S3x128x512 .bf16) r0_6) x4 := by
  unfold k0_pay14; frame_out

end Cert.CombIdeal.Value
-- ==== Proof.CombOut.lean ====
module
public import proofs.«01_k».proof.Proof.CombPay
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen Cert.Rows

/-- The lane of a branch's gate for a column's head. -/
abbrev lane (n : Fin 3) (j : Fin 512) : Fin 128 := ⟨8 + (n.val * 8 + j.val / 64), by omega⟩

/-- The compressed branch's slab of the expansion. -/
theorem slab0 (x8 : FVec Ideal S3x128x512 .bf16) (l : Fin 128) (j : Fin 512) :
    View.ld (Val := Elt Ideal) (e' := .bf16) (x8 : Vec Ideal S3x128x512 .bf16) r0_3 (ix3 0 l j) = x8 (ix3 0 l j) :=
  by pointwise

/-- The selected branch's slab of the expansion. -/
theorem slab1 (x8 : FVec Ideal S3x128x512 .bf16) (l : Fin 128) (j : Fin 512) :
    View.ld (Val := Elt Ideal) (e' := .bf16) (x8 : Vec Ideal S3x128x512 .bf16) r0_5 (ix3 0 l j) = x8 (ix3 1 l j) :=
  by pointwise

/-- The window branch's slab of the expansion. -/
theorem slab2 (x8 : FVec Ideal S3x128x512 .bf16) (l : Fin 128) (j : Fin 512) :
    View.ld (Val := Elt Ideal) (e' := .bf16) (x8 : Vec Ideal S3x128x512 .bf16) r0_6 (ix3 0 l j) = x8 (ix3 2 l j) :=
  by pointwise

/-- What the kernel writes at a row and a column of its block, where the expansion has a one at the lane of the column's gate
    and zeros elsewhere. -/
theorem out_at (x0 : FVec Ideal S512x1024 .f32) (x1 : FVec Ideal S512x512 .bf16) (x2 x3 x4 : FVec Ideal S512x512 .f32) (x5 : FVec Ideal S512x128 .f32) (x6 x7 : FVec Ideal S1x1024 .f32) (x8 : FVec Ideal S3x128x512 .bf16) (x9 : FVec Ideal S1x512 .f32) (x10 : FVec Ideal S1024x1024 .bf16) (x11 x12 : FVec Ideal S1x1024 .f32)
    (he : ∀ (n : Fin 3) (l : Fin 128) (j : Fin 512), x8 (ix3 n l j) = if l = lane n j then 1 else 0) (r : Fin 512) (j : Fin 1024) :
    out0_13 (F := Ideal) x0 x1 x2 x3 x4 x5 x6 x7 x8 x9 x10 x11 x12 (ix2 r j)
      = lnRow (mixRow (lnRow (fun x => x0 (ix2 r x)) (fun x => x6 (ix2 0 x)) (fun x => x7 (ix2 0 x)))
          (catRow (fun x => x1 (ix2 r x)) (rmsRow (gatedRow
            (fun n h g => gateFn (x5 (ix2 r ⟨8 + (n.val * 8 + h.val * 4 + g.val), by omega⟩)))
            (fun x => x2 (ix2 r x)) (fun x => x3 (ix2 r x)) (fun x => x4 (ix2 r x))) (fun x => x9 (ix2 0 x))))
          (fun k l => x10 (ix2 k l))) (fun x => x11 (ix2 0 x)) (fun x => x12 (ix2 0 x)) j := by
  unfold out0_13
  frame_out
  erw [pay13_eq, pay14_eq]
  refine (tail_at _ _ x9 x1 x10 x11 x12 r j).trans ?_
  congr 1
  congr 1
  · funext x; exact ln_at x0 x6 x7 r x
  · congr 1
    congr 1
    funext x
    refine (gated_at x5 _ _ _ x2 x3 x4 r x).trans ?_
    rw [gateSum_lane _ _ (lane 0 x) (fun l => (slab0 x8 l x).trans (he 0 l x)),
      gateSum_lane _ _ (lane 1 x) (fun l => (slab1 x8 l x).trans (he 1 l x)),
      gateSum_lane _ _ (lane 2 x) (fun l => (slab2 x8 l x).trans (he 2 l x))]
    have e : ∀ n : Fin 3, lane n x = ⟨8 + (n.val * 8 + x.val / 256 * 4 + x.val / 64 % 4), by omega⟩ := fun n => Fin.ext (by show 8 + (n.val * 8 + x.val / 64) = 8 + (n.val * 8 + x.val / 256 * 4 + x.val / 64 % 4); omega)
    rw [e 0, e 1, e 2]
    rfl

end Cert.CombIdeal.Value
-- ==== Proof.CombRef.lean ====
module
public import proofs.«01_k».proof.Proof.Gen.CombRefIdeal.Run
public import proofs.«01_k».proof.Proof.CombRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombRefIdeal.Value
open Cert.CombRefIdeal Cert.CombRefIdeal.Gen Cert.Rows

/-- The reference's mean over the last axis, as its own operations. -/
def meanTerm (v : FVec Ideal S8x2048x1024 .f32) : FVec Ideal S8x2048x1 .f32 :=
  Host.divf (broadcastInDim S8x2048x1 ![0, 1] bcast_S8x2048_S8x2048x1_0_1 (Host.reduceAdd v (constant S_ .f32 0x00000000#32) reducesTo_S8x2048x1024_S8x2048_d2 h_S_))
    (broadcastInDim S8x2048x1 ![] bcast_S_S8x2048x1 (constant S_ .f32 0x44800000#32))

/-- The reference's layer norm, as its own operations. -/
def lnTerm (v : FVec Ideal S8x2048x1024 .f32) (G B : FVec Ideal S1024 .f32) : FVec Ideal S8x2048x1024 .f32 :=
  let cen : FVec Ideal S8x2048x1024 .f32 := subf v (broadcastInDim S8x2048x1024 ![0, 1, 2] bcast_S8x2048x1_S8x2048x1024_0_1_2 (meanTerm v))
  addf (mulf (mulf cen
      (broadcastInDim S8x2048x1024 ![0, 1, 2] bcast_S8x2048x1_S8x2048x1024_0_1_2 (Host.rsqrt (addf (meanTerm (mulf cen cen)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 G)))
      (broadcastInDim S8x2048x1024 ![0, 1, 2] bcast_S1x1x1024_S8x2048x1024_0_1_2 (broadcastInDim S1x1x1024 ![2] bcast_S1024_S1x1x1024_2 B))

/-- The reference's sigmoid of the gate columns, as its own operations. -/
def gateTerm (sm : FVec Ideal S16384x128 .f32) : FVec Ideal S8x2048x3x2x4 .f32 :=
  let one : FVec Ideal S8x2048x3x2x4 .f32 := broadcastInDim S8x2048x3x2x4 ![] bcast_S_S8x2048x3x2x4 (constant S_ .f32 0x3F800000#32)
  Host.divf one (addf one (Host.exp (Host.negf (shapeCast S8x2048x3x2x4
    (extractStridedSlice S16384x24 ![0, 8] sm slices_S16384x128_S16384x24_0_8) shapeCasts_S16384x24_S8x2048x3x2x4))))

/-- The reference's gated sum of the branches, as its own operations. -/
def gatedTerm (g : FVec Ideal S8x2048x3x2x4 .f32) (oc os ow : FVec Ideal S8x2048x512 .f32) : FVec Ideal S8x2048x512 .f32 :=
  shapeCast S8x2048x512 (addf (addf (mulf (broadcastInDim S8x2048x2x4x64 ![0, 1, 2, 3, 4] bcast_S8x2048x2x4x1_S8x2048x2x4x64_0_1_2_3_4
      (broadcastInDim S8x2048x2x4x1 ![0, 1, 2, 3] bcast_S8x2048x2x4_S8x2048x2x4x1_0_1_2_3 (shapeCast S8x2048x2x4
        (extractStridedSlice S8x2048x1x2x4 ![0, 0, 0, 0, 0] g slices_S8x2048x3x2x4_S8x2048x1x2x4_0_0_0_0_0) shapeCasts_S8x2048x1x2x4_S8x2048x2x4)))
      (shapeCast S8x2048x2x4x64 oc shapeCasts_S8x2048x512_S8x2048x2x4x64))
    (mulf (broadcastInDim S8x2048x2x4x64 ![0, 1, 2, 3, 4] bcast_S8x2048x2x4x1_S8x2048x2x4x64_0_1_2_3_4
      (broadcastInDim S8x2048x2x4x1 ![0, 1, 2, 3] bcast_S8x2048x2x4_S8x2048x2x4x1_0_1_2_3 (shapeCast S8x2048x2x4
        (extractStridedSlice S8x2048x1x2x4 ![0, 0, 1, 0, 0] g slices_S8x2048x3x2x4_S8x2048x1x2x4_0_0_1_0_0) shapeCasts_S8x2048x1x2x4_S8x2048x2x4)))
      (shapeCast S8x2048x2x4x64 os shapeCasts_S8x2048x512_S8x2048x2x4x64)))
    (mulf (broadcastInDim S8x2048x2x4x64 ![0, 1, 2, 3, 4] bcast_S8x2048x2x4x1_S8x2048x2x4x64_0_1_2_3_4
      (broadcastInDim S8x2048x2x4x1 ![0, 1, 2, 3] bcast_S8x2048x2x4_S8x2048x2x4x1_0_1_2_3 (shapeCast S8x2048x2x4
        (extractStridedSlice S8x2048x1x2x4 ![0, 0, 2, 0, 0] g slices_S8x2048x3x2x4_S8x2048x1x2x4_0_0_2_0_0) shapeCasts_S8x2048x1x2x4_S8x2048x2x4)))
      (shapeCast S8x2048x2x4x64 ow shapeCasts_S8x2048x512_S8x2048x2x4x64))) shapeCasts_S8x2048x2x4x64_S8x2048x512

/-- The reference's root-mean-square norm, as its own operations. -/
def rmsTerm (o : FVec Ideal S8x2048x512 .f32) (ag : FVec Ideal S1x512 .f32) : FVec Ideal S8x2048x512 .f32 :=
  mulf (mulf o (broadcastInDim S8x2048x512 ![0, 1, 2] bcast_S8x2048x1_S8x2048x512_0_1_2 (Host.rsqrt (addf
    (Host.divf (broadcastInDim S8x2048x1 ![0, 1] bcast_S8x2048_S8x2048x1_0_1 (Host.reduceAdd (mulf o o) (constant S_ .f32 0x00000000#32) reducesTo_S8x2048x512_S8x2048_d2 h_S_))
      (broadcastInDim S8x2048x1 ![] bcast_S_S8x2048x1 (constant S_ .f32 0x44000000#32)))
    (broadcastInDim S8x2048x1 ![] bcast_S_S8x2048x1 (constant S_ .f32 0x3727C5AC#32))))))
    (broadcastInDim S8x2048x512 ![0, 1, 2] bcast_S1x1x512_S8x2048x512_0_1_2 (broadcastInDim S1x1x512 ![2] bcast_S512_S1x1x512_2
      (shapeCast S512 ag shapeCasts_S1x512_S512)))

/-- The reference's residual rows, as its own operations. -/
def mixTerm (x : FVec Ideal S8x2048x1024 .f32) (y : FVec Ideal S8x2048x512 .bf16) (a : FVec Ideal S8x2048x512 .f32) (W : FVec Ideal S1x1024x1024 .f32) :
    FVec Ideal S8x2048x1024 .f32 :=
  let cat : FVec Ideal S8x2048x1024 .f32 := fn_main_v44 (F := Ideal) (extf .f32 y bitsLt_bf16_f32) a
  addf (mulf (broadcastInDim S8x2048x1024 ![] bcast_S_S8x2048x1024 (constant S_ .f32 0x3F9837F0#32)) x)
    (Host.dotGeneral dot_S8x2048x1024_S1024x1024_S8x2048x1024_2_0_01_1_n_n none
      cat
      (shapeCast S1024x1024 W shapeCasts_S1x1024x1024_S1024x1024))

/-- The reference's result is these operations over its arguments. -/
theorem res_eq (m : (ℓ : Loc nD τ sig) → Buf (Elt Ideal) ℓ) (c : Dev nD) :
    res_main_v100 m c = shapeCast S16384x1024 (lnTerm (mixTerm
      (lnTerm (m ((c.tc : Thread nD τ).loc main_arg0)) (m ((c.tc : Thread nD τ).loc main_arg6)) (m ((c.tc : Thread nD τ).loc main_arg7)))
      (m ((c.tc : Thread nD τ).loc main_arg1))
      (rmsTerm (gatedTerm (gateTerm (m ((c.tc : Thread nD τ).loc main_arg5))) (m ((c.tc : Thread nD τ).loc main_arg2))
        (m ((c.tc : Thread nD τ).loc main_arg3)) (m ((c.tc : Thread nD τ).loc main_arg4))) (m ((c.tc : Thread nD τ).loc main_arg8)))
      (m ((c.tc : Thread nD τ).loc main_arg9)))
      (shapeCast S1024 (m ((c.tc : Thread nD τ).loc main_arg10)) shapeCasts_S1x1024_S1024)
      (shapeCast S1024 (m ((c.tc : Thread nD τ).loc main_arg11)) shapeCasts_S1x1024_S1024)) shapeCasts_S8x2048x1024_S16384x1024 := rfl

/-- The reference's layer norm, at an index. -/
theorem lnTerm_at (v : FVec Ideal S8x2048x1024 .f32) (G B : FVec Ideal S1024 .f32) (b : Fin 8) (s : Fin 2048) (j : Fin 1024) :
    lnTerm v G B (ix3 b s j) = lnRow (fun x => v (ix3 b s x)) (fun x => G (ix1 x)) (fun x => B (ix1 x)) j := by
  pointwise [lnTerm, meanTerm, lnRow, rowMean]

/-- The reference's gates, at an index. -/
theorem gateTerm_at (sm : FVec Ideal S16384x128 .f32) (b : Fin 8) (s : Fin 2048) (n : Fin 3) (h : Fin 2) (g : Fin 4) :
    gateTerm sm (ix5 b s n h g) = gateFn (sm (ix2 ⟨b.val * 2048 + s.val, by omega⟩ ⟨8 + (n.val * 8 + h.val * 4 + g.val), by omega⟩)) := by
  pointwise [gateTerm, gateFn]

/-- The reference's gated sum, at an index. -/
theorem gatedTerm_at (g : FVec Ideal S8x2048x3x2x4 .f32) (oc os ow : FVec Ideal S8x2048x512 .f32) (b : Fin 8) (s : Fin 2048) (j : Fin 512) :
    gatedTerm g oc os ow (ix3 b s j) = gatedRow (fun n h i => g (ix5 b s n h i))
      (fun x => oc (ix3 b s x)) (fun x => os (ix3 b s x)) (fun x => ow (ix3 b s x)) j := by
  pointwise [gatedTerm, gatedRow]

/-- The reference's root-mean-square norm, at an index. -/
theorem rmsTerm_at (o : FVec Ideal S8x2048x512 .f32) (ag : FVec Ideal S1x512 .f32) (b : Fin 8) (s : Fin 2048) (j : Fin 512) :
    rmsTerm o ag (ix3 b s j) = rmsRow (fun x => o (ix3 b s x)) (fun x => ag (ix2 0 x)) j := by
  pointwise [rmsTerm, rmsRow]

/-- The reference's residual rows, at an index. -/
theorem mixTerm_at (x : FVec Ideal S8x2048x1024 .f32) (y : FVec Ideal S8x2048x512 .bf16) (a : FVec Ideal S8x2048x512 .f32) (W : FVec Ideal S1x1024x1024 .f32)
    (b : Fin 8) (s : Fin 2048) (j : Fin 1024) :
    mixTerm x y a W (ix3 b s j) = mixRow (fun k => x (ix3 b s k)) (catRow (fun k => y (ix3 b s k)) (fun k => a (ix3 b s k)))
      (fun k l => W (ix3 0 k l)) j := by
  pointwise [mixTerm, mixRow, catRow, fn_main_v44]

end Cert.CombRefIdeal.Value
-- ==== Proof.CombGates.lean ====
module
public import proofs.«01_k».proof.Proof.Gen.CombIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen

/-- The gates' table as printed, a column for each head. -/
@[irreducible] def gates : Fin 3072 → BitVec 16 := lit0

/-- It is the printed literal. -/
theorem gates_eq : gates = lit0 := by
  unfold gates
  rfl

/-- The table's constant, a column for each head. -/
def gateHeads : FVec Ideal S3x128x8 .bf16 := fun i => FloatOps.ofBits .bf16 (gates (S3x128x8.rowMajor i))

/-- The expansion: each head's column repeated over the head's width. -/
def gateTable : FVec Ideal S3x128x512 .bf16 :=
  shapeCast S3x128x512 (broadcastInDim S3x128x8x64 ![0, 1, 2, 3] bcast_S3x128x8x1_S3x128x8x64_0_1_2_3
    (broadcastInDim S3x128x8x1 ![0, 1, 2] bcast_S3x128x8_S3x128x8x1_0_1_2 gateHeads)) shapeCasts_S3x128x8x64_S3x128x512

/-- The host computes the expansion. -/
theorem V_gates (m : (ℓ : Loc nD τ sig) → Buf (Elt Ideal) ℓ) (c : Dev nD) : V m c main_v9 = gateTable := by
  unfold gateTable gateHeads
  rw [gates_eq]
  rfl

/-- The table's constant, at an index. -/
theorem gateHeads_at (n : Fin 3) (l : Fin 128) (h : Fin 8) :
    gateHeads (ix3 n l h) = Ideal.ofBits .bf16 (gates ⟨(n.val * 128 + l.val) * 8 + h.val, by omega⟩) := by
  show Ideal.ofBits .bf16 (gates (S3x128x8.rowMajor (ix3 n l h))) = _
  refine congrArg (fun i => Ideal.ofBits .bf16 (gates i)) (Fin.ext ?_)
  rw [Shape.rowMajor_val_three]
  rfl

/-- The expansion, at an index: the column's head's entry of the table. -/
theorem gateTable_at (n : Fin 3) (l : Fin 128) (j : Fin 512) :
    gateTable (ix3 n l j) = gateHeads (ix3 n l ⟨j.val / 64, by omega⟩) := by
  pointwise [gateTable]

end Cert.CombIdeal.Value
-- ==== Proof.CombTable.lean ====
module
public import proofs.«01_k».proof.Proof.CombGates
public import proofs.«01_k».proof.Proof.CombOut
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen Cert.Rows

/-- The table's entries: one at the lane that holds a head's gate of a branch, zero elsewhere. -/
theorem lit_at (n : Fin 3) : ∀ (l : Fin 128) (h : Fin 8),
    lit0 ⟨(n.val * 128 + l.val) * 8 + h.val, by omega⟩ = if l.val = 8 + n.val * 8 + h.val then 0x3F80#16 else 0x0000#16 := by
  fin_cases n <;> decide +kernel

/-- The expansion, at an index: one at the lane of the column's gate, zero elsewhere. -/
theorem table_at (n : Fin 3) (l : Fin 128) (j : Fin 512) : gateTable (ix3 n l j) = if l = lane n j then 1 else 0 := by
  refine ((gateTable_at n l j).trans (gateHeads_at n l _)).trans ?_
  rw [gates_eq]
  refine (congrArg (Ideal.ofBits .bf16) (lit_at n l ⟨j.val / 64, by omega⟩)).trans ?_
  have e : (l.val = 8 + n.val * 8 + j.val / 64) ↔ (l = lane n j) := by
    simp only [lane, Fin.ext_iff]
    omega
  by_cases h : l.val = 8 + n.val * 8 + j.val / 64
  · rw [if_pos h, if_pos (e.mp h)]
    exact Ideal.ofBits_one_bf16
  · rw [if_neg h, if_neg (fun w => h (e.mpr w))]
    exact Ideal.ofBits_zero_bf16

end Cert.CombIdeal.Value
-- ==== Proof.CombRead.lean ====
module
public import proofs.«01_k».proof.Proof.CombPay
public import proofs.«01_k».proof.Proof.CombOut
public import proofs.«01_k».proof.Proof.CombRef
public import proofs.«01_k».proof.Proof.CombTable
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen Cert.Rows

variable (m : (ℓ : Loc nD τ sig) → Buf (Elt Ideal) ℓ)
  (m' : (ℓ : Loc Cert.CombRefIdeal.nD Cert.CombRefIdeal.τ Cert.CombRefIdeal.sig) → Buf (Elt Ideal) ℓ)

/-- The windows' index maps at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The reference's argument arrays are the kernel's. -/
abbrev SameArgs (c : Dev nD) : Prop :=
  m' ((c.tc : Thread Cert.CombRefIdeal.nD Cert.CombRefIdeal.τ).loc Cert.CombRefIdeal.main_arg0) = m ((c.tc : Thread nD τ).loc main_arg0)
  ∧ m' ((c.tc : Thread Cert.CombRefIdeal.nD Cert.CombRefIdeal.τ).loc Cert.CombRefIdeal.main_arg1) = m ((c.tc : Thread nD τ).loc main_arg1)
  ∧ m' ((c.tc : Thread Cert.CombRefIdeal.nD Cert.CombRefIdeal.τ).loc Cert.CombRefIdeal.main_arg2) = m ((c.tc : Thread nD τ).loc main_arg2)
  ∧ m' ((c.tc : Thread Cert.CombRefIdeal.nD Cert.CombRefIdeal.τ).loc Cert.CombRefIdeal.main_arg3) = m ((c.tc : Thread nD τ).loc main_arg3)
  ∧ m' ((c.tc : Thread Cert.CombRefIdeal.nD Cert.CombRefIdeal.τ).loc Cert.CombRefIdeal.main_arg4) = m ((c.tc : Thread nD τ).loc main_arg4)
  ∧ m' ((c.tc : Thread Cert.CombRefIdeal.nD Cert.CombRefIdeal.τ).loc Cert.CombRefIdeal.main_arg5) = m ((c.tc : Thread nD τ).loc main_arg5)
  ∧ m' ((c.tc : Thread Cert.CombRefIdeal.nD Cert.CombRefIdeal.τ).loc Cert.CombRefIdeal.main_arg6) = m ((c.tc : Thread nD τ).loc main_arg6)
  ∧ m' ((c.tc : Thread Cert.CombRefIdeal.nD Cert.CombRefIdeal.τ).loc Cert.CombRefIdeal.main_arg7) = m ((c.tc : Thread nD τ).loc main_arg7)
  ∧ m' ((c.tc : Thread Cert.CombRefIdeal.nD Cert.CombRefIdeal.τ).loc Cert.CombRefIdeal.main_arg8) = m ((c.tc : Thread nD τ).loc main_arg8)
  ∧ m' ((c.tc : Thread Cert.CombRefIdeal.nD Cert.CombRefIdeal.τ).loc Cert.CombRefIdeal.main_arg9) = m ((c.tc : Thread nD τ).loc main_arg9)
  ∧ m' ((c.tc : Thread Cert.CombRefIdeal.nD Cert.CombRefIdeal.τ).loc Cert.CombRefIdeal.main_arg10) = m ((c.tc : Thread nD τ).loc main_arg10)
  ∧ m' ((c.tc : Thread Cert.CombRefIdeal.nD Cert.CombRefIdeal.τ).loc Cert.CombRefIdeal.main_arg11) = m ((c.tc : Thread nD τ).loc main_arg11)

/-- The rows' block, read at the reference's array. -/
theorem read0 (c : Dev nD) (t : Fin cfg0.N) (r : Fin 512) (x : Fin 1024) :
    (show FVec Ideal S512x1024 .f32 from iblk m c 0 t) (ix2 r x)
      = (show FVec Ideal S8x2048x1024 .f32 from m ((c.tc : Thread nD τ).loc main_arg0)) (ix3 ⟨(t.val * 512 + r.val) / 2048, by idx_bounds; omega⟩ ⟨(t.val * 512 + r.val) % 2048, by omega⟩ x) := by
  blk_point [iblk, V, idx t]

/-- The state-space branch's block, read at the reference's array. -/
theorem read1 (c : Dev nD) (t : Fin cfg0.N) (r : Fin 512) (x : Fin 512) :
    (show FVec Ideal S512x512 .bf16 from iblk m c 1 t) (ix2 r x)
      = (show FVec Ideal S8x2048x512 .bf16 from m ((c.tc : Thread nD τ).loc main_arg1)) (ix3 ⟨(t.val * 512 + r.val) / 2048, by idx_bounds; omega⟩ ⟨(t.val * 512 + r.val) % 2048, by omega⟩ x) := by
  blk_point [iblk, V, idx t]

/-- The compressed branch's block, read at the reference's array. -/
theorem read2 (c : Dev nD) (t : Fin cfg0.N) (r : Fin 512) (x : Fin 512) :
    (show FVec Ideal S512x512 .f32 from iblk m c 2 t) (ix2 r x)
      = (show FVec Ideal S8x2048x512 .f32 from m ((c.tc : Thread nD τ).loc main_arg2)) (ix3 ⟨(t.val * 512 + r.val) / 2048, by idx_bounds; omega⟩ ⟨(t.val * 512 + r.val) % 2048, by omega⟩ x) := by
  blk_point [iblk, V, idx t]

/-- The selected branch's block, read at the reference's array. -/
theorem read3 (c : Dev nD) (t : Fin cfg0.N) (r : Fin 512) (x : Fin 512) :
    (show FVec Ideal S512x512 .f32 from iblk m c 3 t) (ix2 r x)
      = (show FVec Ideal S8x2048x512 .f32 from m ((c.tc : Thread nD τ).loc main_arg3)) (ix3 ⟨(t.val * 512 + r.val) / 2048, by idx_bounds; omega⟩ ⟨(t.val * 512 + r.val) % 2048, by omega⟩ x) := by
  blk_point [iblk, V, idx t]

/-- The window branch's block, read at the reference's array. -/
theorem read4 (c : Dev nD) (t : Fin cfg0.N) (r : Fin 512) (x : Fin 512) :
    (show FVec Ideal S512x512 .f32 from iblk m c 4 t) (ix2 r x)
      = (show FVec Ideal S8x2048x512 .f32 from m ((c.tc : Thread nD τ).loc main_arg4)) (ix3 ⟨(t.val * 512 + r.val) / 2048, by idx_bounds; omega⟩ ⟨(t.val * 512 + r.val) % 2048, by omega⟩ x) := by
  blk_point [iblk, V, idx t]

/-- The gates' block, read at the reference's array. -/
theorem read5 (c : Dev nD) (t : Fin cfg0.N) (r : Fin 512) (x : Fin 128) :
    (show FVec Ideal S512x128 .f32 from iblk m c 5 t) (ix2 r x)
      = (show FVec Ideal S16384x128 .f32 from m ((c.tc : Thread nD τ).loc main_arg5)) (ix2 ⟨(t.val * 512 + r.val) / 2048 * 2048 + (t.val * 512 + r.val) % 2048, by idx_bounds; omega⟩ x) := by
  blk_point [iblk, V, idx t]

/-- The first norm's scale is the whole vector. -/
theorem read6 (c : Dev nD) (t : Fin cfg0.N) (x : Fin 1024) :
    (show FVec Ideal S1x1024 .f32 from iblk m c 6 t) (ix2 0 x)
      = (show FVec Ideal S1024 .f32 from m ((c.tc : Thread nD τ).loc main_arg6)) (ix1 x) := by
  blk_point [iblk, V, idx t]

/-- The first norm's shift is the whole vector. -/
theorem read7 (c : Dev nD) (t : Fin cfg0.N) (x : Fin 1024) :
    (show FVec Ideal S1x1024 .f32 from iblk m c 7 t) (ix2 0 x)
      = (show FVec Ideal S1024 .f32 from m ((c.tc : Thread nD τ).loc main_arg7)) (ix1 x) := by
  blk_point [iblk, V, idx t]

/-- The root-mean-square norm's scale is the whole vector. -/
theorem read9 (c : Dev nD) (t : Fin cfg0.N) (x : Fin 512) :
    (show FVec Ideal S1x512 .f32 from iblk m c 9 t) (ix2 0 x)
      = (show FVec Ideal S1x512 .f32 from m ((c.tc : Thread nD τ).loc main_arg8)) (ix2 0 x) := by
  blk_point [iblk, V, idx t]

/-- The output projection's block is the whole weight. -/
theorem read10 (c : Dev nD) (t : Fin cfg0.N) (k x : Fin 1024) :
    (show FVec Ideal S1024x1024 .bf16 from iblk m c 10 t) (ix2 k x)
      = (show FVec Ideal S1x1024x1024 .f32 from m ((c.tc : Thread nD τ).loc main_arg9)) (ix3 0 k x) := by
  blk_point [iblk, V, idx t]

/-- The second norm's scale is the whole vector. -/
theorem read11 (c : Dev nD) (t : Fin cfg0.N) (x : Fin 1024) :
    (show FVec Ideal S1x1024 .f32 from iblk m c 11 t) (ix2 0 x)
      = (show FVec Ideal S1x1024 .f32 from m ((c.tc : Thread nD τ).loc main_arg10)) (ix2 0 x) := by
  blk_point [iblk, V, idx t]

/-- The second norm's shift is the whole vector. -/
theorem read12 (c : Dev nD) (t : Fin cfg0.N) (x : Fin 1024) :
    (show FVec Ideal S1x1024 .f32 from iblk m c 12 t) (ix2 0 x)
      = (show FVec Ideal S1x1024 .f32 from m ((c.tc : Thread nD τ).loc main_arg11)) (ix2 0 x) := by
  blk_point [iblk, V, idx t]

/-- The expansion's block is the whole expansion. -/
theorem read8 (c : Dev nD) (t : Fin cfg0.N) (n : Fin 3) (l : Fin 128) (j : Fin 512) :
    (show FVec Ideal S3x128x512 .bf16 from iblk m c 8 t) (ix3 n l j) = gateTable (ix3 n l j) := by
  blk_simp [iblk]
  rw [V_gates]
  blk_ext [idx t]

/-- An entry of grid point `t`'s output block sits `512 t` rows down the result. -/
theorem emb13 (t : Fin cfg0.N) (r : Fin 512) (j : Fin 1024) :
    ((cfg0.win 13).blk t).view.emb (ix2 r j) = (ix2 ⟨t.val * 512 + r.val, by idx_bounds; omega⟩ j : S16384x1024.Idx) := by
  blk_ext [idx t]

end Cert.CombIdeal.Value
-- ==== Proof.CombValue.lean ====
module
public import proofs.«01_k».proof.Proof.CombRead
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.CombIdeal.Value
open Cert.CombIdeal Cert.CombIdeal.Gen Cert.Rows

variable (m : (ℓ : Loc nD τ sig) → Buf (Elt Ideal) ℓ)
  (m' : (ℓ : Loc Cert.CombRefIdeal.nD Cert.CombRefIdeal.τ Cert.CombRefIdeal.sig) → Buf (Elt Ideal) ℓ)

/-- The reference's rows run over the batch: row `w` is row `w % 2048` of batch entry `w / 2048`. -/
theorem rows_at (v : FVec Ideal S8x2048x1024 .f32) (w : Fin 16384) (j : Fin 1024) :
    (shapeCast Cert.CombRefIdeal.S16384x1024 (v : FVec Ideal Cert.CombRefIdeal.S8x2048x1024 .f32) Cert.CombRefIdeal.Gen.shapeCasts_S8x2048x1024_S16384x1024) (ix2 w j)
      = v (ix3 ⟨w.val / 2048, by omega⟩ ⟨w.val % 2048, by omega⟩ j) := by
  pointwise []

/-- A vector kept as one row, flattened. -/
theorem flat_at (v : FVec Ideal S1x1024 .f32) (j : Fin 1024) :
    (shapeCast Cert.CombRefIdeal.S1024 (v : FVec Ideal Cert.CombRefIdeal.S1x1024 .f32) Cert.CombRefIdeal.Gen.shapeCasts_S1x1024_S1024) (ix1 j) = v (ix2 0 j) := by
  pointwise []

/-- The kernel's result array is the reference's result. -/
theorem final (c : Dev nD) (h : SameArgs m m' c) :
    (dats m 0 c).arrAt 13 (cfgs 0).N = Cert.CombRefIdeal.Value.res_main_v100 m' c := by
  refine (dats m 0 c).arrAt_eq_of_covers 13 _ (by decide +kernel) fun t _ y => ?_
  blk_simp
  rw [after0_13]
  obtain ⟨h0, h1, h2, h3, h4, h5, h6, h7, h8, h9, h10, h11⟩ := h
  obtain ⟨r, j, rfl⟩ : ∃ (r : Fin 512) (j : Fin 1024), y = ix2 r j := ⟨y 0, y 1, by blk_ext []⟩
  refine (out_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (fun n l j => (read8 m c t n l j).trans (table_at n l j)) r j).trans ?_
  rw [Cert.CombRefIdeal.Value.res_eq, h0, h1, h2, h3, h4, h5, h6, h7, h8, h9, h10, h11]
  refine Eq.trans ?_ (congrArg _ (emb13 t r j)).symm
  refine Eq.trans ?_ (rows_at _ _ j).symm
  refine Eq.trans ?_ (Cert.CombRefIdeal.Value.lnTerm_at _ _ _ _ _ j).symm
  refine congrFun (congr (congr (congrArg lnRow (funext fun x => ?_)) (funext fun x => ?_)) (funext fun x => ?_)) j
  · refine Eq.trans ?_ (Cert.CombRefIdeal.Value.mixTerm_at _ _ _ _ _ _ x).symm
    refine congrFun (congr (congr (congrArg mixRow (funext fun k => ?_)) (congr (congrArg catRow (funext fun k => ?_)) (funext fun k => ?_))) (funext fun k => funext fun l => ?_)) x
    · refine Eq.trans ?_ (Cert.CombRefIdeal.Value.lnTerm_at _ _ _ _ _ k).symm
      refine congrFun (congr (congr (congrArg lnRow (funext fun x => ?_)) (funext fun x => ?_)) (funext fun x => ?_)) k
      · exact read0 m c t r x
      · exact read6 m c t x
      · exact read7 m c t x
    · exact read1 m c t r k
    · refine Eq.trans ?_ (Cert.CombRefIdeal.Value.rmsTerm_at _ _ _ _ k).symm
      refine congrFun (congr (congrArg rmsRow (funext fun k => ?_)) (funext fun x => ?_)) k
      · refine Eq.trans ?_ (Cert.CombRefIdeal.Value.gatedTerm_at _ _ _ _ _ _ k).symm
        refine congrFun (congr (congr (congr (congrArg gatedRow (funext fun n => funext fun h => funext fun g => ?_)) (funext fun x => ?_)) (funext fun x => ?_)) (funext fun x => ?_)) k
        · refine Eq.trans ?_ (Cert.CombRefIdeal.Value.gateTerm_at _ _ _ n h g).symm
          exact congrArg gateFn (read5 m c t r _)
        · exact read2 m c t r x
        · exact read3 m c t r x
        · exact read4 m c t r x
      · exact read9 m c t x
    · exact read10 m c t k l
  · exact (read11 m c t x).trans (flat_at _ x).symm
  · exact (read12 m c t x).trans (flat_at _ x).symm

end Cert.CombIdeal.Value
-- ==== Proof.FfnsRef.lean ====
module
public import proofs.«01_k».proof.Proof.Gen.FfnsRefIdeal.Run
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnsRefIdeal.Value
open Cert.FfnsRefIdeal Cert.FfnsRefIdeal.Gen Cert.Rows

/-- The sample reference's rows before normalisation, as its own operations. -/
def preTerm (H : FVec Ideal S128x8x1024 .f32) (U : FVec Ideal S1x1024x4096 .f32) (D : FVec Ideal S1x4096x1024 .f32) :
    FVec Ideal S128x8x1024 .f32 :=
  let up : FVec Ideal S128x8x4096 .f32 := maximumf (Host.dotGeneral dot_S128x8x1024_S1024x4096_S128x8x4096_2_0_01_1_n_n none H
    (shapeCast S1024x4096 U shapeCasts_S1x1024x4096_S1024x4096)) (broadcastInDim S128x8x4096 ![] bcast_S_S128x8x4096 (constant S_ .f32 0x00000000#32))
  addf (mulf (broadcastInDim S128x8x1024 ![] bcast_S_S128x8x1024 (constant S_ .f32 0x3F9837F0#32)) H)
    (Host.dotGeneral dot_S128x8x4096_S4096x1024_S128x8x1024_2_0_01_1_n_n none (mulf up up) (shapeCast S4096x1024 D shapeCasts_S1x4096x1024_S4096x1024))

/-- The sample reference's mean over the last axis, as its own operations. -/
def meanTerm (v : FVec Ideal S128x8x1024 .f32) : FVec Ideal S128x8x1 .f32 :=
  Host.divf (broadcastInDim S128x8x1 ![0, 1] bcast_S128x8_S128x8x1_0_1 (Host.reduceAdd v (constant S_ .f32 0x00000000#32) reducesTo_S128x8x1024_S128x8_d2 h_S_))
    (broadcastInDim S128x8x1 ![] bcast_S_S128x8x1 (constant S_ .f32 0x44800000#32))

/-- The sample reference's layer norm and final reshape, as its own operations. -/
def lnTerm (v : FVec Ideal S128x8x1024 .f32) (G B : FVec Ideal S1x1024 .f32) : FVec Ideal S1024x1024 .f32 :=
  let cen : FVec Ideal S128x8x1024 .f32 := subf v (broadcastInDim S128x8x1024 ![0, 1, 2] bcast_S128x8x1_S128x8x1024_0_1_2 (meanTerm v))
  shapeCast S1024x1024 (addf (mulf (mulf cen
      (broadcastInDim S128x8x1024 ![0, 1, 2] bcast_S128x8x1_S128x8x1024_0_1_2 (Host.rsqrt (addf (meanTerm (mulf cen cen)) (broadcastInDim S128x8x1 ![] bcast_S_S128x8x1 (constant S_ .f32 0x3727C5AC#32))))))
      (broadcastInDim S128x8x1024 ![0, 1, 2] bcast_S1x1x1024_S128x8x1024_0_1_2 (broadcastInDim S1x1x1024 ![2] bcast_S1024_S1x1x1024_2 (shapeCast S1024 G shapeCasts_S1x1024_S1024))))
      (broadcastInDim S128x8x1024 ![0, 1, 2] bcast_S1x1x1024_S128x8x1024_0_1_2 (broadcastInDim S1x1x1024 ![2] bcast_S1024_S1x1x1024_2 (shapeCast S1024 B shapeCasts_S1x1024_S1024))))
    shapeCasts_S128x8x1024_S1024x1024

/-- The sample reference's result is these operations over its arguments. -/
theorem res_eq (m : (ℓ : Loc nD τ sig) → Buf (Elt Ideal) ℓ) (c : Dev nD) :
    res_main_v35 m c = lnTerm (preTerm (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

/-- The sample reference's rows before normalisation, at an index. -/
theorem preTerm_at (H : FVec Ideal S128x8x1024 .f32) (U : FVec Ideal S1x1024x4096 .f32) (D : FVec Ideal S1x4096x1024 .f32)
    (b : Fin 128) (s : Fin 8) (j : Fin 1024) : preTerm H U D (ix3 b s j)
      = mlpRow (fun x => H (ix3 b s x)) (fun x k => U (ix3 0 x k)) (fun k x => D (ix3 0 k x)) j := by
  pointwise [preTerm, mlpRow]

/-- The sample reference's layer norm, at an index. -/
theorem lnTerm_at (v : FVec Ideal S128x8x1024 .f32) (G B : FVec Ideal S1x1024 .f32) (i : Fin 1024) (j : Fin 1024) :
    lnTerm v G B (ix2 i j) = lnRow (fun x => v (ix3 ⟨i.val / 8, by omega⟩ ⟨i.val % 8, by omega⟩ x))
      (fun x => G (ix2 0 x)) (fun x => B (ix2 0 x)) j := by
  pointwise [lnTerm, meanTerm, lnRow, rowMean]

end Cert.FfnsRefIdeal.Value
-- ==== Proof.FfnsValue.lean ====
module
public import proofs.«01_k».proof.Proof.FfnPay
public import proofs.«01_k».proof.Proof.Gen.FfnsIdeal.Value
public import proofs.«01_k».proof.Proof.FfnsRef
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnsIdeal.Value
open Cert.FfnsIdeal Cert.FfnsIdeal.Gen Cert.Rows
variable (m : (ℓ : Loc nD τ sig) → Buf (Elt Ideal) ℓ)
  (m' : (ℓ : Loc Cert.FfnsRefIdeal.nD Cert.FfnsRefIdeal.τ Cert.FfnsRefIdeal.sig) → Buf (Elt Ideal) ℓ)

/-- The windows' index maps at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reference's argument arrays are the kernel's. -/
abbrev SameArgs (c : Dev nD) : Prop :=
  m' ((c.tc : Thread Cert.FfnsRefIdeal.nD Cert.FfnsRefIdeal.τ).loc Cert.FfnsRefIdeal.main_arg0) = m ((c.tc : Thread nD τ).loc main_arg0)
  ∧ m' ((c.tc : Thread Cert.FfnsRefIdeal.nD Cert.FfnsRefIdeal.τ).loc Cert.FfnsRefIdeal.main_arg1) = m ((c.tc : Thread nD τ).loc main_arg1)
  ∧ m' ((c.tc : Thread Cert.FfnsRefIdeal.nD Cert.FfnsRefIdeal.τ).loc Cert.FfnsRefIdeal.main_arg2) = m ((c.tc : Thread nD τ).loc main_arg2)
  ∧ m' ((c.tc : Thread Cert.FfnsRefIdeal.nD Cert.FfnsRefIdeal.τ).loc Cert.FfnsRefIdeal.main_arg3) = m ((c.tc : Thread nD τ).loc main_arg3)
  ∧ m' ((c.tc : Thread Cert.FfnsRefIdeal.nD Cert.FfnsRefIdeal.τ).loc Cert.FfnsRefIdeal.main_arg4) = m ((c.tc : Thread nD τ).loc main_arg4)

/-- The hidden rows' block, read at the reference's array. -/
theorem read0 (c : Dev nD) (t : Fin cfg0.N) (r : Fin 512) (x : Fin 1024) :
    (show FVec Ideal S512x1024 .f32 from iblk m c 0 t) (ix2 r x)
      = (show FVec Ideal S128x8x1024 .f32 from m ((c.tc : Thread nD τ).loc main_arg0))
          (ix3 ⟨(t.val * 512 + r.val) / 8, by idx_bounds; omega⟩ ⟨(t.val * 512 + r.val) % 8, by omega⟩ x) := by
  blk_point [iblk, V, idx t]

/-- The up-projection's block is the whole weight. -/
theorem read1 (c : Dev nD) (t : Fin cfg0.N) (x : Fin 1024) (k : Fin 4096) :
    (show FVec Ideal S1024x4096 .bf16 from iblk m c 1 t) (ix2 x k)
      = (show FVec Ideal S1x1024x4096 .f32 from m ((c.tc : Thread nD τ).loc main_arg1)) (ix3 0 x k) := by
  blk_point [iblk, V, idx t]

/-- The down-projection's block is the whole weight. -/
theorem read2 (c : Dev nD) (t : Fin cfg0.N) (k : Fin 4096) (x : Fin 1024) :
    (show FVec Ideal S4096x1024 .bf16 from iblk m c 2 t) (ix2 k x)
      = (show FVec Ideal S1x4096x1024 .f32 from m ((c.tc : Thread nD τ).loc main_arg2)) (ix3 0 k x) := by
  blk_point [iblk, V, idx t]

/-- The scale's block is the whole vector. -/
theorem read3 (c : Dev nD) (t : Fin cfg0.N) (x : Fin 1024) :
    (show FVec Ideal S1x1024 .f32 from iblk m c 3 t) (ix2 0 x)
      = (show FVec Ideal S1x1024 .f32 from m ((c.tc : Thread nD τ).loc main_arg3)) (ix2 0 x) := by
  blk_point [iblk, V, idx t]

/-- The shift's block is the whole vector. -/
theorem read4 (c : Dev nD) (t : Fin cfg0.N) (x : Fin 1024) :
    (show FVec Ideal S1x1024 .f32 from iblk m c 4 t) (ix2 0 x)
      = (show FVec Ideal S1x1024 .f32 from m ((c.tc : Thread nD τ).loc main_arg4)) (ix2 0 x) := by
  blk_point [iblk, V, idx t]

/-- An entry of grid point `t`'s output block sits `512 t` rows down the result. -/
theorem emb5 (t : Fin cfg0.N) (r : Fin 512) (j : Fin 1024) :
    ((cfg0.win 5).blk t).view.emb (ix2 r j) = (ix2 ⟨t.val * 512 + r.val, by idx_bounds; omega⟩ j : S1024x1024.Idx) := by
  blk_ext [idx t]

/-- The kernel's result array is the reference's result. -/
theorem final (c : Dev nD) (h : SameArgs m m' c) :
    (dats m 0 c).arrAt 5 (cfgs 0).N = Cert.FfnsRefIdeal.Value.res_main_v35 m' c := by
  refine (dats m 0 c).arrAt_eq_of_covers 5 _ (by decide +kernel) fun t _ y => ?_
  blk_simp
  rw [after0_5]; frame_out
  obtain ⟨h0, h1, h2, h3, h4⟩ := h
  obtain ⟨r, j, rfl⟩ : ∃ (r : Fin 512) (j : Fin 1024), y = ix2 r j := ⟨y 0, y 1, by blk_ext []⟩
  refine (Cert.FfnIdeal.Value.pay_at (iblk m c 0 t) (iblk m c 1 t) (iblk m c 2 t) (iblk m c 3 t) (iblk m c 4 t) r j).trans ?_
  rw [Cert.FfnsRefIdeal.Value.res_eq, h0, h1, h2, h3, h4]
  refine Eq.trans ?_ (congrArg _ (emb5 t r j)).symm
  refine Eq.trans ?_ (Cert.FfnsRefIdeal.Value.lnTerm_at _ _ _ _ j).symm
  congr 1
  · funext x
    refine Eq.trans ?_ (Cert.FfnsRefIdeal.Value.preTerm_at _ _ _ _ _ x).symm
    congr 1
    · funext x; exact read0 m c t r x
    · funext x k; exact read1 m c t x k
    · funext k x; exact read2 m c t k x
  · funext x; exact read3 m c t x
  · funext x; exact read4 m c t x

end Cert.FfnsIdeal.Value
-- ==== Proof.ProjsPay.lean ====
module
public import proofs.«01_k».proof.Proof.Gen.ProjsIdeal.Frame
public import proofs.«01_k».proof.Proof.Rows
public import proofs.«01_k».proof.Proof.ProjPay
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsIdeal.Value
open Cert.ProjsIdeal Cert.ProjsIdeal.Gen Cert.Rows
open Cert.ProjIdeal.Value (rowDot)

variable (x0 : FVec Ideal S512x1024 .f32) (x1 x2 : FVec Ideal S1x1024 .f32) (x3 : FVec Ideal S1024x2944 .bf16)

/-- The normalised rows of the block: the prompt call's operations, so its lemma. -/
theorem ln_at (r : Fin 512) (j : Fin 1024) : k0_pay6 (F := Ideal) x0 x1 x2 (ix2 r j)
    = lnRow (fun x => x0 (ix2 r x)) (fun x => x1 (ix2 0 x)) (fun x => x2 (ix2 0 x)) j := Cert.ProjIdeal.Value.ln_at x0 x1 x2 r j

/-- The normalised rows, read through whole-block loads. -/
theorem pay9_eq : k0_pay9 (F := Ideal) x0 x1 x2 x3 = k0_pay6 x0 x1 x2 := by
  unfold k0_pay9
  frame_out

/-- The payload stored for `z`, at an index of its block. -/
theorem z_at (r : Fin 512) (j : Fin 512) : k0_pay7 (F := Ideal) x0 x1 x2 (View.ld (x3 : Vec Ideal S1024x2944 .bf16) r0_2) (ix2 r j) = rowDot x0 x1 x2 x3 r ⟨j.val, by omega⟩ := by
  pointwise [k0_pay7, rowDot, ln_at]

/-- The payload stored for `xbc`, at an index of its block. -/
theorem xbc_at (r : Fin 512) (j : Fin 1024) : k0_pay8 (F := Ideal) x0 x1 x2 (View.ld (x3 : Vec Ideal S1024x2944 .bf16) r0_4) (ix2 r j) = rowDot x0 x1 x2 x3 r ⟨512 + j.val, by omega⟩ := by
  pointwise [k0_pay8, rowDot, ln_at]

/-- The payload stored for `q`, at an index of its block. -/
theorem q_at (r : Fin 512) (j : Fin 512) : k0_pay1 (F := Ideal) (k0_pay6 x0 x1 x2) (View.ld (x3 : Vec Ideal S1024x2944 .bf16) r0_5) (ix2 r j) = rowDot x0 x1 x2 x3 r ⟨1536 + j.val, by omega⟩ := by
  pointwise [k0_pay1, rowDot, ln_at]

/-- The payload stored for `kvc`, at an index of its block. -/
theorem kvc_at (r : Fin 512) (j : Fin 256) : k0_pay2 (F := Ideal) (k0_pay6 x0 x1 x2) (View.ld (x3 : Vec Ideal S1024x2944 .bf16) r0_6) (ix2 r j) = rowDot x0 x1 x2 x3 r ⟨2048 + j.val, by omega⟩ := by
  pointwise [k0_pay2, rowDot, ln_at]

/-- The payload stored for `kvs`, at an index of its block. -/
theorem kvs_at (r : Fin 512) (j : Fin 256) : k0_pay3 (F := Ideal) (k0_pay6 x0 x1 x2) (View.ld (x3 : Vec Ideal S1024x2944 .bf16) r0_8) (ix2 r j) = rowDot x0 x1 x2 x3 r ⟨2304 + j.val, by omega⟩ := by
  pointwise [k0_pay3, rowDot, ln_at]

/-- The payload stored for `kvw`, at an index of its block. -/
theorem kvw_at (r : Fin 512) (j : Fin 256) : k0_pay4 (F := Ideal) (k0_pay6 x0 x1 x2) (View.ld (x3 : Vec Ideal S1024x2944 .bf16) r0_9) (ix2 r j) = rowDot x0 x1 x2 x3 r ⟨2560 + j.val, by omega⟩ := by
  pointwise [k0_pay4, rowDot, ln_at]

/-- The payload stored for `small`, at an index of its block. -/
theorem small_at (r : Fin 512) (j : Fin 128) : k0_pay5 (F := Ideal) (k0_pay6 x0 x1 x2) (View.ld (x3 : Vec Ideal S1024x2944 .bf16) r0_10) (ix2 r j) = rowDot x0 x1 x2 x3 r ⟨2816 + j.val, by omega⟩ := by
  pointwise [k0_pay5, rowDot, ln_at]

end Cert.ProjsIdeal.Value
-- ==== Proof.ProjsRef.lean ====
module
public import proofs.«01_k».proof.Proof.Gen.ProjsRefIdeal.Run
public import proofs.«01_k».proof.Proof.Rows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsRefIdeal.Value
open Cert.ProjsRefIdeal Cert.ProjsRefIdeal.Gen Cert.Rows

/-- The sample reference's mean over the last axis, as its own operations. -/
def meanTerm (v : FVec Ideal S128x8x1024 .f32) : FVec Ideal S128x8x1 .f32 :=
  Host.divf (broadcastInDim S128x8x1 ![0, 1] bcast_S128x8_S128x8x1_0_1 (Host.reduceAdd v (constant S_ .f32 0x00000000#32) reducesTo_S128x8x1024_S128x8_d2 h_S_))
    (broadcastInDim S128x8x1 ![] bcast_S_S128x8x1 (constant S_ .f32 0x44800000#32))

/-- The sample reference's projection of the normalised rows, before it is split, as its own operations. -/
def projTerm (v : FVec Ideal S128x8x1024 .f32) (G B : FVec Ideal S1024 .f32) (W : FVec Ideal S1x1024x2848 .f32) : FVec Ideal S128x8x2848 .f32 :=
  let cen : FVec Ideal S128x8x1024 .f32 := subf v (broadcastInDim S128x8x1024 ![0, 1, 2] bcast_S128x8x1_S128x8x1024_0_1_2 (meanTerm v))
  Host.dotGeneral dot_S128x8x1024_S1024x2848_S128x8x2848_2_0_01_1_n_n none
    (addf (mulf (mulf cen
      (broadcastInDim S128x8x1024 ![0, 1, 2] bcast_S128x8x1_S128x8x1024_0_1_2 (Host.rsqrt (addf (meanTerm (mulf cen cen)) (broadcastInDim S128x8x1 ![] bcast_S_S128x8x1 (constant S_ .f32 0x3727C5AC#32))))))
      (broadcastInDim S128x8x1024 ![0, 1, 2] bcast_S1x1x1024_S128x8x1024_0_1_2 (broadcastInDim S1x1x1024 ![2] bcast_S1024_S1x1x1024_2 G)))
      (broadcastInDim S128x8x1024 ![0, 1, 2] bcast_S1x1x1024_S128x8x1024_0_1_2 (broadcastInDim S1x1x1024 ![2] bcast_S1024_S1x1x1024_2 B)))
    (shapeCast S1024x2848 W shapeCasts_S1x1024x2848_S1024x2848)

/-- The sample reference's projection, at an index. -/
theorem projTerm_at (v : FVec Ideal S128x8x1024 .f32) (G B : FVec Ideal S1024 .f32) (W : FVec Ideal S1x1024x2848 .f32) (b : Fin 128) (s : Fin 8) (e : Fin 2848) :
    projTerm v G B W (ix3 b s e) = ∑ x, lnRow (fun x => v (ix3 b s x)) (fun x => G (ix1 x)) (fun x => B (ix1 x)) x * W (ix3 0 x e) := by
  pointwise [projTerm, meanTerm, lnRow, rowMean]

/-- `z`, the gate of the state-space branch: columns 0 to 511. -/
abbrev zTerm (u : FVec Ideal S128x8x2848 .f32) : FVec Ideal S1024x512 .f32 :=
  shapeCast _ (extractStridedSlice S128x8x512 ![0, 0, 0] u slices_S128x8x2848_S128x8x512_0_0_0) shapeCasts_S128x8x512_S1024x512
/-- `xbc`, the input of the convolution: columns 512 to 1535. -/
abbrev xbcTerm (u : FVec Ideal S128x8x2848 .f32) : FVec Ideal S1024x1024 .f32 :=
  shapeCast _ (extractStridedSlice S128x8x1024 ![0, 0, 512] u slices_S128x8x2848_S128x8x1024_0_0_512) shapeCasts_S128x8x1024_S1024x1024
/-- `q`, the scaled queries: columns 1544 to 2055. -/
abbrev qTerm (u : FVec Ideal S128x8x2848 .f32) : FVec Ideal S1024x512 .f32 :=
  mulf (shapeCast S1024x512 (extractStridedSlice S128x8x512 ![0, 0, 1544] u slices_S128x8x2848_S128x8x512_0_0_1544) shapeCasts_S128x8x512_S1024x512)
    (broadcastInDim S1024x512 ![] bcast_S_S1024x512 (constant S_ .f32 0x3E000000#32))
/-- The compressed branch's keys and values: columns 2056 to 2311. -/
abbrev kvcTerm (u : FVec Ideal S128x8x2848 .f32) : FVec Ideal S1024x256 .f32 :=
  shapeCast _ (extractStridedSlice S128x8x256 ![0, 0, 2056] u slices_S128x8x2848_S128x8x256_0_0_2056) shapeCasts_S128x8x256_S1024x256
/-- The selected branch's keys and values: columns 2312 to 2567. -/
abbrev kvsTerm (u : FVec Ideal S128x8x2848 .f32) : FVec Ideal S1024x256 .f32 :=
  shapeCast _ (extractStridedSlice S128x8x256 ![0, 0, 2312] u slices_S128x8x2848_S128x8x256_0_0_2312) shapeCasts_S128x8x256_S1024x256
/-- The window branch's keys and values: columns 2568 to 2823. -/
abbrev kvwTerm (u : FVec Ideal S128x8x2848 .f32) : FVec Ideal S1024x256 .f32 :=
  shapeCast _ (extractStridedSlice S128x8x256 ![0, 0, 2568] u slices_S128x8x2848_S128x8x256_0_0_2568) shapeCasts_S128x8x256_S1024x256
/-- The time steps and gates, padded to 128 columns with zeros: columns 1536 to 1543 and 2824 to 2847. -/
abbrev smallTerm (u : FVec Ideal S128x8x2848 .f32) : FVec Ideal S1024x128 .f32 :=
  shapeCast _ (pad S128x8x128 ![0, 0, 0] ![0, 0, 96] ![0, 0, 0] (concatenate S128x8x32 2 [⟨S128x8x8, (extractStridedSlice S128x8x8 ![0, 0, 1536] u slices_S128x8x2848_S128x8x8_0_0_1536)⟩, ⟨S128x8x24, (extractStridedSlice S128x8x24 ![0, 0, 2824] u slices_S128x8x2848_S128x8x24_0_0_2824)⟩] concatenates_S128x8x8_S128x8x24_S128x8x32_d2) (sitofp .f32 (constantI S_ 32 0#32)) pads_S128x8x32_S128x8x128_000_000_0960 h_S_) shapeCasts_S128x8x128_S1024x128

end Cert.ProjsRefIdeal.Value
-- ==== Proof.ProjsHost.lean ====
module
public import proofs.«01_k».proof.Proof.ProjsPay
public import proofs.«01_k».proof.Proof.ProjsRef
public import proofs.«01_k».proof.Proof.ProjSmall
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsIdeal.Value
open Cert.ProjsIdeal Cert.ProjsIdeal.Gen Cert.Rows Idealize.ShloMosaic.StableHlo

open Cert.ProjIdeal.Value (prepW)

variable (m : (ℓ : Loc nD τ sig) → Buf (Elt Ideal) ℓ)

/-- The kernel's rows, at their literal type. -/
abbrev xArg (c : Dev nD) : FVec Ideal S128x8x1024 .f32 := m ((c.tc : Thread nD τ).loc main_arg0)
/-- The layer norm's scale, at its literal type. -/
abbrev gArg (c : Dev nD) : FVec Ideal S1024 .f32 := m ((c.tc : Thread nD τ).loc main_arg1)
/-- The layer norm's shift, at its literal type. -/
abbrev bArg (c : Dev nD) : FVec Ideal S1024 .f32 := m ((c.tc : Thread nD τ).loc main_arg2)
/-- The projection's weight, at its literal type. -/
abbrev wArg (c : Dev nD) : FVec Ideal S1x1024x2848 .f32 := m ((c.tc : Thread nD τ).loc main_arg3)

/-- The windows' index maps at every grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-- Host: the rows, batch and position flattened. -/
theorem v0_eq (c : Dev nD) : V m c main_v0 = shapeCast S1024x1024 (xArg m c) shapeCasts_S128x8x1024_S1024x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the scale as one row. -/
theorem v1_eq (c : Dev nD) : V m c main_v1 = shapeCast S1x1024 (gArg m c) shapeCasts_S1024_S1x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the shift as one row. -/
theorem v2_eq (c : Dev nD) : V m c main_v2 = shapeCast S1x1024 (bArg m c) shapeCasts_S1024_S1x1024 := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- Host: the prepared weight is the prompt call's, of the same raw weight. -/
theorem v17_eq (c : Dev nD) : V m c main_v17 = prepW (wArg m c) := by
  show StableHlo.after ([hostOps0, hostOps0_1, hostOps0_2].flatten) _ _ = _
  simp only [hostOps0, hostOps0_1, hostOps0_2, List.flatten_cons, List.flatten_nil, List.append_nil, List.cons_append, List.nil_append, TRef.binary, TRef.nullary, TRef.unary, TRef.toBuf, TRef.ofBuf, cast_eq]
  after_results_simp <;> rfl

/-- The rows' block, read at the argument. -/
theorem read0 (c : Dev nD) (t : Fin cfg0.N) (r : Fin 512) (x : Fin 1024) :
    (show FVec Ideal S512x1024 .f32 from iblk m c 0 t) (ix2 r x)
      = xArg m c (ix3 ⟨(t.val * 512 + r.val) / 8, by idx_bounds; omega⟩ ⟨(t.val * 512 + r.val) % 8, by omega⟩ x) := by
  blk_simp [iblk]
  rw [v0_eq]
  pointwise
  blk_ext [idx t]

/-- The scale's block is the whole vector. -/
theorem read1 (c : Dev nD) (t : Fin cfg0.N) (x : Fin 1024) :
    (show FVec Ideal S1x1024 .f32 from iblk m c 1 t) (ix2 0 x) = gArg m c (ix1 x) := by
  blk_simp [iblk]
  rw [v1_eq]
  pointwise
  blk_ext [idx t]

/-- The shift's block is the whole vector. -/
theorem read2 (c : Dev nD) (t : Fin cfg0.N) (x : Fin 1024) :
    (show FVec Ideal S1x1024 .f32 from iblk m c 2 t) (ix2 0 x) = bArg m c (ix1 x) := by
  blk_simp [iblk]
  rw [v2_eq]
  pointwise
  blk_ext [idx t]

/-- The weight's block is the whole prepared weight. -/
theorem read3 (c : Dev nD) (t : Fin cfg0.N) (x : Fin 1024) (e : Fin 2944) :
    (show FVec Ideal S1024x2944 .bf16 from iblk m c 3 t) (ix2 x e) = prepW (wArg m c) (ix2 x e) := by
  blk_simp [iblk]
  rw [v17_eq]
  blk_ext [idx t]

end Cert.ProjsIdeal.Value
-- ==== Proof.ProjsRows.lean ====
module
public import proofs.«01_k».proof.Proof.ProjsHost
public import proofs.«01_k».proof.Proof.ProjsRef
public import proofs.«01_k».proof.Proof.ProjRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsIdeal.Value
open Cert.ProjsIdeal Cert.ProjsIdeal.Gen Cert.Rows Cert.ProjsRefIdeal.Value

open Cert.ProjIdeal.Value (rowDot prepW prepW_z prepW_xbc prepW_q prepW_kvc prepW_kvs prepW_kvw prepW_dt prepW_gate prepW_pad eighth sum_mul_real)

variable (m : (ℓ : Loc nD τ sig) → Buf (Elt Ideal) ℓ)

/-- The reference's projection of the kernel's arguments, before it is split. -/
abbrev uArg (c : Dev nD) : FVec Ideal Cert.ProjsRefIdeal.S128x8x2848 .f32 := projTerm (xArg m c) (gArg m c) (bArg m c) (wArg m c)

/-- Row `r` of grid point `t`'s block, normalised, is the row it came from, normalised. -/
abbrev lnArg (c : Dev nD) (i : Fin 1024) : Fin 1024 → EReal :=
  lnRow (fun x => xArg m c (ix3 ⟨i.val / 8, by omega⟩ ⟨i.val % 8, by omega⟩ x)) (fun x => gArg m c (ix1 x)) (fun x => bArg m c (ix1 x))

/-- A block's row times a prepared column. -/
theorem rowDot_eq (c : Dev nD) (t : Fin cfg0.N) (r : Fin 512) (e : Fin 2944) :
    rowDot (iblk m c 0 t) (iblk m c 1 t) (iblk m c 2 t) (iblk m c 3 t) r e
      = ∑ x, lnArg m c ⟨t.val * 512 + r.val, by idx_bounds; omega⟩ x * prepW (wArg m c) (ix2 x e) := by
  unfold rowDot lnArg
  refine Finset.sum_congr rfl fun x _ => ?_
  congr 1
  · congr 1
    · funext x; exact read0 m c t r x
    · funext x; exact read1 m c t x
    · funext x; exact read2 m c t x
  · exact read3 m c t x e

/-- A block's row times a prepared column that is a raw one is the reference's projection. -/
theorem rowDot_raw (c : Dev nD) (t : Fin cfg0.N) (r : Fin 512) (e : Fin 2944) (e' : Fin 2848)
    (h : ∀ x, prepW (wArg m c) (ix2 x e) = wArg m c (ix3 0 x e')) :
    rowDot (iblk m c 0 t) (iblk m c 1 t) (iblk m c 2 t) (iblk m c 3 t) r e
      = uArg m c (ix3 ⟨(t.val * 512 + r.val) / 8, by idx_bounds; omega⟩ ⟨(t.val * 512 + r.val) % 8, by omega⟩ e') := by
  refine (rowDot_eq m c t r e).trans (Eq.trans ?_ (projTerm_at _ _ _ _ _ _ _).symm)
  exact Finset.sum_congr rfl fun x _ => by rw [h x]

/-- A block's row times a scaled column is the reference's projection, scaled. -/
theorem rowDot_q (c : Dev nD) (t : Fin cfg0.N) (r : Fin 512) (j : Fin 512) :
    rowDot (iblk m c 0 t) (iblk m c 1 t) (iblk m c 2 t) (iblk m c 3 t) r ⟨1536 + j.val, by omega⟩
      = uArg m c (ix3 ⟨(t.val * 512 + r.val) / 8, by idx_bounds; omega⟩ ⟨(t.val * 512 + r.val) % 8, by omega⟩ ⟨1544 + j.val, by omega⟩)
        * Ideal.ofBits FTy.f32 0x3E000000#32 := by
  refine (rowDot_eq m c t r _).trans (Eq.trans ?_ (congrArg (· * _) (projTerm_at _ _ _ _ _ _ _).symm))
  rw [eighth, ← sum_mul_real _ _ (by norm_num)]
  refine Finset.sum_congr rfl fun x _ => ?_
  rw [prepW_q, eighth, mul_assoc]

/-- A block's row times a padding column is zero. -/
theorem rowDot_pad (c : Dev nD) (t : Fin cfg0.N) (r : Fin 512) (j : Fin 96) :
    rowDot (iblk m c 0 t) (iblk m c 1 t) (iblk m c 2 t) (iblk m c 3 t) r ⟨2848 + j.val, by omega⟩ = 0 := by
  refine (rowDot_eq m c t r _).trans (Finset.sum_eq_zero fun x _ => ?_)
  rw [prepW_pad, mul_zero]

end Cert.ProjsIdeal.Value
-- ==== Proof.ProjsFinal.lean ====
module
public import proofs.«01_k».proof.Proof.ProjsRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsIdeal.Value
open Cert.ProjsIdeal Cert.ProjsIdeal.Gen Cert.Rows Cert.ProjsRefIdeal.Value

open Cert.ProjIdeal.Value (rowDot prepW_z prepW_xbc prepW_kvc prepW_kvs prepW_kvw prepW_dt prepW_gate)

variable (m : (ℓ : Loc nD τ sig) → Buf (Elt Ideal) ℓ)

/-- Where an entry of grid point `t`'s block of `z` sits in the array. -/
theorem emb4 (t : Fin cfg0.N) (r : Fin 512) (j : Fin 512) :
    ((cfg0.win 4).blk t).view.emb (ix2 r j) = (ix2 ⟨t.val * 512 + r.val, by idx_bounds; omega⟩ j : S1024x512.Idx) := by
  blk_ext [idx t]

/-- The kernel's `z` is the reference's. -/
theorem final_z (c : Dev nD) : (dats m 0 c).arrAt 4 (cfgs 0).N = zTerm (uArg m c) := by
  refine (dats m 0 c).arrAt_eq_of_covers 4 _ (by decide +kernel) fun t _ y => ?_
  blk_simp
  rw [after0_4]; frame_out
  obtain ⟨r, j, rfl⟩ : ∃ (r : Fin 512) (j : Fin 512), y = ix2 r j := ⟨y 0, y 1, by blk_ext []⟩
  refine (z_at (iblk m c 0 t) (iblk m c 1 t) (iblk m c 2 t) (iblk m c 3 t) r j).trans ?_
  refine Eq.trans ?_ (congrArg _ (emb4 t r j)).symm
  refine (rowDot_raw m c t r _ ⟨j.val, by omega⟩ fun x => prepW_z _ x j).trans ?_
  pointwise [zTerm]

/-- Where an entry of grid point `t`'s block of `xbc` sits in the array. -/
theorem emb5 (t : Fin cfg0.N) (r : Fin 512) (j : Fin 1024) :
    ((cfg0.win 5).blk t).view.emb (ix2 r j) = (ix2 ⟨t.val * 512 + r.val, by idx_bounds; omega⟩ j : S1024x1024.Idx) := by
  blk_ext [idx t]

/-- The kernel's `xbc` is the reference's. -/
theorem final_xbc (c : Dev nD) : (dats m 0 c).arrAt 5 (cfgs 0).N = xbcTerm (uArg m c) := by
  refine (dats m 0 c).arrAt_eq_of_covers 5 _ (by decide +kernel) fun t _ y => ?_
  blk_simp
  rw [after0_5]; frame_out
  obtain ⟨r, j, rfl⟩ : ∃ (r : Fin 512) (j : Fin 1024), y = ix2 r j := ⟨y 0, y 1, by blk_ext []⟩
  refine (xbc_at (iblk m c 0 t) (iblk m c 1 t) (iblk m c 2 t) (iblk m c 3 t) r j).trans ?_
  refine Eq.trans ?_ (congrArg _ (emb5 t r j)).symm
  refine (rowDot_raw m c t r _ ⟨512 + j.val, by omega⟩ fun x => prepW_xbc _ x j).trans ?_
  pointwise [xbcTerm]

/-- Where an entry of grid point `t`'s block of `q` sits in the array. -/
theorem emb6 (t : Fin cfg0.N) (r : Fin 512) (j : Fin 512) :
    ((cfg0.win 6).blk t).view.emb (ix2 r j) = (ix2 ⟨t.val * 512 + r.val, by idx_bounds; omega⟩ j : S1024x512.Idx) := by
  blk_ext [idx t]

/-- The kernel's `q` is the reference's. -/
theorem final_q (c : Dev nD) : (dats m 0 c).arrAt 6 (cfgs 0).N = qTerm (uArg m c) := by
  refine (dats m 0 c).arrAt_eq_of_covers 6 _ (by decide +kernel) fun t _ y => ?_
  blk_simp
  rw [after0_6]; frame_out
  obtain ⟨r, j, rfl⟩ : ∃ (r : Fin 512) (j : Fin 512), y = ix2 r j := ⟨y 0, y 1, by blk_ext []⟩
  erw [pay9_eq]
  refine (q_at (iblk m c 0 t) (iblk m c 1 t) (iblk m c 2 t) (iblk m c 3 t) r j).trans ?_
  refine Eq.trans ?_ (congrArg _ (emb6 t r j)).symm
  refine (rowDot_q m c t r j).trans ?_
  pointwise [qTerm]

/-- Where an entry of grid point `t`'s block of `kvc` sits in the array. -/
theorem emb7 (t : Fin cfg0.N) (r : Fin 512) (j : Fin 256) :
    ((cfg0.win 7).blk t).view.emb (ix2 r j) = (ix2 ⟨t.val * 512 + r.val, by idx_bounds; omega⟩ j : S1024x256.Idx) := by
  blk_ext [idx t]

/-- The kernel's `kvc` is the reference's. -/
theorem final_kvc (c : Dev nD) : (dats m 0 c).arrAt 7 (cfgs 0).N = kvcTerm (uArg m c) := by
  refine (dats m 0 c).arrAt_eq_of_covers 7 _ (by decide +kernel) fun t _ y => ?_
  blk_simp
  rw [after0_7]; frame_out
  obtain ⟨r, j, rfl⟩ : ∃ (r : Fin 512) (j : Fin 256), y = ix2 r j := ⟨y 0, y 1, by blk_ext []⟩
  erw [pay9_eq]
  refine (kvc_at (iblk m c 0 t) (iblk m c 1 t) (iblk m c 2 t) (iblk m c 3 t) r j).trans ?_
  refine Eq.trans ?_ (congrArg _ (emb7 t r j)).symm
  refine (rowDot_raw m c t r _ ⟨2056 + j.val, by omega⟩ fun x => prepW_kvc _ x j).trans ?_
  pointwise [kvcTerm]

/-- Where an entry of grid point `t`'s block of `kvs` sits in the array. -/
theorem emb8 (t : Fin cfg0.N) (r : Fin 512) (j : Fin 256) :
    ((cfg0.win 8).blk t).view.emb (ix2 r j) = (ix2 ⟨t.val * 512 + r.val, by idx_bounds; omega⟩ j : S1024x256.Idx) := by
  blk_ext [idx t]

/-- The kernel's `kvs` is the reference's. -/
theorem final_kvs (c : Dev nD) : (dats m 0 c).arrAt 8 (cfgs 0).N = kvsTerm (uArg m c) := by
  refine (dats m 0 c).arrAt_eq_of_covers 8 _ (by decide +kernel) fun t _ y => ?_
  blk_simp
  rw [after0_8]; frame_out
  obtain ⟨r, j, rfl⟩ : ∃ (r : Fin 512) (j : Fin 256), y = ix2 r j := ⟨y 0, y 1, by blk_ext []⟩
  erw [pay9_eq]
  refine (kvs_at (iblk m c 0 t) (iblk m c 1 t) (iblk m c 2 t) (iblk m c 3 t) r j).trans ?_
  refine Eq.trans ?_ (congrArg _ (emb8 t r j)).symm
  refine (rowDot_raw m c t r _ ⟨2312 + j.val, by omega⟩ fun x => prepW_kvs _ x j).trans ?_
  pointwise [kvsTerm]

/-- Where an entry of grid point `t`'s block of `kvw` sits in the array. -/
theorem emb9 (t : Fin cfg0.N) (r : Fin 512) (j : Fin 256) :
    ((cfg0.win 9).blk t).view.emb (ix2 r j) = (ix2 ⟨t.val * 512 + r.val, by idx_bounds; omega⟩ j : S1024x256.Idx) := by
  blk_ext [idx t]

/-- The kernel's `kvw` is the reference's. -/
theorem final_kvw (c : Dev nD) : (dats m 0 c).arrAt 9 (cfgs 0).N = kvwTerm (uArg m c) := by
  refine (dats m 0 c).arrAt_eq_of_covers 9 _ (by decide +kernel) fun t _ y => ?_
  blk_simp
  rw [after0_9]; frame_out
  obtain ⟨r, j, rfl⟩ : ∃ (r : Fin 512) (j : Fin 256), y = ix2 r j := ⟨y 0, y 1, by blk_ext []⟩
  erw [pay9_eq]
  refine (kvw_at (iblk m c 0 t) (iblk m c 1 t) (iblk m c 2 t) (iblk m c 3 t) r j).trans ?_
  refine Eq.trans ?_ (congrArg _ (emb9 t r j)).symm
  refine (rowDot_raw m c t r _ ⟨2568 + j.val, by omega⟩ fun x => prepW_kvw _ x j).trans ?_
  pointwise [kvwTerm]

/-- Where an entry of grid point `t`'s block of the small columns sits in the array. -/
theorem emb10 (t : Fin cfg0.N) (r : Fin 512) (j : Fin 128) :
    ((cfg0.win 10).blk t).view.emb (ix2 r j) = (ix2 ⟨t.val * 512 + r.val, by idx_bounds; omega⟩ j : S1024x128.Idx) := by
  blk_ext [idx t]

variable (u : FVec Ideal Cert.ProjsRefIdeal.S128x8x2848 .f32)

/-- The time-step columns of the reference's small result. -/
theorem small_dt (i : Fin 1024) (j : Fin 8) : smallTerm u (ix2 i ⟨j.val, by omega⟩) = u (ix3 ⟨i.val / 8, by omega⟩ ⟨i.val % 8, by omega⟩ ⟨1536 + j.val, by omega⟩) := by
  pointwise [smallTerm]
  rw [dif_pos (by omega)]

/-- The gate columns of the reference's small result. -/
theorem small_gate (i : Fin 1024) (j : Fin 24) : smallTerm u (ix2 i ⟨8 + j.val, by omega⟩) = u (ix3 ⟨i.val / 8, by omega⟩ ⟨i.val % 8, by omega⟩ ⟨2824 + j.val, by omega⟩) := by
  pointwise [smallTerm]
  rw [dif_pos (by omega)]

/-- The padding columns of the reference's small result. -/
theorem small_pad (i : Fin 1024) (j : Fin 96) : smallTerm u (ix2 i ⟨32 + j.val, by omega⟩) = 0 := by
  pointwise [smallTerm]
  rw [dif_neg (by simp)]
  simp [FloatOps.sitofp]

/-- A row of 128 numbers agrees with the reference's small result when its three parts do. -/
theorem small_split (i : Fin 1024) (f : Fin 128 → EReal)
    (h1 : ∀ j : Fin 8, f ⟨j.val, by omega⟩ = u (ix3 ⟨i.val / 8, by omega⟩ ⟨i.val % 8, by omega⟩ ⟨1536 + j.val, by omega⟩))
    (h2 : ∀ j : Fin 24, f ⟨8 + j.val, by omega⟩ = u (ix3 ⟨i.val / 8, by omega⟩ ⟨i.val % 8, by omega⟩ ⟨2824 + j.val, by omega⟩))
    (h3 : ∀ j : Fin 96, f ⟨32 + j.val, by omega⟩ = 0) (j : Fin 128) : f j = smallTerm u (ix2 i j) := by
  rcases lt_or_ge j.val 8 with h | h
  · exact (h1 ⟨j.val, h⟩).trans (small_dt u i ⟨j.val, h⟩).symm
  rcases lt_or_ge j.val 32 with h' | h'
  · obtain ⟨k, e⟩ : ∃ k : Fin 24, j = ⟨8 + k.val, by omega⟩ := ⟨⟨j.val - 8, by omega⟩, by ext; simp; omega⟩
    rw [e]
    exact (h2 k).trans (small_gate u i k).symm
  · obtain ⟨k, e⟩ : ∃ k : Fin 96, j = ⟨32 + k.val, by omega⟩ := ⟨⟨j.val - 32, by omega⟩, by ext; simp; omega⟩
    rw [e]
    exact (h3 k).trans (small_pad u i k).symm

/-- The kernel's small columns are the reference's. -/
theorem final_small (c : Dev nD) : (dats m 0 c).arrAt 10 (cfgs 0).N = smallTerm (uArg m c) := by
  refine (dats m 0 c).arrAt_eq_of_covers 10 _ (by decide +kernel) fun t _ y => ?_
  blk_simp
  rw [after0_10]; frame_out
  obtain ⟨r, j, rfl⟩ : ∃ (r : Fin 512) (j : Fin 128), y = ix2 r j := ⟨y 0, y 1, by blk_ext []⟩
  erw [pay9_eq]
  refine (small_at (iblk m c 0 t) (iblk m c 1 t) (iblk m c 2 t) (iblk m c 3 t) r j).trans ?_
  refine Eq.trans ?_ (congrArg _ (emb10 t r j)).symm
  refine small_split (uArg m c) _ (fun j => rowDot (iblk m c 0 t) (iblk m c 1 t) (iblk m c 2 t) (iblk m c 3 t) r ⟨2816 + j.val, by omega⟩) (fun j => ?_) (fun j => ?_) (fun j => ?_) j
  · exact rowDot_raw m c t r _ _ fun x => prepW_dt _ x j
  · refine Eq.trans (congrArg _ (Fin.ext ?_)) (rowDot_raw m c t r ⟨2824 + j.val, by omega⟩ _ fun x => prepW_gate _ x j)
    simp; omega
  · refine Eq.trans (congrArg _ (Fin.ext ?_)) (rowDot_pad m c t r j)
    simp; omega

end Cert.ProjsIdeal.Value
-- ==== Proof.ProjsRuns.lean ====
module
public import proofs.«01_k».proof.Proof.ProjsFinal
public import proofs.«01_k».proof.Proof.ProjsRef
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjsRefIdeal.Value
open Cert.ProjsRefIdeal Cert.ProjsRefIdeal.Gen

/-- The reference's projection of its arguments, before it is split. -/
abbrev uRef (m : (ℓ : Loc nD τ sig) → Buf (Elt Ideal) ℓ) (c : Dev nD) : FVec Ideal S128x8x2848 .f32 :=
  projTerm (m ((c.tc : Thread nD τ).loc main_arg0)) (m ((c.tc : Thread nD τ).loc main_arg1)) (m ((c.tc : Thread nD τ).loc main_arg2)) (m ((c.tc : Thread nD τ).loc main_arg3))

/-- The reference's run, each result as a part of one projection. -/
theorem parts_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = zTerm (uRef m c)
      ∧ r.2.mem ((c.tc : Thread nD τ).loc main_v37) = xbcTerm (uRef m c)
      ∧ r.2.mem ((c.tc : Thread nD τ).loc main_v40) = qTerm (uRef m c)
      ∧ r.2.mem ((c.tc : Thread nD τ).loc main_v41) = kvcTerm (uRef m c)
      ∧ r.2.mem ((c.tc : Thread nD τ).loc main_v42) = kvsTerm (uRef m c)
      ∧ r.2.mem ((c.tc : Thread nD τ).loc main_v43) = kvwTerm (uRef m c)
      ∧ r.2.mem ((c.tc : Thread nD τ).loc main_v44) = smallTerm (uRef m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2⟩) (run m ρ)

end Cert.ProjsRefIdeal.Value

namespace Cert.ProjsIdeal.Value
open Cert.ProjsIdeal Cert.ProjsIdeal.Gen Cert.ProjsRefIdeal.Value

/-- The kernel's run, each result as a part of the reference's projection of the kernel's arguments. -/
theorem parts_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18_0) = zTerm (uArg m c)
      ∧ r.2.mem ((c.tc : Thread nD τ).loc main_v18_1) = xbcTerm (uArg m c)
      ∧ r.2.mem ((c.tc : Thread nD τ).loc main_v18_2) = qTerm (uArg m c)
      ∧ r.2.mem ((c.tc : Thread nD τ).loc main_v18_3) = kvcTerm (uArg m c)
      ∧ r.2.mem ((c.tc : Thread nD τ).loc main_v18_4) = kvsTerm (uArg m c)
      ∧ r.2.mem ((c.tc : Thread nD τ).loc main_v18_5) = kvwTerm (uArg m c)
      ∧ r.2.mem ((c.tc : Thread nD τ).loc main_v18_6) = smallTerm (uArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.out_eq c 4).trans (final_z m c), (h.1.out_eq c 5).trans (final_xbc m c), (h.1.out_eq c 6).trans (final_q m c), (h.1.out_eq c 7).trans (final_kvc m c), (h.1.out_eq c 8).trans (final_kvs m c), (h.1.out_eq c 9).trans (final_kvw m c), (h.1.out_eq c 10).trans (final_small m c), h.2 c⟩)
    (θ_run_and (Gen.run_main m ρ) (Gen.unchanged m ρ))

end Cert.ProjsIdeal.Value
-- ==== Proof.CombsRef.lean ====
module
public import proofs.«01_k».proof.Proof.Gen.CombsRefIdeal.Run
public import proofs.«01_k».proof.Proof.CombRows
public import Idealize.ShloMosaic.Lib.Pipeline.ValueKit
public import Idealize.ShloMosaic.Lib.Pointwise
public import Idealize.ShloMosaic.Lib.Claim
@[expose] public section
set_option maxRecDepth 1024
noncomputable section
open Idealize.ShloMosaic Idealize.ShloMosaic.TcCoe Idealize.SL.Sem
open Idealize.ShloMosaic.Pipeline (Dat)
namespace Cert.CombsRefIdeal.Value
open Cert.CombsRefIdeal Cert.CombsRefIdeal.Gen Cert.Rows

/-- The reference's mean over the last axis, as its own operations. -/
def meanTerm (v : FVec Ideal S128x8x1024 .f32) : FVec Ideal S128x8x1 .f32 :=
  Host.divf (broadcastInDim S128x8x1 ![0, 1] bcast_S128x8_S128x8x1_0_1 (Host.reduceAdd v (constant S_ .f32 0x00000000#32) reducesTo_S128x8x1024_S128x8_d2 h_S_))
    (broadcastInDim S128x8x1 ![] bcast_S_S128x8x1 (constant S_ .f32 0x44800000#32))

/-- The reference's layer norm, as its own operations. -/
def lnTerm (v : FVec Ideal S128x8x1024 .f32) (G B : FVec Ideal S1024 .f32) : FVec Ideal S128x8x1024 .f32 :=
  let cen : FVec Ideal S128x8x1024 .f32 := subf v (broadcastInDim S128x8x1024 ![0, 1, 2] bcast_S128x8x1_S128x8x1024_0_1_2 (meanTerm v))
  addf (mulf (mulf cen
      (broadcastInDim S128x8x1024 ![0, 1, 2] bcast_S128x8x1_S128x8x1024_0_1_2 (Host.rsqrt (addf (meanTerm (mulf cen cen)) (broadcastInDim S128x8x1 ![] bcast_S_S128x8x1 (constant S_ .f32 0x3727C5AC#32))))))
      (broadcastInDim S128x8x1024 ![0, 1, 2] bcast_S1x1x1024_S128x8x1024_0_1_2 (broadcastInDim S1x1x1024 ![2] bcast_S1024_S1x1x1024_2 G)))
      (broadcastInDim S128x8x1024 ![0, 1, 2] bcast_S1x1x1024_S128x8x1024_0_1_2 (broadcastInDim S1x1x1024 ![2] bcast_S1024_S1x1x1024_2 B))

/-- The reference's sigmoid of the gate columns, as its own operations. -/
def gateTerm (sm : FVec Ideal S1024x128 .f32) : FVec Ideal S128x8x3x2x4 .f32 :=
  let one : FVec Ideal S128x8x3x2x4 .f32 := broadcastInDim S128x8x3x2x4 ![] bcast_S_S128x8x3x2x4 (constant S_ .f32 0x3F800000#32)
  Host.divf one (addf one (Host.exp (Host.negf (shapeCast S128x8x3x2x4
    (extractStridedSlice S1024x24 ![0, 8] sm slices_S1024x128_S1024x24_0_8) shapeCasts_S1024x24_S128x8x3x2x4))))

/-- The reference's gated sum of the branches, as its own operations. -/
def gatedTerm (g : FVec Ideal S128x8x3x2x4 .f32) (oc os ow : FVec Ideal S128x8x512 .f32) : FVec Ideal S128x8x512 .f32 :=
  shapeCast S128x8x512 (addf (addf (mulf (broadcastInDim S128x8x2x4x64 ![0, 1, 2, 3, 4] bcast_S128x8x2x4x1_S128x8x2x4x64_0_1_2_3_4
      (broadcastInDim S128x8x2x4x1 ![0, 1, 2, 3] bcast_S128x8x2x4_S128x8x2x4x1_0_1_2_3 (shapeCast S128x8x2x4
        (extractStridedSlice S128x8x1x2x4 ![0, 0, 0, 0, 0] g slices_S128x8x3x2x4_S128x8x1x2x4_0_0_0_0_0) shapeCasts_S128x8x1x2x4_S128x8x2x4)))
      (shapeCast S128x8x2x4x64 oc shapeCasts_S128x8x512_S128x8x2x4x64))
    (mulf (broadcastInDim S128x8x2x4x64 ![0, 1, 2, 3, 4] bcast_S128x8x2x4x1_S128x8x2x4x64_0_1_2_3_4
      (broadcastInDim S128x8x2x4x1 ![0, 1, 2, 3] bcast_S128x8x2x4_S128x8x2x4x1_0_1_2_3 (shapeCast S128x8x2x4
        (extractStridedSlice S128x8x1x2x4 ![0, 0, 1, 0, 0] g slices_S128x8x3x2x4_S128x8x1x2x4_0_0_1_0_0) shapeCasts_S128x8x1x2x4_S128x8x2x4)))
      (shapeCast S128x8x2x4x64 os shapeCasts_S128x8x512_S128x8x2x4x64)))
    (mulf (broadcastInDim S128x8x2x4x64 ![0, 1, 2, 3, 4] bcast_S128x8x2x4x1_S128x8x2x4x64_0_1_2_3_4
      (broadcastInDim S128x8x2x4x1 ![0, 1, 2, 3] bcast_S128x8x2x4_S128x8x2x4x1_0_1_2_3 (shapeCast S128x8x2x4
        (extractStridedSlice S128x8x1x2x4 ![0, 0, 2, 0, 0] g slices_S128x8x3x2x4_S128x8x1x2x4_0_0_2_0_0) shapeCasts_S128x8x1x2x4_S128x8x2x4)))
      (shapeCast S128x8x2x4x64 ow shapeCasts_S128x8x512_S128x8x2x4x64))) shapeCasts_S128x8x2x4x64_S128x8x512

/-- The reference's root-mean-square norm, as its own operations. -/
def rmsTerm (o : FVec Ideal S128x8x512 .f32) (ag : FVec Ideal S1x512 .f32) : FVec Ideal S128x8x512 .f32 :=
  mulf (mulf o (broadcastInDim S128x8x512 ![0, 1, 2] bcast_S128x8x1_S128x8x512_0_1_2 (Host.rsqrt (addf
    (Host.divf (broadcastInDim S128x8x1 ![0, 1] bcast_S128x8_S128x8x1_0_1 (Host.reduceAdd (mulf o o) (constant S_ .f32 0x00000000#32) reducesTo_S128x8x512_S128x8_d2 h_S_))
      (broadcastInDim S128x8x1 ![] bcast_S_S128x8x1 (constant S_ .f32 0x44000000#32)))
    (broadcastInDim S128x8x1 ![] bcast_S_S128x8x1 (constant S_ .f32 0x3727C5AC#32))))))
    (broadcastInDim S128x8x512 ![0, 1, 2] bcast_S1x1x512_S128x8x512_0_1_2 (broadcastInDim S1x1x512 ![2] bcast_S512_S1x1x512_2
      (shapeCast S512 ag shapeCasts_S1x512_S512)))

/-- The reference's residual rows, as its own operations. -/
def mixTerm (x : FVec Ideal S128x8x1024 .f32) (y : FVec Ideal S128x8x512 .bf16) (a : FVec Ideal S128x8x512 .f32) (W : FVec Ideal S1x1024x1024 .f32) :
    FVec Ideal S128x8x1024 .f32 :=
  let cat : FVec Ideal S128x8x1024 .f32 := fn_main_v44 (F := Ideal) (extf .f32 y bitsLt_bf16_f32) a
  addf (mulf (broadcastInDim S128x8x1024 ![] bcast_S_S128x8x1024 (constant S_ .f32 0x3F9837F0#32)) x)
    (Host.dotGeneral dot_S128x8x1024_S1024x1024_S128x8x1024_2_0_01_1_n_n none
      cat
      (shapeCast S1024x1024 W shapeCasts_S1x1024x1024_S1024x1024))

/-- The reference's result is these operations over its arguments. -/
theorem res_eq (m : (ℓ : Loc nD τ sig) → Buf (Elt Ideal) ℓ) (c : Dev nD) :
    res_main_v100 m c = shapeCast S1024x1024 (lnTerm (mixTerm
      (lnTerm (m ((c.tc : Thread nD τ).loc main_arg0)) (m ((c.tc : Thread nD τ).loc main_arg6)) (m ((c.tc : Thread nD τ).loc main_arg7)))
      (m ((c.tc : Thread nD τ).loc main_arg1))
      (rmsTerm (gatedTerm (gateTerm (m ((c.tc : Thread nD τ).loc main_arg5))) (m ((c.tc : Thread nD τ).loc main_arg2))
        (m ((c.tc : Thread nD τ).loc main_arg3)) (m ((c.tc : Thread nD τ).loc main_arg4))) (m ((c.tc : Thread nD τ).loc main_arg8)))
      (m ((c.tc : Thread nD τ).loc main_arg9)))
      (shapeCast S1024 (m ((c.tc : Thread nD τ).loc main_arg10)) shapeCasts_S1x1024_S1024)
      (shapeCast S1024 (m ((c.tc : Thread nD τ).loc main_arg11)) shapeCasts_S1x1024_S1024)) shapeCasts_S128x8x1024_S1024x1024 := rfl

/-- The reference's layer norm, at an index. -/
theorem lnTerm_at (v : FVec Ideal S128x8x1024 .f32) (G B : FVec Ideal S1024 .f32) (b : Fin 128) (s : Fin 8) (j : Fin 1024) :
    lnTerm v G B (ix3 b s j) = lnRow (fun x => v (ix3 b s x)) (fun x => G (ix1 x)) (fun x => B (ix1 x)) j := by
  pointwise [lnTerm, meanTerm, lnRow, rowMean]

/-- The reference's gates, at an index. -/
theorem gateTerm_at (sm : FVec Ideal S1024x128 .f32) (b : Fin 128) (s : Fin 8) (n : Fin 3) (h : Fin 2) (g : Fin 4) :
    gateTerm sm (ix5 b s n h g) = gateFn (sm (ix2 ⟨b.val * 8 + s.val, by omega⟩ ⟨8 + (n.val * 8 + h.val * 4 + g.val), by omega⟩)) := by
  pointwise [gateTerm, gateFn]

/-- The reference's gated sum, at an index. -/
theorem gatedTerm_at (g : FVec Ideal S128x8x3x2x4 .f32) (oc os ow : FVec Ideal S128x8x512 .f32) (b : Fin 128) (s : Fin 8) (j : Fin 512) :
    gatedTerm g oc os ow (ix3 b s j) = gatedRow (fun n h i => g (ix5 b s n h i))
      (fun x => oc (ix3 b s x)) (fun x => os (ix3 b s x)) (fun x => ow (ix3 b s x)) j := by
  pointwise [gatedTerm, gatedRow]

/-- The reference's root-mean-square norm, at an index. -/
theorem rmsTerm_at (o : FVec Ideal S128x8x512 .f32) (ag : FVec Ideal S1x512 .f32) (b : Fin 128) (s : Fin 8) (j : Fin 512) :
    rmsTerm o ag (ix3 b s j) = rmsRow (fun x => o (ix3 b s x)) (fun x => ag (ix2 0 x)) j := by
  pointwise [rmsTerm, rmsRow]

/-- The reference's residual rows, at an index. -/
theorem mixTerm_at (x : FVec Ideal S128x8x1024 .f32) (y : FVec Ideal S128x8x512 .bf16) (a : FVec Ideal S128x8x512 .f32) (W : FVec Ideal S1x1024x1024 .f32)
    (b : Fin 128) (s : Fin 8) (j : Fin 1024) :
    mixTerm x y a W (ix3 b s j) = mixRow (fun k => x (ix3 b s k)) (catRow (fun k => y (ix3 b s k)) (fun k => a (ix3 b s k)))
      (fun k l => W (ix3 0 k l)) j := by
  pointwise [mixTerm, mixRow, catRow, fn_main_v44]

end Cert.CombsRefIdeal.Value
-- ==== Proof.CombsRead.lean ====
module
public import proofs.«01_k».proof.Proof.Gen.CombsIdeal.Value
public import proofs.«01_k».proof.Proof.CombOut
public import proofs.«01_k».proof.Proof.CombsRef
public import proofs.«01_k».proof.Proof.CombTable
public import Idealize.ShloMosaic.Lib.Pipeline.ValueKit
public import Idealize.ShloMosaic.Lib.Pointwise
public import Idealize.ShloMosaic.Lib.Claim
@[expose] public section
set_option maxRecDepth 1024
noncomputable section
open Idealize.ShloMosaic Idealize.ShloMosaic.TcCoe Idealize.SL.Sem
open Idealize.ShloMosaic.Pipeline (Dat)
namespace Cert.CombsIdeal.Value
open Cert.CombsIdeal Cert.CombsIdeal.Gen Cert.Rows

variable (m : (ℓ : Loc nD τ sig) → Buf (Elt Ideal) ℓ)
  (m' : (ℓ : Loc Cert.CombsRefIdeal.nD Cert.CombsRefIdeal.τ Cert.CombsRefIdeal.sig) → Buf (Elt Ideal) ℓ)

/-- The windows' index maps at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The reference's argument arrays are the kernel's. -/
abbrev SameArgs (c : Dev nD) : Prop :=
  m' ((c.tc : Thread Cert.CombsRefIdeal.nD Cert.CombsRefIdeal.τ).loc Cert.CombsRefIdeal.main_arg0) = m ((c.tc : Thread nD τ).loc main_arg0)
  ∧ m' ((c.tc : Thread Cert.CombsRefIdeal.nD Cert.CombsRefIdeal.τ).loc Cert.CombsRefIdeal.main_arg1) = m ((c.tc : Thread nD τ).loc main_arg1)
  ∧ m' ((c.tc : Thread Cert.CombsRefIdeal.nD Cert.CombsRefIdeal.τ).loc Cert.CombsRefIdeal.main_arg2) = m ((c.tc : Thread nD τ).loc main_arg2)
  ∧ m' ((c.tc : Thread Cert.CombsRefIdeal.nD Cert.CombsRefIdeal.τ).loc Cert.CombsRefIdeal.main_arg3) = m ((c.tc : Thread nD τ).loc main_arg3)
  ∧ m' ((c.tc : Thread Cert.CombsRefIdeal.nD Cert.CombsRefIdeal.τ).loc Cert.CombsRefIdeal.main_arg4) = m ((c.tc : Thread nD τ).loc main_arg4)
  ∧ m' ((c.tc : Thread Cert.CombsRefIdeal.nD Cert.CombsRefIdeal.τ).loc Cert.CombsRefIdeal.main_arg5) = m ((c.tc : Thread nD τ).loc main_arg5)
  ∧ m' ((c.tc : Thread Cert.CombsRefIdeal.nD Cert.CombsRefIdeal.τ).loc Cert.CombsRefIdeal.main_arg6) = m ((c.tc : Thread nD τ).loc main_arg6)
  ∧ m' ((c.tc : Thread Cert.CombsRefIdeal.nD Cert.CombsRefIdeal.τ).loc Cert.CombsRefIdeal.main_arg7) = m ((c.tc : Thread nD τ).loc main_arg7)
  ∧ m' ((c.tc : Thread Cert.CombsRefIdeal.nD Cert.CombsRefIdeal.τ).loc Cert.CombsRefIdeal.main_arg8) = m ((c.tc : Thread nD τ).loc main_arg8)
  ∧ m' ((c.tc : Thread Cert.CombsRefIdeal.nD Cert.CombsRefIdeal.τ).loc Cert.CombsRefIdeal.main_arg9) = m ((c.tc : Thread nD τ).loc main_arg9)
  ∧ m' ((c.tc : Thread Cert.CombsRefIdeal.nD Cert.CombsRefIdeal.τ).loc Cert.CombsRefIdeal.main_arg10) = m ((c.tc : Thread nD τ).loc main_arg10)
  ∧ m' ((c.tc : Thread Cert.CombsRefIdeal.nD Cert.CombsRefIdeal.τ).loc Cert.CombsRefIdeal.main_arg11) = m ((c.tc : Thread nD τ).loc main_arg11)

/-- The rows' block, read at the reference's array. -/
theorem read0 (c : Dev nD) (t : Fin cfg0.N) (r : Fin 512) (x : Fin 1024) :
    (show FVec Ideal S512x1024 .f32 from iblk m c 0 t) (ix2 r x)
      = (show FVec Ideal S128x8x1024 .f32 from m ((c.tc : Thread nD τ).loc main_arg0)) (ix3 ⟨(t.val * 512 + r.val) / 8, by idx_bounds; omega⟩ ⟨(t.val * 512 + r.val) % 8, by omega⟩ x) := by
  blk_point [iblk, V, idx t]

/-- The state-space branch's block, read at the reference's array. -/
theorem read1 (c : Dev nD) (t : Fin cfg0.N) (r : Fin 512) (x : Fin 512) :
    (show FVec Ideal S512x512 .bf16 from iblk m c 1 t) (ix2 r x)
      = (show FVec Ideal S128x8x512 .bf16 from m ((c.tc : Thread nD τ).loc main_arg1)) (ix3 ⟨(t.val * 512 + r.val) / 8, by idx_bounds; omega⟩ ⟨(t.val * 512 + r.val) % 8, by omega⟩ x) := by
  blk_point [iblk, V, idx t]

/-- The compressed branch's block, read at the reference's array. -/
theorem read2 (c : Dev nD) (t : Fin cfg0.N) (r : Fin 512) (x : Fin 512) :
    (show FVec Ideal S512x512 .f32 from iblk m c 2 t) (ix2 r x)
      = (show FVec Ideal S128x8x512 .f32 from m ((c.tc : Thread nD τ).loc main_arg2)) (ix3 ⟨(t.val * 512 + r.val) / 8, by idx_bounds; omega⟩ ⟨(t.val * 512 + r.val) % 8, by omega⟩ x) := by
  blk_point [iblk, V, idx t]

/-- The selected branch's block, read at the reference's array. -/
theorem read3 (c : Dev nD) (t : Fin cfg0.N) (r : Fin 512) (x : Fin 512) :
    (show FVec Ideal S512x512 .f32 from iblk m c 3 t) (ix2 r x)
      = (show FVec Ideal S128x8x512 .f32 from m ((c.tc : Thread nD τ).loc main_arg3)) (ix3 ⟨(t.val * 512 + r.val) / 8, by idx_bounds; omega⟩ ⟨(t.val * 512 + r.val) % 8, by omega⟩ x) := by
  blk_point [iblk, V, idx t]

/-- The window branch's block, read at the reference's array. -/
theorem read4 (c : Dev nD) (t : Fin cfg0.N) (r : Fin 512) (x : Fin 512) :
    (show FVec Ideal S512x512 .f32 from iblk m c 4 t) (ix2 r x)
      = (show FVec Ideal S128x8x512 .f32 from m ((c.tc : Thread nD τ).loc main_arg4)) (ix3 ⟨(t.val * 512 + r.val) / 8, by idx_bounds; omega⟩ ⟨(t.val * 512 + r.val) % 8, by omega⟩ x) := by
  blk_point [iblk, V, idx t]

/-- The gates' block, read at the reference's array. -/
theorem read5 (c : Dev nD) (t : Fin cfg0.N) (r : Fin 512) (x : Fin 128) :
    (show FVec Ideal S512x128 .f32 from iblk m c 5 t) (ix2 r x)
      = (show FVec Ideal S1024x128 .f32 from m ((c.tc : Thread nD τ).loc main_arg5)) (ix2 ⟨(t.val * 512 + r.val) / 8 * 8 + (t.val * 512 + r.val) % 8, by idx_bounds; omega⟩ x) := by
  blk_point [iblk, V, idx t]

/-- The first norm's scale is the whole vector. -/
theorem read6 (c : Dev nD) (t : Fin cfg0.N) (x : Fin 1024) :
    (show FVec Ideal S1x1024 .f32 from iblk m c 6 t) (ix2 0 x)
      = (show FVec Ideal S1024 .f32 from m ((c.tc : Thread nD τ).loc main_arg6)) (ix1 x) := by
  blk_point [iblk, V, idx t]

/-- The first norm's shift is the whole vector. -/
theorem read7 (c : Dev nD) (t : Fin cfg0.N) (x : Fin 1024) :
    (show FVec Ideal S1x1024 .f32 from iblk m c 7 t) (ix2 0 x)
      = (show FVec Ideal S1024 .f32 from m ((c.tc : Thread nD τ).loc main_arg7)) (ix1 x) := by
  blk_point [iblk, V, idx t]

/-- The root-mean-square norm's scale is the whole vector. -/
theorem read9 (c : Dev nD) (t : Fin cfg0.N) (x : Fin 512) :
    (show FVec Ideal S1x512 .f32 from iblk m c 9 t) (ix2 0 x)
      = (show FVec Ideal S1x512 .f32 from m ((c.tc : Thread nD τ).loc main_arg8)) (ix2 0 x) := by
  blk_point [iblk, V, idx t]

/-- The output projection's block is the whole weight. -/
theorem read10 (c : Dev nD) (t : Fin cfg0.N) (k x : Fin 1024) :
    (show FVec Ideal S1024x1024 .bf16 from iblk m c 10 t) (ix2 k x)
      = (show FVec Ideal S1x1024x1024 .f32 from m ((c.tc : Thread nD τ).loc main_arg9)) (ix3 0 k x) := by
  blk_point [iblk, V, idx t]

/-- The second norm's scale is the whole vector. -/
theorem read11 (c : Dev nD) (t : Fin cfg0.N) (x : Fin 1024) :
    (show FVec Ideal S1x1024 .f32 from iblk m c 11 t) (ix2 0 x)
      = (show FVec Ideal S1x1024 .f32 from m ((c.tc : Thread nD τ).loc main_arg10)) (ix2 0 x) := by
  blk_point [iblk, V, idx t]

/-- The second norm's shift is the whole vector. -/
theorem read12 (c : Dev nD) (t : Fin cfg0.N) (x : Fin 1024) :
    (show FVec Ideal S1x1024 .f32 from iblk m c 12 t) (ix2 0 x)
      = (show FVec Ideal S1x1024 .f32 from m ((c.tc : Thread nD τ).loc main_arg11)) (ix2 0 x) := by
  blk_point [iblk, V, idx t]

/-- The expansion the host computes is the prompt's. -/
theorem V_gates (c : Dev nD) : V m c main_v9 = Cert.CombIdeal.Value.gateTable := by
  unfold Cert.CombIdeal.Value.gateTable Cert.CombIdeal.Value.gateHeads
  rw [Cert.CombIdeal.Value.gates_eq]
  rfl

/-- The expansion's block is the whole expansion. -/
theorem read8 (c : Dev nD) (t : Fin cfg0.N) (n : Fin 3) (l : Fin 128) (j : Fin 512) :
    (show FVec Ideal S3x128x512 .bf16 from iblk m c 8 t) (ix3 n l j) = Cert.CombIdeal.Value.gateTable (ix3 n l j) := by
  blk_simp [iblk]
  rw [V_gates]
  blk_ext [idx t]

/-- An entry of grid point `t`'s output block sits `512 t` rows down the result. -/
theorem emb13 (t : Fin cfg0.N) (r : Fin 512) (j : Fin 1024) :
    ((cfg0.win 13).blk t).view.emb (ix2 r j) = (ix2 ⟨t.val * 512 + r.val, by idx_bounds; omega⟩ j : S1024x1024.Idx) := by
  blk_ext [idx t]

end Cert.CombsIdeal.Value
-- ==== Proof.CombsValue.lean ====
module
public import proofs.«01_k».proof.Proof.CombsRead
public import Idealize.ShloMosaic.Lib.Pipeline.ValueKit
public import Idealize.ShloMosaic.Lib.Pointwise
public import Idealize.ShloMosaic.Lib.Claim
@[expose] public section
set_option maxRecDepth 1024
noncomputable section
open Idealize.ShloMosaic Idealize.ShloMosaic.TcCoe Idealize.SL.Sem
open Idealize.ShloMosaic.Pipeline (Dat)
namespace Cert.CombsIdeal.Value
open Cert.CombsIdeal Cert.CombsIdeal.Gen Cert.Rows

variable (m : (ℓ : Loc nD τ sig) → Buf (Elt Ideal) ℓ)
  (m' : (ℓ : Loc Cert.CombsRefIdeal.nD Cert.CombsRefIdeal.τ Cert.CombsRefIdeal.sig) → Buf (Elt Ideal) ℓ)

/-- The reference's rows run over the batch: row `w` is step `w % 8` of batch entry `w / 8`. -/
theorem rows_at (v : FVec Ideal S128x8x1024 .f32) (w : Fin 1024) (j : Fin 1024) :
    (shapeCast Cert.CombsRefIdeal.S1024x1024 (v : FVec Ideal Cert.CombsRefIdeal.S128x8x1024 .f32) Cert.CombsRefIdeal.Gen.shapeCasts_S128x8x1024_S1024x1024) (ix2 w j)
      = v (ix3 ⟨w.val / 8, by omega⟩ ⟨w.val % 8, by omega⟩ j) := by
  pointwise []

/-- A vector kept as one row, flattened. -/
theorem flat_at (v : FVec Ideal S1x1024 .f32) (j : Fin 1024) :
    (shapeCast Cert.CombsRefIdeal.S1024 (v : FVec Ideal Cert.CombsRefIdeal.S1x1024 .f32) Cert.CombsRefIdeal.Gen.shapeCasts_S1x1024_S1024) (ix1 j) = v (ix2 0 j) := by
  pointwise []

/-- The kernel's result array is the reference's result. -/
theorem final (c : Dev nD) (h : SameArgs m m' c) :
    (dats m 0 c).arrAt 13 (cfgs 0).N = Cert.CombsRefIdeal.Value.res_main_v100 m' c := by
  refine (dats m 0 c).arrAt_eq_of_covers 13 _ (by decide +kernel) fun t _ y => ?_
  blk_simp
  rw [after0_13]
  obtain ⟨h0, h1, h2, h3, h4, h5, h6, h7, h8, h9, h10, h11⟩ := h
  obtain ⟨r, j, rfl⟩ : ∃ (r : Fin 512) (j : Fin 1024), y = ix2 r j := ⟨y 0, y 1, by blk_ext []⟩
  refine (Cert.CombIdeal.Value.out_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (fun n l j => (read8 m c t n l j).trans (Cert.CombIdeal.Value.table_at n l j)) r j).trans ?_
  rw [Cert.CombsRefIdeal.Value.res_eq, h0, h1, h2, h3, h4, h5, h6, h7, h8, h9, h10, h11]
  refine Eq.trans ?_ (congrArg _ (emb13 t r j)).symm
  refine Eq.trans ?_ (rows_at _ _ j).symm
  refine Eq.trans ?_ (Cert.CombsRefIdeal.Value.lnTerm_at _ _ _ _ _ j).symm
  refine congrFun (congr (congr (congrArg lnRow (funext fun x => ?_)) (funext fun x => ?_)) (funext fun x => ?_)) j
  · refine Eq.trans ?_ (Cert.CombsRefIdeal.Value.mixTerm_at _ _ _ _ _ _ x).symm
    refine congrFun (congr (congr (congrArg mixRow (funext fun k => ?_)) (congr (congrArg catRow (funext fun k => ?_)) (funext fun k => ?_))) (funext fun k => funext fun l => ?_)) x
    · refine Eq.trans ?_ (Cert.CombsRefIdeal.Value.lnTerm_at _ _ _ _ _ k).symm
      refine congrFun (congr (congr (congrArg lnRow (funext fun x => ?_)) (funext fun x => ?_)) (funext fun x => ?_)) k
      · exact read0 m c t r x
      · exact read6 m c t x
      · exact read7 m c t x
    · exact read1 m c t r k
    · refine Eq.trans ?_ (Cert.CombsRefIdeal.Value.rmsTerm_at _ _ _ _ k).symm
      refine congrFun (congr (congrArg rmsRow (funext fun k => ?_)) (funext fun x => ?_)) k
      · refine Eq.trans ?_ (Cert.CombsRefIdeal.Value.gatedTerm_at _ _ _ _ _ _ k).symm
        refine congrFun (congr (congr (congr (congrArg gatedRow (funext fun n => funext fun h => funext fun g => ?_)) (funext fun x => ?_)) (funext fun x => ?_)) (funext fun x => ?_)) k
        · refine Eq.trans ?_ (Cert.CombsRefIdeal.Value.gateTerm_at _ _ _ n h g).symm
          exact congrArg gateFn (read5 m c t r _)
        · exact read2 m c t r x
        · exact read3 m c t r x
        · exact read4 m c t r x
      · exact read9 m c t x
    · exact read10 m c t k l
  · exact (read11 m c t x).trans (flat_at _ x).symm
  · exact (read12 m c t x).trans (flat_at _ x).symm

end Cert.CombsIdeal.Value
-- ==== Proof.WinRows.lean ====
module
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
namespace Cert.WinRows

/-- The greater of the greatest past score and the greatest new score. -/
def topOf (sp : Fin 512 → EReal) (sn : Fin 128 → EReal) : EReal :=
  max (Finset.univ.fold max (Ideal.ofBits FTy.f32 0xFF800000#32) sp) (Finset.univ.fold max (Ideal.ofBits FTy.f32 0xFF800000#32) sn)

/-- Attention of one query over 512 past keys and 128 new rows, at one column: `sp`, `sn` the scores, `vp`, `vn` the column of the
    values. The weighted sum is divided once, at the end. -/
def jointAttn (sp : Fin 512 → EReal) (sn : Fin 128 → EReal) (vp : Fin 512 → EReal) (vn : Fin 128 → EReal) : EReal :=
  Ideal.div (∑ k, Ideal.exp (sp k - topOf sp sn) * vp k + ∑ k, Ideal.exp (sn k - topOf sp sn) * vn k)
    (∑ k, Ideal.exp (sp k - topOf sp sn) + ∑ k, Ideal.exp (sn k - topOf sp sn))

/-- What a softmax subtracts from its scores: their greatest, or zero where every key is masked. -/
def shift (s : Fin 520 → EReal) : EReal :=
  if ⊥ < Finset.univ.fold max ⊥ s then Finset.univ.fold max ⊥ s else 0

/-- Attention of one query over 520 keys, at one column of the values: each weight is divided by the weights' sum. -/
def refAttn (s v : Fin 520 → EReal) : EReal :=
  ∑ k, Ideal.div (Ideal.exp (s k - shift s)) (max (∑ x, Ideal.exp (s x - shift s)) (Ideal.ofBits FTy.f32 0x0DA24260#32)) * v k

/-- The negative infinity's pattern. -/
theorem ofBits_bot : Ideal.ofBits FTy.f32 0xFF800000#32 = ⊥ := by
  simp [Ideal.ofBits, Ideal.ieee]

/-- The floor under the weights' sum is at most one. -/
theorem floor_le_one : Ideal.ofBits FTy.f32 0x0DA24260#32 ≤ ((1 : ℝ) : EReal) := by
  simp [Ideal.ofBits, Ideal.ieee, -EReal.coe_mul]
  norm_num
  exact EReal.coe_le_coe_iff.mpr (by norm_num)

/-- A fold of `max` from below everything is the supremum. -/
theorem fold_eq_sup {n : Nat} (f : Fin n → EReal) : Finset.univ.fold max ⊥ f = Finset.univ.sup f := rfl

/-- The coercion of a sum of reals. -/
theorem coe_total {n : Nat} (f : Fin n → ℝ) : ((∑ k, f k : ℝ) : EReal) = ∑ k, (f k : EReal) :=
  map_sum (⟨⟨Real.toEReal, EReal.coe_zero⟩, EReal.coe_add⟩ : ℝ →+ EReal) f Finset.univ

/-- A quotient of reals whose divisor is positive. -/
theorem div_coe (a b : ℝ) (hb : 0 < b) : Ideal.div (a : EReal) (b : EReal) = ((a / b : ℝ) : EReal) := by
  have h : (b : EReal) ≠ 0 := by
    intro h
    exact absurd (EReal.coe_eq_zero.mp h) hb.ne'
  unfold Ideal.div
  rw [if_neg h, div_eq_mul_inv, EReal.coe_mul, EReal.coe_inv]

/-- A sum over 512 and 128 whose terms are those of a sum over 520, then zero. -/
theorem sum_parts (f : Fin 520 → EReal) (p : Fin 512 → EReal) (q : Fin 128 → EReal)
    (hp : ∀ k : Fin 512, p k = f ⟨k.val, by omega⟩) (hq : ∀ k : Fin 8, q ⟨k.val, by omega⟩ = f ⟨512 + k.val, by omega⟩)
    (h0 : ∀ k : Fin 128, 8 ≤ k.val → q k = 0) : ∑ k, p k + ∑ k, q k = ∑ k, f k := by
  have e1 : ∑ k, f k = ∑ k : Fin 512, f ⟨k.val, by omega⟩ + ∑ k : Fin 8, f ⟨512 + k.val, by omega⟩ := Fin.sum_univ_add (a := 512) (b := 8) f
  have e2 : ∑ k, q k = ∑ k : Fin 8, q ⟨k.val, by omega⟩ + ∑ k : Fin 120, q ⟨8 + k.val, by omega⟩ := Fin.sum_univ_add (a := 8) (b := 120) q
  have e3 : ∑ k : Fin 120, q ⟨8 + k.val, by omega⟩ = 0 := Finset.sum_eq_zero fun k _ => h0 _ (by show 8 ≤ 8 + k.val; omega)
  rw [e1, e2, e3, add_zero]
  exact congrArg₂ (· + ·) (Finset.sum_congr rfl fun k _ => hp k) (Finset.sum_congr rfl fun k _ => hq k)

/-- The greatest of the past and the new scores is the greatest of all. -/
theorem topOf_eq (s : Fin 520 → EReal) (sp : Fin 512 → EReal) (sn : Fin 128 → EReal)
    (hp : ∀ k : Fin 512, sp k = s ⟨k.val, by omega⟩) (hn : ∀ k : Fin 8, sn ⟨k.val, by omega⟩ = s ⟨512 + k.val, by omega⟩)
    (h0 : ∀ k : Fin 128, 8 ≤ k.val → sn k = ⊥) : topOf sp sn = Finset.univ.sup s := by
  unfold topOf
  rw [ofBits_bot, fold_eq_sup, fold_eq_sup]
  apply le_antisymm
  · refine max_le (Finset.sup_le fun k _ => ?_) (Finset.sup_le fun k _ => ?_)
    · rw [hp k]
      exact Finset.le_sup (f := s) (Finset.mem_univ _)
    · by_cases hk : k.val < 8
      · rw [show k = ⟨(⟨k.val, hk⟩ : Fin 8).val, by omega⟩ from rfl, hn ⟨k.val, hk⟩]
        exact Finset.le_sup (f := s) (Finset.mem_univ _)
      · rw [h0 k (by omega)]
        exact bot_le
  · refine Finset.sup_le fun k _ => ?_
    by_cases hk : k.val < 512
    · refine le_trans ?_ (le_max_left _ _)
      rw [show s k = sp ⟨k.val, hk⟩ from (hp ⟨k.val, hk⟩).symm]
      exact Finset.le_sup (f := sp) (Finset.mem_univ _)
    · refine le_trans ?_ (le_max_right _ _)
      have e : k = ⟨512 + (⟨k.val - 512, by omega⟩ : Fin 8).val, by omega⟩ := Fin.ext (by show k.val = 512 + (k.val - 512); omega)
      rw [e, ← hn]
      exact Finset.le_sup (f := sn) (Finset.mem_univ _)

/-- The weights of scores none of which is infinite above and one of which is not masked: real, not negative, one of them one. -/
theorem weights (s : Fin 520 → EReal) (ht : ∀ k, s k ≠ ⊤) (k0 : Fin 520) (hb : s k0 ≠ ⊥) :
    ⊥ < Finset.univ.sup s ∧ ∃ w : Fin 520 → ℝ, (∀ k, 0 ≤ w k) ∧ (∃ k, w k = 1) ∧ ∀ k, Ideal.exp (s k - Finset.univ.sup s) = (w k : EReal) := by
  have hM : ⊥ < Finset.univ.sup s := lt_of_lt_of_le (bot_lt_iff_ne_bot.mpr hb) (Finset.le_sup (f := s) (Finset.mem_univ k0))
  obtain ⟨k1, -, h1⟩ := Finset.exists_mem_eq_sup (Finset.univ : Finset (Fin 520)) ⟨k0, Finset.mem_univ k0⟩ s
  have hT : Finset.univ.sup s ≠ ⊤ := by rw [h1]; exact ht k1
  obtain ⟨M, hMe⟩ : ∃ M : ℝ, Finset.univ.sup s = (M : EReal) := ⟨_, (EReal.coe_toReal hT hM.ne').symm⟩
  refine ⟨hM, ?_⟩
  have each : ∀ k, ∃ w : ℝ, 0 ≤ w ∧ (k = k1 → w = 1) ∧ Ideal.exp (s k - Finset.univ.sup s) = (w : EReal) := by
    intro k
    by_cases hk : s k = ⊥
    · refine ⟨0, le_refl _, fun e => ?_, ?_⟩
      · rw [e, ← h1] at hk
        exact absurd hk hM.ne'
      · rw [hk, EReal.bot_sub]
        rfl
    · have hr : s k = ((s k).toReal : EReal) := (EReal.coe_toReal (ht k) hk).symm
      refine ⟨Real.exp ((s k).toReal - M), (Real.exp_pos _).le, fun e => ?_, ?_⟩
      · have : (s k).toReal = M := by rw [e, ← h1, hMe, EReal.toReal_coe]
        rw [this, sub_self, Real.exp_zero]
      · rw [hMe]
        conv_lhs => rw [hr]
        rw [← EReal.coe_sub]
        rfl
  choose w hw0 hw1 hw using each
  exact ⟨w, hw0, ⟨k1, hw1 k1 rfl⟩, hw⟩

/-- Dividing once at the end, over past and padded new rows, is the softmax's weighted sum over all keys. -/
theorem joint_eq (s v : Fin 520 → EReal) (sp : Fin 512 → EReal) (sn : Fin 128 → EReal) (vp : Fin 512 → EReal) (vn : Fin 128 → EReal)
    (hp : ∀ k : Fin 512, sp k = s ⟨k.val, by omega⟩) (hn : ∀ k : Fin 8, sn ⟨k.val, by omega⟩ = s ⟨512 + k.val, by omega⟩)
    (h0 : ∀ k : Fin 128, 8 ≤ k.val → sn k = ⊥)
    (hvp : ∀ k : Fin 512, vp k = v ⟨k.val, by omega⟩) (hvn : ∀ k : Fin 8, vn ⟨k.val, by omega⟩ = v ⟨512 + k.val, by omega⟩)
    (ht : ∀ k, s k ≠ ⊤) (k0 : Fin 520) (hb : s k0 ≠ ⊥) (hv : ∀ k, ∃ r : ℝ, v k = (r : EReal)) :
    jointAttn sp sn vp vn = refAttn s v := by
  obtain ⟨hM, w, hw0, ⟨k1, hw1⟩, hw⟩ := weights s ht k0 hb
  choose r hr using hv
  have top : topOf sp sn = Finset.univ.sup s := topOf_eq s sp sn hp hn h0
  have sh : shift s = Finset.univ.sup s := by
    unfold shift
    rw [fold_eq_sup, if_pos hM]
  have none : ∀ k : Fin 128, 8 ≤ k.val → Ideal.exp (sn k - Finset.univ.sup s) = 0 := by
    intro k hk
    rw [h0 k hk, EReal.bot_sub]
    rfl
  have den : ∑ k, Ideal.exp (sp k - topOf sp sn) + ∑ k, Ideal.exp (sn k - topOf sp sn) = ((∑ k, w k : ℝ) : EReal) := by
    rw [top, coe_total]
    refine sum_parts (fun k => (w k : EReal)) _ _ (fun k => ?_) (fun k => ?_) none
    · show Ideal.exp (sp k - _) = _
      rw [hp k]
      exact hw _
    · show Ideal.exp (sn _ - _) = _
      rw [hn k]
      exact hw _
  have num : ∑ k, Ideal.exp (sp k - topOf sp sn) * vp k + ∑ k, Ideal.exp (sn k - topOf sp sn) * vn k = ((∑ k, w k * r k : ℝ) : EReal) := by
    rw [top, coe_total]
    refine sum_parts (fun k => ((w k * r k : ℝ) : EReal)) _ _ (fun k => ?_) (fun k => ?_) (fun k hk => ?_)
    · show Ideal.exp (sp k - _) * vp k = _
      rw [hp k, hvp k, hw, hr, EReal.coe_mul]
    · show Ideal.exp (sn _ - _) * vn _ = _
      rw [hn k, hvn k, hw, hr, EReal.coe_mul]
    · show Ideal.exp (sn k - _) * vn k = 0
      rw [none k hk, zero_mul]
  have one : 1 ≤ ∑ k, w k := by
    rw [← hw1]
    exact Finset.single_le_sum (fun k _ => hw0 k) (Finset.mem_univ k1)
  have pos : 0 < ∑ k, w k := lt_of_lt_of_le one_pos one
  have sumr : ∑ x, Ideal.exp (s x - shift s) = ((∑ k, w k : ℝ) : EReal) := by
    rw [sh, coe_total]
    exact Finset.sum_congr rfl fun k _ => hw k
  unfold jointAttn refAttn
  rw [den, num, sumr, max_eq_left (floor_le_one.trans (EReal.coe_le_coe_iff.mpr one)), div_coe _ _ pos, Finset.sum_div, coe_total]
  refine Finset.sum_congr rfl fun k _ => ?_
  rw [sh, hw k, hr k, div_coe _ _ pos, ← EReal.coe_mul, mul_div_right_comm]

end Cert.WinRows
-- ==== Proof.WinAttn.lean ====
module
public import proofs.«01_k».proof.Proof.Gen.WinIdeal.Value
public import proofs.«01_k».proof.Proof.WinRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

/-- The scores of 32 stacked queries against 512 keys, with the bias added. -/
def scorePast (q : FVec Ideal S32x64 .bf16) (k : FVec Ideal S64x512 .bf16) (b : FVec Ideal S1x32x512 .f32) : FVec Ideal S32x512 .f32 :=
  addf (matmul dot_S32x64_S64x512_S32x512_1_0_0_1_n_n none q k (constant S32x512 .f32 0x00000000#32)) (shapeCast S32x512 b shapeCasts_S1x32x512_S32x512)

/-- The scores of 32 stacked queries against 128 new rows, with the bias added. -/
def scoreNew (q : FVec Ideal S32x64 .bf16) (k : FVec Ideal S128x64 .bf16) (b : FVec Ideal S1x32x128 .f32) : FVec Ideal S32x128 .f32 :=
  addf (matmul dot_S32x64_S128x64_S32x128_1_1_0_0_n_n none q k (constant S32x128 .f32 0x00000000#32)) (shapeCast S32x128 b shapeCasts_S1x32x128_S32x128)

/-- The greatest score of each query. -/
def topRow (s : FVec Ideal S32x512 .f32) (n : FVec Ideal S32x128 .f32) : FVec Ideal S32x1 .f32 :=
  maximumf (shapeCast S32x1 (multiReduction .maximumf [1] S32 s 0xFF800000#32 reduces_S32x512_S32 (.inl rfl) rfl) shapeCasts_S32_S32x1)
    (shapeCast S32x1 (multiReduction .maximumf [1] S32 n 0xFF800000#32 reduces_S32x128_S32 (.inl rfl) rfl) shapeCasts_S32_S32x1)

/-- The weights of the past keys. -/
def expPast (s : FVec Ideal S32x512 .f32) (n : FVec Ideal S32x128 .f32) : FVec Ideal S32x512 .f32 :=
  exp (subf s (broadcastTo S32x512 (topRow s n) broadcasts_S32x1_S32x512))

/-- The weights of the new rows. -/
def expNew (s : FVec Ideal S32x512 .f32) (n : FVec Ideal S32x128 .f32) : FVec Ideal S32x128 .f32 :=
  exp (subf n (broadcastTo S32x128 (topRow s n) broadcasts_S32x1_S32x128))

/-- The attention of 32 stacked queries: the weighted sums over past and new values, divided by the weights' sums. -/
def joint (s : FVec Ideal S32x512 .f32) (n : FVec Ideal S32x128 .f32) (vp : FVec Ideal S64x512 .bf16) (vn : FVec Ideal S128x64 .bf16) : FVec Ideal S32x64 .f32 :=
  divf (addf (matmul dot_S32x512_S64x512_S32x64_1_1_0_0_n_n none (truncf .bf16 (expPast s n) bitsLt_bf16_f32) vp (constant S32x64 .f32 0x00000000#32))
      (matmul dot_S32x128_S128x64_S32x64_1_0_0_1_n_n none (truncf .bf16 (expNew s n) bitsLt_bf16_f32) vn (constant S32x64 .f32 0x00000000#32)))
    (broadcastTo S32x64 (addf (shapeCast S32x1 (multiReduction .add [1] S32 (expPast s n) 0x00000000#32 reduces_S32x512_S32 (.inl rfl) rfl) shapeCasts_S32_S32x1)
      (shapeCast S32x1 (multiReduction .add [1] S32 (expNew s n) 0x00000000#32 reduces_S32x128_S32 (.inl rfl) rfl) shapeCasts_S32_S32x1)) broadcasts_S32x1_S32x64)

/-- The attention, at an index. -/
theorem joint_at (s : FVec Ideal S32x512 .f32) (n : FVec Ideal S32x128 .f32) (vp : FVec Ideal S64x512 .bf16) (vn : FVec Ideal S128x64 .bf16) (r : Fin 32) (d : Fin 64) :
    joint s n vp vn (ix2 r d) = jointAttn (fun k => s (ix2 r k)) (fun k => n (ix2 r k)) (fun k => vp (ix2 d k)) (fun k => vn (ix2 k d)) := by
  pointwise [joint, expPast, expNew, topRow, jointAttn, topOf]

/-- The past scores, at an index. -/
theorem scorePast_at (q : FVec Ideal S32x64 .bf16) (k : FVec Ideal S64x512 .bf16) (b : FVec Ideal S1x32x512 .f32) (r : Fin 32) (l : Fin 512) :
    scorePast q k b (ix2 r l) = ∑ e, q (ix2 r e) * k (ix2 e l) + b (ix3 0 r l) := by
  pointwise [scorePast]

/-- The new scores, at an index. -/
theorem scoreNew_at (q : FVec Ideal S32x64 .bf16) (k : FVec Ideal S128x64 .bf16) (b : FVec Ideal S1x32x128 .f32) (r : Fin 32) (l : Fin 128) :
    scoreNew q k b (ix2 r l) = ∑ e, q (ix2 r e) * k (ix2 l e) + b (ix3 0 r l) := by
  pointwise [scoreNew]

/-- Eight rows of the stacked result, stored as a slab. -/
theorem slab_at (T : FVec Ideal S32x64 .f32) (o : Nat) (h : S32x64.Slices ![o, 0] S8x64) (ho : o + 8 ≤ 32) (u : Fin 8) (d : Fin 64) :
    shapeCast S1x8x64 (extractStridedSlice S8x64 ![o, 0] T h) shapeCasts_S8x64_S1x8x64 (ix3 0 u d) = T (ix2 ⟨o + u.val, by omega⟩ d) := by
  pointwise []

end Cert.WinIdeal.Value
-- ==== Proof.WinBucket.lean ====
module
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRows

/-- The relative-position bucket of a distance: a bucket per distance below 16, then logarithmic buckets up to distance 113,
    where the last one begins. -/
def bucket (d : Nat) : Nat :=
  if 113 ≤ d then 31 else if 99 ≤ d then 30 else if 87 ≤ d then 29 else if 77 ≤ d then 28 else if 67 ≤ d then 27 else if 59 ≤ d then 26 else if 52 ≤ d then 25 else if 46 ≤ d then 24 else if 40 ≤ d then 23 else if 35 ≤ d then 22 else if 31 ≤ d then 21 else if 27 ≤ d then 20 else if 24 ≤ d then 19 else if 21 ≤ d then 18 else if 19 ≤ d then 17
    else if 16 ≤ d then 16 else d

/-- A bucket is one of 32. -/
theorem bucket_lt (d : Nat) : bucket d < 32 := by
  have small : ∀ e : Fin 113, bucket e.val < 32 := by decide +kernel
  by_cases h : 113 ≤ d
  · unfold bucket
    rw [if_pos h]
    omega
  · exact small ⟨d, by omega⟩

end Cert.WinRows
-- ==== Proof.WinBias.lean ====
module
public import proofs.«01_k».proof.Proof.WinAttn
public import proofs.«01_k».proof.Proof.WinBucket
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

variable (m : (ℓ : Loc nD τ sig) → Buf (Elt Ideal) ℓ)

/-- The buckets of the past keys, one-hot, as printed. -/
@[irreducible] def pastWords : Fin 131072 → BitVec 32 := lit3
/-- The printed table is the one named. -/
theorem pastWords_eq : pastWords = lit3 := by unfold pastWords; rfl
/-- The past keys a query sees, as printed. -/
@[irreducible] def pastSeen : Fin 4096 → BitVec 1 := lit2
/-- The printed table is the one named. -/
theorem pastSeen_eq : pastSeen = lit2 := by unfold pastSeen; rfl
/-- The buckets of the new keys, one-hot, as printed. -/
@[irreducible] def newWords : Fin 32768 → BitVec 32 := lit1
/-- The printed table is the one named. -/
theorem newWords_eq : newWords = lit1 := by unfold newWords; rfl
/-- The new keys a query sees, as printed. -/
@[irreducible] def newSeen : Fin 1024 → BitVec 1 := lit0
/-- The printed table is the one named. -/
theorem newSeen_eq : newSeen = lit0 := by unfold newSeen; rfl

/-- The biases of the past keys. -/
def pastBias (tbl : FVec Ideal S32x8 .f32) : FVec Ideal S2x32x512 .f32 :=
  shapeCast S2x32x512 (select (broadcastInDim S8x8x512 ![0, 1, 2] bcast_S1x8x512_S8x8x512_0_1_2 (broadcastInDim S1x8x512 ![1, 2] bcast_S8x512_S1x8x512_1_2 (fun i => pastSeen (S8x512.rowMajor i))))
    (shapeCast S8x8x512 (transpose S8x4096 [1, 0] (Host.dotGeneral dot_S4096x32_S32x8_S4096x8_1_0_0_1_n_n (some .fp32) (fun i => FloatOps.ofBits (F := Ideal) .f32 (pastWords (S4096x32.rowMajor i))) tbl) transposes_S4096x8_S8x4096_1_0) shapeCasts_S8x4096_S8x8x512)
    (broadcastInDim S8x8x512 ![] bcast_S_S8x8x512 (id (constant (F := Ideal) S_ .f32 0xFF800000#32)))) shapeCasts_S8x8x512_S2x32x512

/-- The biases of the new keys. -/
def newBias (tbl : FVec Ideal S32x8 .f32) : FVec Ideal S2x32x128 .f32 :=
  shapeCast S2x32x128 (select (broadcastInDim S8x8x128 ![0, 1, 2] bcast_S1x8x128_S8x8x128_0_1_2 (broadcastInDim S1x8x128 ![1, 2] bcast_S8x128_S1x8x128_1_2 (fun i => newSeen (S8x128.rowMajor i))))
    (shapeCast S8x8x128 (transpose S8x1024 [1, 0] (Host.dotGeneral dot_S1024x32_S32x8_S1024x8_1_0_0_1_n_n (some .fp32) (fun i => FloatOps.ofBits (F := Ideal) .f32 (newWords (S1024x32.rowMajor i))) tbl) transposes_S1024x8_S8x1024_1_0) shapeCasts_S8x1024_S8x8x128)
    (broadcastInDim S8x8x128 ![] bcast_S_S8x8x128 (id (constant (F := Ideal) S_ .f32 0xFF800000#32)))) shapeCasts_S8x8x128_S2x32x128

set_option maxHeartbeats 4000000 in
/-- What the launch finds in the past keys' biases. -/
theorem v11_eq (c : Dev nD) : (show FVec Ideal S2x32x512 .f32 from V m c main_v11) = pastBias (m ((c.tc : Thread nD τ).loc main_arg3)) := by
  unfold pastBias
  rw [pastSeen_eq, pastWords_eq]
  show StableHlo.after ([hostOps0, hostOps0_1, hostOps0_2, hostOps0_3, hostOps0_4].flatten) _ _ = _
  simp only [hostOps0, hostOps0_1, hostOps0_2, hostOps0_3, hostOps0_4, List.flatten_cons, List.flatten_nil, List.cons_append, List.nil_append, StableHlo.TRef.ternary, StableHlo.TRef.unary, StableHlo.TRef.toBuf, StableHlo.TRef.ofBuf, cast_eq]
  after_results_simp <;> rfl

set_option maxHeartbeats 4000000 in
/-- What the launch finds in the new keys' biases. -/
theorem v5_eq (c : Dev nD) : (show FVec Ideal S2x32x128 .f32 from V m c main_v5) = newBias (m ((c.tc : Thread nD τ).loc main_arg3)) := by
  unfold newBias
  rw [newSeen_eq, newWords_eq]
  show StableHlo.after ([hostOps0, hostOps0_1, hostOps0_2, hostOps0_3, hostOps0_4].flatten) _ _ = _
  simp only [hostOps0, hostOps0_1, hostOps0_2, hostOps0_3, hostOps0_4, List.flatten_cons, List.flatten_nil, List.cons_append, List.nil_append, StableHlo.TRef.ternary, StableHlo.TRef.unary, StableHlo.TRef.toBuf, StableHlo.TRef.ofBuf, cast_eq]
  after_results_simp <;> rfl

/-- The biases of the past keys, at an index. -/
theorem pastBias_at (tbl : FVec Ideal S32x8 .f32) (h : Fin 2) (g : Fin 4) (u : Fin 8) (k : Fin 512) :
    pastBias tbl (ix3 h ⟨g.val * 8 + u.val, by omega⟩ k) = if pastSeen (S8x512.rowMajor (ix2 u k)) = 1#1 then
      ∑ b, Ideal.ofBits .f32 (pastWords (S4096x32.rowMajor (ix2 ⟨u.val * 512 + k.val, by omega⟩ b))) * tbl (ix2 b ⟨h.val * 4 + g.val, by omega⟩) else Ideal.ofBits .f32 0xFF800000#32 := by
  pointwise [pastBias]
  show (if _ = 1#1 then _ else Ideal.ofBits .f32 0xFF800000#32) = _
  refine if_congr Iff.rfl (Finset.sum_congr rfl fun b _ => congrArg _ (congrArg tbl ?_)) rfl
  blk_ext

/-- The biases of the new keys, at an index. -/
theorem newBias_at (tbl : FVec Ideal S32x8 .f32) (h : Fin 2) (g : Fin 4) (u : Fin 8) (k : Fin 128) :
    newBias tbl (ix3 h ⟨g.val * 8 + u.val, by omega⟩ k) = if newSeen (S8x128.rowMajor (ix2 u k)) = 1#1 then
      ∑ b, Ideal.ofBits .f32 (newWords (S1024x32.rowMajor (ix2 ⟨u.val * 128 + k.val, by omega⟩ b))) * tbl (ix2 b ⟨h.val * 4 + g.val, by omega⟩) else Ideal.ofBits .f32 0xFF800000#32 := by
  pointwise [newBias]
  show (if _ = 1#1 then _ else Ideal.ofBits .f32 0xFF800000#32) = _
  refine if_congr Iff.rfl (Finset.sum_congr rfl fun b _ => congrArg _ (congrArg tbl ?_)) rfl
  blk_ext

end Cert.WinIdeal.Value
-- ==== Proof.WinMath.lean ====
module
public import proofs.«01_k».proof.Proof.WinRows
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRows

/-- The scale of the scores is a real number. -/
theorem scale_real : ∃ r : ℝ, Ideal.ofBits .f32 0x3E000000#32 = (r : EReal) := by
  refine ⟨1 / 8, ?_⟩
  simp [Ideal.ofBits, Ideal.ieee, -EReal.coe_mul]
  norm_num

/-- Scaling the query scales the score, where the entries are real; and the score is real. -/
theorem score_scaled (q k : Fin 64 → EReal) (hq : ∀ e, ∃ r : ℝ, q e = (r : EReal)) (hk : ∀ e, ∃ r : ℝ, k e = (r : EReal)) :
    (∑ e, q e * Ideal.ofBits .f32 0x3E000000#32 * k e = (∑ e, k e * q e) * Ideal.ofBits .f32 0x3E000000#32)
      ∧ ∃ r : ℝ, (∑ e, k e * q e) * Ideal.ofBits .f32 0x3E000000#32 = (r : EReal) := by
  obtain ⟨s, hs⟩ := scale_real
  choose a ha using hq
  choose b hb using hk
  obtain rfl : q = fun e => (a e : EReal) := funext ha
  obtain rfl : k = fun e => (b e : EReal) := funext hb
  rw [hs]
  simp only [← EReal.coe_mul, ← coe_total]
  refine ⟨congrArg _ ?_, _, rfl⟩
  rw [Finset.sum_mul]
  exact Finset.sum_congr rfl fun e _ => by ring

/-- A sum against one-hot words picks one entry. -/
theorem one_hot (w : Fin 32 → BitVec 32) (n : Nat) (hn : n < 32) (hw : ∀ b : Fin 32, w b = if b.val = n then 0x3F800000#32 else 0x00000000#32) (f : Fin 32 → EReal) :
    ∑ b, Ideal.ofBits .f32 (w b) * f b = f ⟨n, hn⟩ := by
  rw [Finset.sum_eq_single (⟨n, hn⟩ : Fin 32)]
  · rw [hw, if_pos rfl, Ideal.ofBits_one_f32, one_mul]
  · intro b _ hb
    rw [hw, if_neg (fun h => hb (Fin.ext h)), Ideal.ofBits_zero_f32, zero_mul]
  · exact fun h => absurd (Finset.mem_univ _) h

end Cert.WinRows
-- ==== Proof.WinPast0.lean ====
module
public import proofs.«01_k».proof.Proof.WinBucket
public import proofs.«01_k».proof.Proof.Gen.WinIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

set_option maxHeartbeats 0 in
/-- The buckets of the past keys as printed, queries 0 and 1: one at the bucket of the distance, zero at the others. -/
theorem past0 : ∀ (u : Fin 2) (a : Fin 16) (l : Fin 32) (b : Fin 32),
    lit3 ⟨((0 + u.val) * 512 + (a.val * 32 + l.val)) * 32 + b.val, by omega⟩
      = if b.val = bucket (512 + (0 + u.val) - (a.val * 32 + l.val)) then 0x3F800000#32 else 0x00000000#32 := by
  intro u a
  fin_cases u <;> fin_cases a <;> decide +kernel

end Cert.WinIdeal.Value
-- ==== Proof.WinPast1.lean ====
module
public import proofs.«01_k».proof.Proof.WinBucket
public import proofs.«01_k».proof.Proof.Gen.WinIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

set_option maxHeartbeats 0 in
/-- The buckets of the past keys as printed, queries 2 and 3: one at the bucket of the distance, zero at the others. -/
theorem past1 : ∀ (u : Fin 2) (a : Fin 16) (l : Fin 32) (b : Fin 32),
    lit3 ⟨((2 + u.val) * 512 + (a.val * 32 + l.val)) * 32 + b.val, by omega⟩
      = if b.val = bucket (512 + (2 + u.val) - (a.val * 32 + l.val)) then 0x3F800000#32 else 0x00000000#32 := by
  intro u a
  fin_cases u <;> fin_cases a <;> decide +kernel

end Cert.WinIdeal.Value
-- ==== Proof.WinPast2.lean ====
module
public import proofs.«01_k».proof.Proof.WinBucket
public import proofs.«01_k».proof.Proof.Gen.WinIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

set_option maxHeartbeats 0 in
/-- The buckets of the past keys as printed, queries 4 and 5: one at the bucket of the distance, zero at the others. -/
theorem past2 : ∀ (u : Fin 2) (a : Fin 16) (l : Fin 32) (b : Fin 32),
    lit3 ⟨((4 + u.val) * 512 + (a.val * 32 + l.val)) * 32 + b.val, by omega⟩
      = if b.val = bucket (512 + (4 + u.val) - (a.val * 32 + l.val)) then 0x3F800000#32 else 0x00000000#32 := by
  intro u a
  fin_cases u <;> fin_cases a <;> decide +kernel

end Cert.WinIdeal.Value
-- ==== Proof.WinPast3.lean ====
module
public import proofs.«01_k».proof.Proof.WinBucket
public import proofs.«01_k».proof.Proof.Gen.WinIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

set_option maxHeartbeats 0 in
/-- The buckets of the past keys as printed, queries 6 and 7: one at the bucket of the distance, zero at the others. -/
theorem past3 : ∀ (u : Fin 2) (a : Fin 16) (l : Fin 32) (b : Fin 32),
    lit3 ⟨((6 + u.val) * 512 + (a.val * 32 + l.val)) * 32 + b.val, by omega⟩
      = if b.val = bucket (512 + (6 + u.val) - (a.val * 32 + l.val)) then 0x3F800000#32 else 0x00000000#32 := by
  intro u a
  fin_cases u <;> fin_cases a <;> decide +kernel

end Cert.WinIdeal.Value
-- ==== Proof.WinSeen.lean ====
module
public import proofs.«01_k».proof.Proof.WinBucket
public import proofs.«01_k».proof.Proof.Gen.WinIdeal.Value
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

set_option maxHeartbeats 0 in
/-- The buckets of the new keys as printed, at the keys a query sees. -/
theorem new_hot : ∀ (t : Fin 8) (j : Fin 8) (b : Fin 32), j.val ≤ t.val →
    lit1 ⟨(t.val * 128 + j.val) * 32 + b.val, by omega⟩
      = if b.val = bucket (t.val - j.val) then 0x3F800000#32 else 0x00000000#32 := by
  decide +kernel

set_option maxHeartbeats 0 in
/-- The new keys a query sees, as printed. -/
theorem new_seen : ∀ (t : Fin 8) (j : Fin 128), lit0 ⟨t.val * 128 + j.val, by omega⟩ = if j.val ≤ t.val then 1#1 else 0#1 := by
  decide +kernel

set_option maxHeartbeats 0 in
/-- The past keys a query sees, as printed. -/
theorem past_seen : ∀ (t : Fin 8) (j : Fin 512), lit2 ⟨t.val * 512 + j.val, by omega⟩ = if t.val < j.val then 1#1 else 0#1 := by
  intro t
  fin_cases t <;> decide +kernel

end Cert.WinIdeal.Value
-- ==== Proof.WinTables.lean ====
module
public import proofs.«01_k».proof.Proof.WinBias
public import proofs.«01_k».proof.Proof.WinMath
public import proofs.«01_k».proof.Proof.WinPast0
public import proofs.«01_k».proof.Proof.WinPast1
public import proofs.«01_k».proof.Proof.WinPast2
public import proofs.«01_k».proof.Proof.WinPast3
public import proofs.«01_k».proof.Proof.WinSeen
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

/-- An entry of the past keys' words, its position written another way. -/
theorem past_key (n w : Nat) (u : Fin 8) (k : Fin 512) (b : Fin 32) (hu : n + w = u.val) (hw : ((n + w) * 512 + (k.val / 32 * 32 + k.val % 32)) * 32 + b.val < 131072)
    (h : lit3 ⟨((n + w) * 512 + (k.val / 32 * 32 + k.val % 32)) * 32 + b.val, hw⟩ = if b.val = bucket (512 + (n + w) - (k.val / 32 * 32 + k.val % 32)) then 0x3F800000#32 else 0x00000000#32) :
    pastWords ⟨(u.val * 512 + k.val) * 32 + b.val, by omega⟩ = if b.val = bucket (512 + u.val - k.val) then 0x3F800000#32 else 0x00000000#32 := by
  have e : k.val / 32 * 32 + k.val % 32 = k.val := by omega
  rw [pastWords_eq]
  simp only [hu, e] at h
  exact h

/-- The past keys' words: one at the bucket of the distance, zero at the others. -/
theorem past_words (u : Fin 8) (k : Fin 512) (b : Fin 32) :
    pastWords ⟨(u.val * 512 + k.val) * 32 + b.val, by omega⟩ = if b.val = bucket (512 + u.val - k.val) then 0x3F800000#32 else 0x00000000#32 := by
  have a : k.val / 32 < 16 := by omega
  have l : k.val % 32 < 32 := by omega
  by_cases h0 : u.val < 2
  · exact past_key 0 u.val u k b (by omega) (by omega) (past0 ⟨u.val, h0⟩ ⟨_, a⟩ ⟨_, l⟩ b)
  by_cases h1 : u.val < 4
  · exact past_key 2 (u.val - 2) u k b (by omega) (by omega) (past1 ⟨u.val - 2, by omega⟩ ⟨_, a⟩ ⟨_, l⟩ b)
  by_cases h2 : u.val < 6
  · exact past_key 4 (u.val - 4) u k b (by omega) (by omega) (past2 ⟨u.val - 4, by omega⟩ ⟨_, a⟩ ⟨_, l⟩ b)
  · exact past_key 6 (u.val - 6) u k b (by omega) (by omega) (past3 ⟨u.val - 6, by omega⟩ ⟨_, a⟩ ⟨_, l⟩ b)

/-- The past keys' biases: the table's entry at the distance's bucket where the query sees the key, minus infinity elsewhere. -/
theorem past_bias (tbl : FVec Ideal S32x8 .f32) (h : Fin 2) (g : Fin 4) (u : Fin 8) (k : Fin 512) :
    pastBias tbl (ix3 h ⟨g.val * 8 + u.val, by omega⟩ k)
      = if u.val < k.val then tbl (ix2 ⟨bucket (512 + u.val - k.val), bucket_lt _⟩ ⟨h.val * 4 + g.val, by omega⟩) else ⊥ := by
  rw [pastBias_at, ofBits_bot]
  have hs : pastSeen (S8x512.rowMajor (ix2 u k)) = if u.val < k.val then 1#1 else 0#1 := by
    rw [pastSeen_eq, ← past_seen u k]
    refine congrArg (fun i => lit2 i) (Fin.ext ?_)
    rw [Shape.rowMajor_val_two]
    rfl
  rw [hs]
  by_cases hk : u.val < k.val
  · rw [if_pos hk, if_pos rfl, if_pos hk]
    refine one_hot (fun b => pastWords (S4096x32.rowMajor (ix2 ⟨u.val * 512 + k.val, by omega⟩ b))) _ (bucket_lt _) (fun b => ?_) (fun b => tbl (ix2 b ⟨h.val * 4 + g.val, by omega⟩))
    rw [← past_words u k b]
    refine congrArg (fun i => pastWords i) (Fin.ext ?_)
    rw [Shape.rowMajor_val_two]
    rfl
  · rw [if_neg hk, if_neg (by decide), if_neg hk]

/-- The new keys' biases: the table's entry at the distance's bucket where the query sees the key, minus infinity elsewhere. -/
theorem new_bias (tbl : FVec Ideal S32x8 .f32) (h : Fin 2) (g : Fin 4) (u : Fin 8) (k : Fin 128) :
    newBias tbl (ix3 h ⟨g.val * 8 + u.val, by omega⟩ k)
      = if k.val ≤ u.val then tbl (ix2 ⟨bucket (u.val - k.val), bucket_lt _⟩ ⟨h.val * 4 + g.val, by omega⟩) else ⊥ := by
  rw [newBias_at, ofBits_bot]
  have hs : newSeen (S8x128.rowMajor (ix2 u k)) = if k.val ≤ u.val then 1#1 else 0#1 := by
    rw [newSeen_eq, ← new_seen u k]
    refine congrArg (fun i => lit0 i) (Fin.ext ?_)
    rw [Shape.rowMajor_val_two]
    rfl
  rw [hs]
  by_cases hk : k.val ≤ u.val
  · rw [if_pos hk, if_pos rfl, if_pos hk]
    refine one_hot (fun b => newWords (S1024x32.rowMajor (ix2 ⟨u.val * 128 + k.val, by omega⟩ b))) _ (bucket_lt _) (fun b => ?_) (fun b => tbl (ix2 b ⟨h.val * 4 + g.val, by omega⟩))
    refine Eq.trans ?_ (new_hot u ⟨k.val, by omega⟩ b hk)
    rw [newWords_eq]
    refine congrArg (fun i => lit1 i) (Fin.ext ?_)
    rw [Shape.rowMajor_val_two]
    rfl
  · rw [if_neg hk, if_neg (by decide), if_neg hk]

end Cert.WinIdeal.Value
-- ==== Proof.WinRead.lean ====
module
public import proofs.«01_k».proof.Proof.WinBias
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

variable (m : (ℓ : Loc nD τ sig) → Buf (Elt Ideal) ℓ)

/-- The queries, at their literal type. -/
abbrev qArg (c : Dev nD) : FVec Ideal S128x8x2x4x64 .f32 := m ((c.tc : Thread nD τ).loc main_arg0)
/-- The new keys and values, at their literal type. -/
abbrev kvArg (c : Dev nD) : FVec Ideal S128x8x2x2x64 .f32 := m ((c.tc : Thread nD τ).loc main_arg1)
/-- The cache, at its literal type. -/
abbrev cacheArg (c : Dev nD) : FVec Ideal S1x128x512x2x2x64 .f32 := m ((c.tc : Thread nD τ).loc main_arg2)
/-- The biases' table, at its literal type. -/
abbrev tblArg (c : Dev nD) : FVec Ideal S32x8 .f32 := m ((c.tc : Thread nD τ).loc main_arg3)

/-- The windows' index maps at every grid point. -/
theorem idx : ∀ t : Fin cfg0.N, win0_0.index t = ![t.val, 0, 0] ∧ win0_1.index t = ![t.val, 0, 0] ∧ win0_2.index t = ![t.val, 0, 0]
    ∧ win0_3.index t = ![0, 0, 0] ∧ win0_4.index t = ![0, 0, 0] ∧ win0_5.index t = ![t.val, 0, 0] ∧ win0_6.index t = ![t.val, 0, 0] :=
  (by decide +kernel : ∀ t : Fin grid0.N, _)

set_option maxHeartbeats 4000000 in
/-- What the launch finds in the cache, its features before its rows. -/
theorem v14_eq (c : Dev nD) : (show FVec Ideal S128x256x512 .f32 from V m c main_v14) = transpose S128x256x512 [0, 2, 1] (shapeCast S128x512x256 (shapeCast S128x512x2x2x64 (cacheArg m c) shapeCasts_S1x128x512x2x2x64_S128x512x2x2x64) shapeCasts_S128x512x2x2x64_S128x512x256) transposes_S128x512x256_S128x256x512_0_2_1 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.cons_append, List.nil_append, StableHlo.TRef.ternary, StableHlo.TRef.unary, StableHlo.TRef.toBuf, StableHlo.TRef.ofBuf, cast_eq]
  after_results_simp <;> rfl

set_option maxHeartbeats 4000000 in
/-- What the launch finds in the new rows. -/
theorem v15_eq (c : Dev nD) : (show FVec Ideal S128x8x256 .f32 from V m c main_v15) = shapeCast S128x8x256 (kvArg m c) shapeCasts_S128x8x2x2x64_S128x8x256 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.cons_append, List.nil_append, StableHlo.TRef.ternary, StableHlo.TRef.unary, StableHlo.TRef.toBuf, StableHlo.TRef.ofBuf, cast_eq]
  after_results_simp <;> rfl

set_option maxHeartbeats 4000000 in
/-- What the launch finds in the queries. -/
theorem v18_eq (c : Dev nD) : (show FVec Ideal S128x8x512 .f32 from V m c main_v18) = mulf (shapeCast S128x8x512 (qArg m c) shapeCasts_S128x8x2x4x64_S128x8x512) (broadcastInDim S128x8x512 ![] bcast_S_S128x8x512 (constant S_ .f32 0x3E000000#32)) := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.cons_append, List.nil_append, StableHlo.TRef.ternary, StableHlo.TRef.unary, StableHlo.TRef.toBuf, StableHlo.TRef.ofBuf, cast_eq]
  after_results_simp <;> rfl

/-- The cache with its features before its rows, at an index. -/
theorem cache_at (A : FVec Ideal S1x128x512x2x2x64 .f32) (i : Fin 128) (h w : Fin 2) (e : Fin 64) (k : Fin 512) :
    transpose S128x256x512 [0, 2, 1] (shapeCast S128x512x256 (shapeCast S128x512x2x2x64 A shapeCasts_S1x128x512x2x2x64_S128x512x2x2x64) shapeCasts_S128x512x2x2x64_S128x512x256) transposes_S128x512x256_S128x256x512_0_2_1 (ix3 i ⟨h.val * 128 + w.val * 64 + e.val, by omega⟩ k)
      = A (ix6 0 i k h w e) := by
  pointwise []

/-- The new rows, their features flattened, at an index. -/
theorem kv_at (A : FVec Ideal S128x8x2x2x64 .f32) (i : Fin 128) (h w : Fin 2) (e : Fin 64) (k : Fin 8) :
    shapeCast S128x8x256 A shapeCasts_S128x8x2x2x64_S128x8x256 (ix3 i k ⟨h.val * 128 + w.val * 64 + e.val, by omega⟩) = A (ix5 i k h w e) := by
  pointwise []

/-- The scaled queries, their features flattened, at an index. -/
theorem q_at (A : FVec Ideal S128x8x2x4x64 .f32) (i : Fin 128) (u : Fin 8) (h : Fin 2) (g : Fin 4) (e : Fin 64) :
    mulf (shapeCast S128x8x512 A shapeCasts_S128x8x2x4x64_S128x8x512) (broadcastInDim S128x8x512 ![] bcast_S_S128x8x512 (constant S_ .f32 0x3E000000#32)) (ix3 i u ⟨(h.val * 4 + g.val) * 64 + e.val, by omega⟩)
      = A (ix5 i u h g e) * Ideal.ofBits .f32 0x3E000000#32 := by
  pointwise []

/-- The cache's block, read at the cache. -/
theorem read0 (c : Dev nD) (t : Fin cfg0.N) (b : Fin 4) (h w : Fin 2) (e : Fin 64) (k : Fin 512) :
    (show FVec Ideal S4x256x512 .f32 from iblk m c 0 t) (ix3 b ⟨h.val * 128 + w.val * 64 + e.val, by omega⟩ k)
      = cacheArg m c (ix6 0 ⟨t.val * 4 + b.val, by idx_bounds; omega⟩ k h w e) := by
  blk_simp [iblk]
  refine (congrFun (v14_eq m c) _).trans (Eq.trans (congrArg _ ?_) (cache_at (cacheArg m c) ⟨t.val * 4 + b.val, by idx_bounds; omega⟩ h w e k))
  blk_ext [idx t]

/-- The new rows' block, read at the new rows. -/
theorem read1 (c : Dev nD) (t : Fin cfg0.N) (b : Fin 4) (k : Fin 8) (h w : Fin 2) (e : Fin 64) :
    (show FVec Ideal S4x8x256 .f32 from iblk m c 1 t) (ix3 b k ⟨h.val * 128 + w.val * 64 + e.val, by omega⟩)
      = kvArg m c (ix5 ⟨t.val * 4 + b.val, by idx_bounds; omega⟩ k h w e) := by
  blk_simp [iblk]
  refine (congrFun (v15_eq m c) _).trans (Eq.trans (congrArg _ ?_) (kv_at (kvArg m c) ⟨t.val * 4 + b.val, by idx_bounds; omega⟩ h w e k))
  blk_ext [idx t]

/-- The queries' block, read at the queries. -/
theorem read2 (c : Dev nD) (t : Fin cfg0.N) (b : Fin 4) (u : Fin 8) (h : Fin 2) (g : Fin 4) (e : Fin 64) :
    (show FVec Ideal S4x8x512 .f32 from iblk m c 2 t) (ix3 b u ⟨(h.val * 4 + g.val) * 64 + e.val, by omega⟩)
      = qArg m c (ix5 ⟨t.val * 4 + b.val, by idx_bounds; omega⟩ u h g e) * Ideal.ofBits .f32 0x3E000000#32 := by
  blk_simp [iblk]
  refine (congrFun (v18_eq m c) _).trans (Eq.trans (congrArg _ ?_) (q_at (qArg m c) ⟨t.val * 4 + b.val, by idx_bounds; omega⟩ u h g e))
  blk_ext [idx t]

/-- The past keys' biases, whole at every point. -/
theorem read3 (c : Dev nD) (t : Fin cfg0.N) (h : Fin 2) (r : Fin 32) (k : Fin 512) :
    (show FVec Ideal S2x32x512 .f32 from iblk m c 3 t) (ix3 h r k) = pastBias (tblArg m c) (ix3 h r k) := by
  blk_simp [iblk]
  refine (congrFun (v11_eq m c) _).trans ?_
  refine congrArg (pastBias (tblArg m c)) ?_
  blk_ext [idx t]

/-- The new keys' biases, whole at every point. -/
theorem read4 (c : Dev nD) (t : Fin cfg0.N) (h : Fin 2) (r : Fin 32) (k : Fin 128) :
    (show FVec Ideal S2x32x128 .f32 from iblk m c 4 t) (ix3 h r k) = newBias (tblArg m c) (ix3 h r k) := by
  blk_simp [iblk]
  refine (congrFun (v5_eq m c) _).trans ?_
  refine congrArg (newBias (tblArg m c)) ?_
  blk_ext [idx t]

/-- Where the attention's block lies in the result. -/
theorem emb5 (t : Fin cfg0.N) (b : Fin 4) (u : Fin 8) (j : Fin 512) :
    ((cfg0.win 5).blk t).view.emb (ix3 b u j) = (ix3 ⟨t.val * 4 + b.val, by idx_bounds; omega⟩ u j : S128x8x512.Idx) := by
  blk_ext [idx t]

/-- Where the kept cache's block lies in the result. -/
theorem emb6 (t : Fin cfg0.N) (b : Fin 4) (f : Fin 256) (k : Fin 512) :
    ((cfg0.win 6).blk t).view.emb (ix3 b f k) = (ix3 ⟨t.val * 4 + b.val, by idx_bounds; omega⟩ f k : S128x256x512.Idx) := by
  blk_ext [idx t]

end Cert.WinIdeal.Value
-- ==== Proof.WinRefSeen.lean ====
module
public import proofs.«01_k».proof.Proof.WinBucket
public import proofs.«01_k».proof.Proof.Gen.WinRefIdeal.Run
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRefIdeal.Value
open Cert.WinRefIdeal Cert.WinRefIdeal.Gen Cert.WinRows

set_option maxHeartbeats 0 in
/-- The reference's buckets as printed: of the distance where the key lies before the query, else of zero. -/
theorem buckets : ∀ (t : Fin 8) (j : Fin 520), lit0 ⟨t.val * 520 + j.val, by omega⟩ = BitVec.ofNat 32 (bucket (512 + t.val - j.val)) := by
  intro t
  fin_cases t <;> decide +kernel

set_option maxHeartbeats 0 in
/-- The keys a query sees, as the reference prints them. -/
theorem seen : ∀ (t : Fin 8) (j : Fin 520), lit1 ⟨t.val * 520 + j.val, by omega⟩ = if t.val < j.val ∧ j.val ≤ 512 + t.val then 1#1 else 0#1 := by
  intro t
  fin_cases t <;> decide +kernel

end Cert.WinRefIdeal.Value
-- ==== Proof.WinRef.lean ====
module
public import proofs.«01_k».proof.Proof.WinRows
public import proofs.«01_k».proof.Proof.WinRefSeen
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRefIdeal.Value
open Cert.WinRefIdeal Cert.WinRefIdeal.Gen Cert.WinRows

/-- Where each query looks its bias up, as printed. -/
@[irreducible] def bucketTable : Fin 4160 → BitVec 32 := lit0
/-- The printed table is the one named. -/
theorem bucketTable_eq : bucketTable = lit0 := by unfold bucketTable; rfl
/-- Which keys each query sees, as printed. -/
@[irreducible] def seenTable : Fin 4160 → BitVec 1 := lit1
/-- The printed table is the one named. -/
theorem seenTable_eq : seenTable = lit1 := by unfold seenTable; rfl

/-- The keys and values: the cache's rows, then the new ones. -/
def rows (kv : FVec Ideal S128x8x2x2x64 .f32) (cache : FVec Ideal S1x128x512x2x2x64 .f32) : FVec Ideal S128x520x2x2x64 .f32 :=
  concatenate S128x520x2x2x64 1 [⟨S128x512x2x2x64, shapeCast _ cache shapeCasts_S1x128x512x2x2x64_S128x512x2x2x64⟩, ⟨S128x8x2x2x64, kv⟩] concatenates_S128x512x2x2x64_S128x8x2x2x64_S128x520x2x2x64_d1

/-- An entry of the keys and values. -/
def rowAt (kv : FVec Ideal S128x8x2x2x64 .f32) (cache : FVec Ideal S1x128x512x2x2x64 .f32) (i : Fin 128) (k : Fin 520) (h w : Fin 2) (e : Fin 64) : EReal :=
  if hk : k.val < 512 then cache (ix6 0 i ⟨k.val, hk⟩ h w e) else kv (ix5 i ⟨k.val - 512, by omega⟩ h w e)

/-- The keys and values, at an index. -/
theorem rows_at (kv : FVec Ideal S128x8x2x2x64 .f32) (cache : FVec Ideal S1x128x512x2x2x64 .f32) (i : Fin 128) (k : Fin 520) (h w : Fin 2) (e : Fin 64) :
    rows kv cache (ix5 i k h w e) = rowAt kv cache i k h w e := by
  pointwise [rows, rowAt]

/-- The scaled products of queries and keys. -/
def products (q : FVec Ideal S128x8x2x4x64 .f32) (R : FVec Ideal S128x520x2x2x64 .f32) : FVec Ideal S128x8x520x2x4 .f32 :=
  mulf (transpose S128x8x520x2x4 [0, 3, 2, 1, 4] (Host.dotGeneral dot_S128x520x2x64_S128x8x2x4x64_S128x2x520x8x4_3_4_1_13_02_02 none (shapeCast _ (extractStridedSlice S128x520x2x1x64 ![0, 0, 0, 0, 0] R slices_S128x520x2x2x64_S128x520x2x1x64_0_0_0_0_0) shapeCasts_S128x520x2x1x64_S128x520x2x64) q) transposes_S128x2x520x8x4_S128x8x520x2x4_0_3_2_1_4) (broadcastInDim S128x8x520x2x4 ![] bcast_S_S128x8x520x2x4 (constant S_ .f32 0x3E000000#32))

/-- The scaled products, at an index. -/
theorem products_at (q : FVec Ideal S128x8x2x4x64 .f32) (R : FVec Ideal S128x520x2x2x64 .f32) (i : Fin 128) (u : Fin 8) (k : Fin 520) (h : Fin 2) (g : Fin 4) :
    products q R (ix5 i u k h g) = (∑ e, R (ix5 i k h 0 e) * q (ix5 i u h g e)) * Ideal.ofBits .f32 0x3E000000#32 := by
  pointwise [products]

/-- The biases the table gives. -/
def biases (tbl : FVec Ideal S32x8 .f32) (B : IVec S8x520 32) : FVec Ideal S128x8x520x2x4 .f32 :=
  broadcastInDim S128x8x520x2x4 ![0, 1, 2, 3, 4] bcast_S1x8x520x2x4_S128x8x520x2x4_0_1_2_3_4 (broadcastInDim S1x8x520x2x4 ![1, 2, 3, 4] bcast_S8x520x2x4_S1x8x520x2x4_1_2_3_4 (shapeCast _ (Host.gather gather_S32x8_S8x520x1_S8x520x8_2_0_n_n_0_2_18 tbl (broadcastInDim S8x520x1 ![0, 1] bcast_S8x520_S8x520x1_0_1 (select (constantI S8x520 1 0#1) (addi B (broadcastInDim S8x520 ![] bcast_S_S8x520 (constantI S_ 32 32#32))) B))) shapeCasts_S8x520x8_S8x520x2x4))

/-- The rows taken, at an index. -/
theorem take_at (tbl : FVec Ideal S32x8 .f32) (B : IVec S8x520x1 32) (u : Fin 8) (k : Fin 520) (j : Fin 8) :
    Host.gather gather_S32x8_S8x520x1_S8x520x8_2_0_n_n_0_2_18 tbl B (ix3 u k j) = tbl (ix2 ⟨min (B (ix3 u k 0)).toInt.toNat 31, by omega⟩ j) := by
  unfold Host.gather
  refine congrArg tbl (funext fun a => Fin.ext ?_)
  show GatherDims.start _ (ix3 u k j) B a + GatherDims.batchCoord _ (ix3 u k j) a + GatherDims.offCoord _ (ix3 u k j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S8x520x1_S8x520x8_2_0_n_n_0_2_18.startIndexMap from List.mem_singleton.mpr rfl)]
    refine congrArg (fun z => min (B z).toInt.toNat 31) (funext fun b => Fin.ext ?_)
    match b with
    | ⟨0, _⟩ => rfl
    | ⟨1, _⟩ => rfl
    | ⟨2, _⟩ => rfl
  · unfold GatherDims.start
    rw [dif_neg (show ¬ (1 : Fin 2) ∈ gather_S32x8_S8x520x1_S8x520x8_2_0_n_n_0_2_18.startIndexMap from by decide)]
    unfold GatherDims.offCoord
    rw [dif_pos (show (1 : Fin 2) ∈ gather_S32x8_S8x520x1_S8x520x8_2_0_n_n_0_2_18.sKept from by decide)]
    simp only [Nat.zero_add, Nat.add_zero]
    rfl

/-- A bucket's number is read back from its word. -/
theorem bucket_word : ∀ n : Fin 32, min (BitVec.ofNat 32 n.val).toInt.toNat 31 = n.val := by decide +kernel

/-- The biases, at an index. -/
theorem biases_at (tbl : FVec Ideal S32x8 .f32) (B : IVec S8x520 32) (i : Fin 128) (u : Fin 8) (k : Fin 520) (h : Fin 2) (g : Fin 4) (n : Nat) (hn : n < 32) (hB : B (ix2 u k) = BitVec.ofNat 32 n) :
    biases tbl B (ix5 i u k h g) = tbl (ix2 ⟨n, hn⟩ ⟨h.val * 4 + g.val, by omega⟩) := by
  pointwise [biases]
  rw [take_at]
  refine congrArg (fun r => tbl (ix2 r _)) (Fin.ext ?_)
  have h : (broadcastInDim S8x520x1 ![0, 1] bcast_S8x520_S8x520x1_0_1 (select (constantI S8x520 1 0#1) (addi B (broadcastInDim S8x520 ![] bcast_S_S8x520 (constantI S_ 32 32#32))) B)) (ix3 u k 0) = BitVec.ofNat 32 n := by
    pointwise []
    exact hB
  show min (BitVec.toInt _).toNat 31 = n
  rw [h]
  exact bucket_word ⟨n, hn⟩

/-- Scores where the key is seen, minus infinity elsewhere. -/
def masked (M : IVec S8x520 1) (S : FVec Ideal S128x8x520x2x4 .f32) : FVec Ideal S128x8x520x2x4 .f32 :=
  select (broadcastInDim S128x8x520x2x4 ![1, 2, 3, 4] bcast_S8x520x1x1_S128x8x520x2x4_1_2_3_4 (broadcastInDim S8x520x1x1 ![0, 1] bcast_S8x520_S8x520x1x1_0_1 M)) S (broadcastInDim S128x8x520x2x4 ![] bcast_S_S128x8x520x2x4 (id (constant S_ .f32 0xFF800000#32)))

/-- The masked scores, at an index. -/
theorem masked_at (M : IVec S8x520 1) (S : FVec Ideal S128x8x520x2x4 .f32) (i : Fin 128) (u : Fin 8) (k : Fin 520) (h : Fin 2) (g : Fin 4) :
    masked M S (ix5 i u k h g) = if M (ix2 u k) = 1#1 then S (ix5 i u k h g) else Ideal.ofBits .f32 0xFF800000#32 := by
  pointwise [masked]
  rfl

/-- A query's greatest score. -/
def tops (S : FVec Ideal S128x8x520x2x4 .f32) : FVec Ideal S128x8x1x2x4 .f32 :=
  broadcastInDim S128x8x1x2x4 ![0, 1, 3, 4] bcast_S128x8x2x4_S128x8x1x2x4_0_1_3_4 (Host.reduce FloatOps.maximumf S (constant S_ .f32 0xFF800000#32) reducesTo_S128x8x520x2x4_S128x8x2x4_d2 h_S_)

/-- The greatest score, at an index. -/
theorem tops_at (S : FVec Ideal S128x8x520x2x4 .f32) (i : Fin 128) (u : Fin 8) (h : Fin 2) (g : Fin 4) :
    tops S (ix5 i u 0 h g) = Finset.univ.fold max (Ideal.ofBits .f32 0xFF800000#32) (fun k : Fin 520 => S (ix5 i u k h g)) := by
  pointwise [tops]

/-- A query's greatest score, zero in its place where all are minus infinity. -/
def shifts (S : FVec Ideal S128x8x520x2x4 .f32) : FVec Ideal S128x8x1x2x4 .f32 :=
  select (cmpf .ogt (tops S) (broadcastInDim S128x8x1x2x4 ![] bcast_S_S128x8x1x2x4 (constant S_ .f32 0xFF800000#32))) (tops S) (broadcastInDim S128x8x1x2x4 ![] bcast_S_S128x8x1x2x4 (id (constant S_ .f32 0x00000000#32)))

/-- The shift from the greatest score. -/
theorem shifts_top (T : FVec Ideal S128x8x1x2x4 .f32) (i : Fin 128) (u : Fin 8) (h : Fin 2) (g : Fin 4) :
    select (cmpf .ogt T (broadcastInDim S128x8x1x2x4 ![] bcast_S_S128x8x1x2x4 (constant S_ .f32 0xFF800000#32))) T (broadcastInDim S128x8x1x2x4 ![] bcast_S_S128x8x1x2x4 (id (constant S_ .f32 0x00000000#32))) (ix5 i u 0 h g)
      = if Ideal.ofBits .f32 0xFF800000#32 < T (ix5 i u 0 h g) then T (ix5 i u 0 h g) else Ideal.ofBits .f32 0x00000000#32 := by
  pointwise []
  exact congrArg (fun z : EReal => if Ideal.ofBits .f32 0xFF800000#32 < T (ix5 i u 0 h g) then T (ix5 i u 0 h g) else z) Ideal.ofBits_zero_f32

/-- The shift, at an index. -/
theorem shifts_at (S : FVec Ideal S128x8x520x2x4 .f32) (i : Fin 128) (u : Fin 8) (h : Fin 2) (g : Fin 4) :
    shifts S (ix5 i u 0 h g) = shift (fun k => S (ix5 i u k h g)) := by
  refine (shifts_top (tops S) i u h g).trans ?_
  rw [tops_at, ofBits_bot, Ideal.ofBits_zero_f32]
  rfl

/-- The exponentials of the shifted scores. -/
def exps (S : FVec Ideal S128x8x520x2x4 .f32) : FVec Ideal S128x8x520x2x4 .f32 :=
  Host.exp (subf S (broadcastInDim S128x8x520x2x4 ![0, 1, 2, 3, 4] bcast_S128x8x1x2x4_S128x8x520x2x4_0_1_2_3_4 (shifts S)))

/-- The softmax of the scores. -/
def softmax (S : FVec Ideal S128x8x520x2x4 .f32) : FVec Ideal S128x8x520x2x4 .f32 :=
  Host.divf (exps S) (broadcastInDim S128x8x520x2x4 ![0, 1, 2, 3, 4] bcast_S128x8x1x2x4_S128x8x520x2x4_0_1_2_3_4 (maximumf (broadcastInDim S128x8x1x2x4 ![0, 1, 3, 4] bcast_S128x8x2x4_S128x8x1x2x4_0_1_3_4 (Host.reduceAdd (exps S) (constant S_ .f32 0x00000000#32) reducesTo_S128x8x520x2x4_S128x8x2x4_d2 h_S_)) (broadcastInDim S128x8x1x2x4 ![] bcast_S_S128x8x1x2x4 (constant S_ .f32 0x0DA24260#32))))

/-- The exponentials, at an index. -/
theorem exps_at (S : FVec Ideal S128x8x520x2x4 .f32) (i : Fin 128) (u : Fin 8) (k : Fin 520) (h : Fin 2) (g : Fin 4) :
    exps S (ix5 i u k h g) = Ideal.exp (S (ix5 i u k h g) - shift (fun k => S (ix5 i u k h g))) := by
  unfold exps
  pointwise [shifts_at]

/-- The softmax, at an index. -/
theorem softmax_at (S : FVec Ideal S128x8x520x2x4 .f32) (i : Fin 128) (u : Fin 8) (k : Fin 520) (h : Fin 2) (g : Fin 4) :
    softmax S (ix5 i u k h g) = Ideal.div (exps S (ix5 i u k h g)) (max (∑ l, exps S (ix5 i u l h g)) (Ideal.ofBits .f32 0x0DA24260#32)) := by
  unfold softmax
  pointwise []

/-- The attention's result: the softmax's weighted sums of the values. -/
def mixed (R : FVec Ideal S128x520x2x2x64 .f32) (P : FVec Ideal S128x8x520x2x4 .f32) : FVec Ideal S128x8x512 .f32 :=
  shapeCast _ (transpose S128x8x2x4x64 [0, 3, 1, 4, 2] (Host.dotGeneral dot_S128x520x2x64_S128x8x520x2x4_S128x2x64x8x4_1_2_3_14_02_03 none (shapeCast _ (extractStridedSlice S128x520x2x1x64 ![0, 0, 0, 1, 0] R slices_S128x520x2x2x64_S128x520x2x1x64_0_0_0_1_0) shapeCasts_S128x520x2x1x64_S128x520x2x64) P) transposes_S128x2x64x8x4_S128x8x2x4x64_0_3_1_4_2) shapeCasts_S128x8x2x4x64_S128x8x512

/-- The attention's result, at an index. -/
theorem mixed_at (R : FVec Ideal S128x520x2x2x64 .f32) (P : FVec Ideal S128x8x520x2x4 .f32) (i : Fin 128) (u : Fin 8) (j : Fin 512) :
    mixed R P (ix3 i u j) = ∑ k, R (ix5 i k ⟨j.val / 256, by omega⟩ 1 ⟨j.val % 64, by omega⟩) * P (ix5 i u k ⟨j.val / 256, by omega⟩ ⟨j.val / 64 % 4, by omega⟩) := by
  pointwise [mixed]

/-- The reference's first result, by its parts. -/
theorem out0_eq (m : (ℓ : Loc nD τ sig) → Buf (Elt Ideal) ℓ) (c : Dev nD) :
    res_out0 (F := Ideal) m c = mixed (rows (m (c.tc.loc main_arg1)) (m (c.tc.loc main_arg2)))
      (softmax (masked (fun i => seenTable (S8x520.rowMajor i)) (addf (products (m (c.tc.loc main_arg0)) (rows (m (c.tc.loc main_arg1)) (m (c.tc.loc main_arg2)))) (biases (m (c.tc.loc main_arg3)) (fun i => bucketTable (S8x520.rowMajor i)))))) := by
  unfold mixed softmax exps shifts tops masked products biases rows
  rw [seenTable_eq, bucketTable_eq]
  rfl

/-- A score of the reference: of the query and a key it sees, minus infinity elsewhere. -/
def refScore (q : FVec Ideal S128x8x2x4x64 .f32) (kv : FVec Ideal S128x8x2x2x64 .f32) (cache : FVec Ideal S1x128x512x2x2x64 .f32) (tbl : FVec Ideal S32x8 .f32) (i : Fin 128) (u : Fin 8) (h : Fin 2) (g : Fin 4) (k : Fin 520) : EReal :=
  if u.val < k.val ∧ k.val ≤ 512 + u.val then
    (∑ e, rowAt kv cache i k h 0 e * q (ix5 i u h g e)) * Ideal.ofBits .f32 0x3E000000#32 + tbl (ix2 ⟨bucket (512 + u.val - k.val), bucket_lt _⟩ ⟨h.val * 4 + g.val, by omega⟩)
  else ⊥

/-- The masked scores are those. -/
theorem scores_at (q : FVec Ideal S128x8x2x4x64 .f32) (kv : FVec Ideal S128x8x2x2x64 .f32) (cache : FVec Ideal S1x128x512x2x2x64 .f32) (tbl : FVec Ideal S32x8 .f32) (i : Fin 128) (u : Fin 8) (k : Fin 520) (h : Fin 2) (g : Fin 4) :
    masked (fun i => seenTable (S8x520.rowMajor i)) (addf (products q (rows kv cache)) (biases tbl (fun i => bucketTable (S8x520.rowMajor i)))) (ix5 i u k h g) = refScore q kv cache tbl i u h g k := by
  rw [masked_at]
  have hs : seenTable (S8x520.rowMajor (ix2 u k)) = if u.val < k.val ∧ k.val ≤ 512 + u.val then 1#1 else 0#1 := by
    rw [seenTable_eq, ← seen u k]
    refine congrArg (fun i => lit1 i) (Fin.ext ?_)
    rw [Shape.rowMajor_val_two]; rfl
  have hb : bucketTable (S8x520.rowMajor (ix2 u k)) = BitVec.ofNat 32 (bucket (512 + u.val - k.val)) := by
    rw [bucketTable_eq, ← buckets u k]
    refine congrArg (fun i => lit0 i) (Fin.ext ?_)
    rw [Shape.rowMajor_val_two]; rfl
  show (if seenTable (S8x520.rowMajor (ix2 u k)) = 1#1 then _ else _) = _
  rw [hs]
  unfold refScore
  by_cases hc : u.val < k.val ∧ k.val ≤ 512 + u.val
  · rw [if_pos hc, if_pos hc, if_pos rfl]
    show products q (rows kv cache) (ix5 i u k h g) + biases tbl _ (ix5 i u k h g) = _
    rw [products_at, biases_at tbl _ i u k h g _ (bucket_lt _) hb]
    simp only [rows_at]
  · rw [if_neg hc, if_neg hc, if_neg (by decide), ofBits_bot]

/-- The reference's first result, at an index: a softmax over 520 keys. -/
theorem out0_at (m : (ℓ : Loc nD τ sig) → Buf (Elt Ideal) ℓ) (c : Dev nD) (i : Fin 128) (u : Fin 8) (j : Fin 512) :
    res_out0 (F := Ideal) m c (ix3 i u j)
      = refAttn (refScore (m (c.tc.loc main_arg0)) (m (c.tc.loc main_arg1)) (m (c.tc.loc main_arg2)) (m (c.tc.loc main_arg3)) i u ⟨j.val / 256, by omega⟩ ⟨j.val / 64 % 4, by omega⟩)
          (fun k => rowAt (m (c.tc.loc main_arg1)) (m (c.tc.loc main_arg2)) i k ⟨j.val / 256, by omega⟩ 1 ⟨j.val % 64, by omega⟩) := by
  rw [out0_eq]
  refine (mixed_at _ _ i u j).trans ?_
  unfold refAttn
  refine Finset.sum_congr rfl fun k _ => (mul_comm _ _).trans (congr (congrArg HMul.hMul ?_) (rows_at _ _ _ _ _ _ _))
  rw [softmax_at]
  simp only [exps_at, scores_at]

/-- The reference's second result. -/
def kept (R : FVec Ideal S128x520x2x2x64 .f32) : FVec Ideal S128x256x512 .f32 :=
  transpose S128x256x512 [0, 2, 1] (shapeCast _ (extractStridedSlice S128x512x2x2x64 ![0, 8, 0, 0, 0] R slices_S128x520x2x2x64_S128x512x2x2x64_0_8_0_0_0) shapeCasts_S128x512x2x2x64_S128x512x256) transposes_S128x512x256_S128x256x512_0_2_1

/-- The reference's second result, at an index: the last 512 rows, their features first. -/
theorem kept_at (R : FVec Ideal S128x520x2x2x64 .f32) (i : Fin 128) (f : Fin 256) (k : Fin 512) :
    kept R (ix3 i f k) = R (ix5 i ⟨k.val + 8, by omega⟩ ⟨f.val / 128, by omega⟩ ⟨f.val / 64 % 2, by omega⟩ ⟨f.val % 64, by omega⟩) := by
  pointwise [kept]
  blk_ext

end Cert.WinRefIdeal.Value
-- ==== Proof.WinOut.lean ====
module
public import proofs.«01_k».proof.Proof.WinAttn
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

/-- The new rows' block, padded with zeros to 128 rows. -/
def newRow (x1 : FVec Ideal S4x8x256 .f32) (i : Fin 4) (k : Fin 128) (j : Fin 256) : EReal := if h : k.val < 8 then x1 (ix3 i ⟨k.val, h⟩ j) else 0

/-- A query's score against a past key, from the blocks. -/
def pastBlk (x0 : FVec Ideal S4x256x512 .f32) (x2 : FVec Ideal S4x8x512 .f32) (x3 : FVec Ideal S2x32x512 .f32) (i : Fin 4) (u : Fin 8) (j k : Fin 512) : EReal :=
  ∑ e : Fin 64, x2 (ix3 i u ⟨j.val / 64 * 64 + e.val, by omega⟩) * x0 (ix3 i ⟨j.val / 256 * 128 + e.val, by omega⟩ k) + x3 (ix3 ⟨j.val / 256, by omega⟩ ⟨j.val / 64 % 4 * 8 + u.val, by omega⟩ k)

/-- A query's score against a new row, from the blocks. -/
def newBlk (x1 : FVec Ideal S4x8x256 .f32) (x2 : FVec Ideal S4x8x512 .f32) (x4 : FVec Ideal S2x32x128 .f32) (i : Fin 4) (u : Fin 8) (j : Fin 512) (k : Fin 128) : EReal :=
  ∑ e : Fin 64, x2 (ix3 i u ⟨j.val / 64 * 64 + e.val, by omega⟩) * newRow x1 i k ⟨j.val / 256 * 128 + e.val, by omega⟩ + x4 (ix3 ⟨j.val / 256, by omega⟩ ⟨j.val / 64 % 4 * 8 + u.val, by omega⟩ k)

set_option maxHeartbeats 4000000 in
/-- What a grid point writes to the attention's block: every query's attention over the past keys and the padded new rows. -/
theorem out5_at (c : Dev nD) (i : grid0.Coords) (arg1 : Memref sig .tc .vmem S4x256x512 .f32) (harg1 : arg1.IsWhole) (arg2 : Memref sig .tc .vmem S4x8x256 .f32) (harg2 : arg2.IsWhole) (arg3 : Memref sig .tc .vmem S4x8x512 .f32) (harg3 : arg3.IsWhole) (arg4 : Memref sig .tc .vmem S2x32x512 .f32) (harg4 : arg4.IsWhole) (arg5 : Memref sig .tc .vmem S2x32x128 .f32) (harg5 : arg5.IsWhole) (arg6 : Memref sig .tc .vmem S4x8x512 .f32) (harg6 : arg6.IsWhole) (arg7 : Memref sig .tc .vmem S4x256x512 .f32) (harg7 : arg7.IsWhole)
    (a0 : FVec Ideal S4x256x512 .f32) (a1 : FVec Ideal S4x8x256 .f32) (a2 : FVec Ideal S4x8x512 .f32) (a3 : FVec Ideal S2x32x512 .f32) (a4 : FVec Ideal S2x32x128 .f32) (b : Fin 4) (u : Fin 8) (j : Fin 512) :
    out0_A_5 (F := Ideal) c i arg1 harg1 arg2 harg2 arg3 harg3 arg4 harg4 arg5 harg5 arg6 harg6 arg7 harg7 a0 a1 a2 a3 a4 (ix3 b u j)
      = jointAttn (pastBlk a0 a2 a3 b u j) (newBlk a1 a2 a4 b u j)
          (fun k => a0 (ix3 b ⟨j.val / 256 * 128 + 64 + j.val % 64, by omega⟩ k)) (fun k => newRow a1 b k ⟨j.val / 256 * 128 + 64 + j.val % 64, by omega⟩) := by
  frame_out
  canon_tiles x h
  all_goals
    open_payloads
    idx_vars x
    obtain rfl : x0 = 0 := Subsingleton.elim _ _
    refine (slab_at _ _ _ (by decide) _ _).trans ?_
    refine (joint_at (scorePast _ _ _) (scoreNew _ _ _) _ _ _ _).trans ?_
    refine congr (congr (congr (congrArg jointAttn (funext fun k => ?_)) (funext fun k => ?_)) (funext fun k => ?_)) (funext fun k => ?_)
    · rw [scorePast_at]
      pointwise [pastBlk]
      refine congr (congrArg HAdd.hAdd (Finset.sum_congr rfl fun e _ => congr (congrArg HMul.hMul ?_) ?_)) ?_ <;> (try split_ifs) <;> first | (exfalso; omega) | blk_ext
    · rw [scoreNew_at]
      pointwise [newBlk, newRow]
      refine congr (congrArg HAdd.hAdd (Finset.sum_congr rfl fun e _ => congr (congrArg HMul.hMul ?_) ?_)) ?_ <;> (try split_ifs) <;> first | (exfalso; omega) | blk_ext
    · pointwise []
      blk_ext
    · pointwise [newRow]
      (try split_ifs) <;> first | rfl | blk_ext

end Cert.WinIdeal.Value
-- ==== Proof.WinCache.lean ====
module
public import proofs.«01_k».proof.Proof.WinAttn
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows

/-- The lanes from 120 on, as the kernel tests them. -/
theorem newLane : ∀ x : Fin 128, IntOp.cmpi .sge (BitVec.ofNat 32 x.val) 120#32 = if 120 ≤ x.val then 1#1 else 0#1 := by decide +kernel

/-- A choice by that test. -/
theorem newLane_select (x : Fin 128) (A B : EReal) : Scalar.select (IntOp.cmpi .sge (BitVec.ofNat 32 x.val) 120#32) A B = if 120 ≤ x.val then A else B := by
  rw [newLane]
  split_ifs <;> rfl

set_option maxHeartbeats 4000000 in
/-- What a grid point writes to the cache's block: the old entries moved eight lanes down, the new rows in the last eight lanes. -/
theorem out6_at (c : Dev nD) (i : grid0.Coords) (arg1 : Memref sig .tc .vmem S4x256x512 .f32) (harg1 : arg1.IsWhole) (arg2 : Memref sig .tc .vmem S4x8x256 .f32) (harg2 : arg2.IsWhole) (arg3 : Memref sig .tc .vmem S4x8x512 .f32) (harg3 : arg3.IsWhole) (arg4 : Memref sig .tc .vmem S2x32x512 .f32) (harg4 : arg4.IsWhole) (arg5 : Memref sig .tc .vmem S2x32x128 .f32) (harg5 : arg5.IsWhole) (arg6 : Memref sig .tc .vmem S4x8x512 .f32) (harg6 : arg6.IsWhole) (arg7 : Memref sig .tc .vmem S4x256x512 .f32) (harg7 : arg7.IsWhole)
    (a0 : FVec Ideal S4x256x512 .f32) (a1 : FVec Ideal S4x8x256 .f32) (a2 : FVec Ideal S4x8x512 .f32) (a3 : FVec Ideal S2x32x512 .f32) (a4 : FVec Ideal S2x32x128 .f32) (b : Fin 4) (f : Fin 256) (k : Fin 512) :
    out0_A_6 (F := Ideal) c i arg1 harg1 arg2 harg2 arg3 harg3 arg4 harg4 arg5 harg5 arg6 harg6 arg7 harg7 a0 a1 a2 a3 a4 (ix3 b f k)
      = if h : k.val < 504 then a0 (ix3 b f ⟨k.val + 8, by omega⟩) else a1 (ix3 b ⟨k.val - 504, by omega⟩ f) := by
  frame_out
  canon_tiles x h using (View.cover_of_tiledBy _ ![1, 256, 128] (by sl_kernel_rfl) _)
  all_goals
    open_payloads
    idx_vars x
    obtain rfl : x0 = 0 := Subsingleton.elim _ _
    pointwise []
    try rw [newLane_select]
    split_ifs <;> first | (exfalso; omega) | blk_ext

end Cert.WinIdeal.Value
-- ==== Proof.WinScore.lean ====
module
public import proofs.«01_k».proof.Proof.WinTables
public import proofs.«01_k».proof.Proof.WinRead
public import proofs.«01_k».proof.Proof.WinRef
public import proofs.«01_k».proof.Proof.WinOut
public import proofs.«01_k».proof.Proof.WinCache
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows Cert.WinRefIdeal.Value

variable (m : (ℓ : Loc nD τ sig) → Buf (Elt Ideal) ℓ)

/-- Every entry of the arguments is a real number. -/
abbrev Real (c : Dev nD) : Prop :=
  (∀ i, ∃ r : ℝ, qArg m c i = (r : EReal)) ∧ (∀ i, ∃ r : ℝ, kvArg m c i = (r : EReal)) ∧ (∀ i, ∃ r : ℝ, cacheArg m c i = (r : EReal)) ∧ (∀ i, ∃ r : ℝ, tblArg m c i = (r : EReal))

/-- The batch row of a block's row. -/
abbrev batch (t : Fin cfg0.N) (b : Fin 4) : Fin 128 := ⟨t.val * 4 + b.val, by idx_bounds; omega⟩

/-- Every key and value is a real number. -/
theorem row_real (c : Dev nD) (h : Real m c) (i : Fin 128) (k : Fin 520) (n w : Fin 2) (e : Fin 64) : ∃ r : ℝ, rowAt (kvArg m c) (cacheArg m c) i k n w e = (r : EReal) := by
  unfold rowAt
  split_ifs
  · exact h.2.2.1 _
  · exact h.2.1 _

/-- A score of the reference: minus infinity where the key is not seen, a real number where it is. -/
theorem score_cases (c : Dev nD) (h : Real m c) (i : Fin 128) (u : Fin 8) (n : Fin 2) (g : Fin 4) (k : Fin 520) :
    (u.val < k.val ∧ k.val ≤ 512 + u.val → ∃ r : ℝ, refScore (qArg m c) (kvArg m c) (cacheArg m c) (tblArg m c) i u n g k = (r : EReal))
      ∧ (¬(u.val < k.val ∧ k.val ≤ 512 + u.val) → refScore (qArg m c) (kvArg m c) (cacheArg m c) (tblArg m c) i u n g k = ⊥) := by
  unfold refScore
  refine ⟨fun hk => ?_, fun hk => if_neg hk⟩
  rw [if_pos hk]
  obtain ⟨r, hr⟩ := (score_scaled (fun e => qArg m c (ix5 i u n g e)) (fun e => rowAt (kvArg m c) (cacheArg m c) i k n 0 e) (fun e => h.1 _) (fun e => row_real m c h i k n 0 e)).2
  obtain ⟨s, hs⟩ := h.2.2.2 (ix2 ⟨bucket (512 + u.val - k.val), bucket_lt _⟩ ⟨n.val * 4 + g.val, by omega⟩)
  refine ⟨r + s, ?_⟩
  rw [EReal.coe_add, ← hr, ← hs]

/-- A query's score against a past key is the reference's. -/
theorem past_score (c : Dev nD) (h : Real m c) (t : Fin cfg0.N) (b : Fin 4) (u : Fin 8) (j k : Fin 512) :
    pastBlk (iblk m c 0 t) (iblk m c 2 t) (iblk m c 3 t) b u j k
      = refScore (qArg m c) (kvArg m c) (cacheArg m c) (tblArg m c) (batch t b) u ⟨j.val / 256, by omega⟩ ⟨j.val / 64 % 4, by omega⟩ ⟨k.val, by omega⟩ := by
  have hq : ∀ e : Fin 64, (show FVec Ideal S4x8x512 .f32 from iblk m c 2 t) (ix3 b u ⟨j.val / 64 * 64 + e.val, by omega⟩)
      = qArg m c (ix5 (batch t b) u ⟨j.val / 256, by omega⟩ ⟨j.val / 64 % 4, by omega⟩ e) * Ideal.ofBits .f32 0x3E000000#32 := fun e => by
    refine Eq.trans (congrArg _ ?_) (read2 m c t b u ⟨j.val / 256, by omega⟩ ⟨j.val / 64 % 4, by omega⟩ e)
    blk_ext
  have hk : ∀ e : Fin 64, (show FVec Ideal S4x256x512 .f32 from iblk m c 0 t) (ix3 b ⟨j.val / 256 * 128 + e.val, by omega⟩ k)
      = cacheArg m c (ix6 0 (batch t b) k ⟨j.val / 256, by omega⟩ 0 e) := fun e => by
    refine Eq.trans (congrArg _ ?_) (read0 m c t b ⟨j.val / 256, by omega⟩ 0 e k)
    blk_ext
  have hr : ∀ e : Fin 64, rowAt (kvArg m c) (cacheArg m c) (batch t b) ⟨k.val, by omega⟩ ⟨j.val / 256, by omega⟩ 0 e = cacheArg m c (ix6 0 (batch t b) k ⟨j.val / 256, by omega⟩ 0 e) :=
    fun e => dif_pos k.isLt
  have hb := (read3 m c t ⟨j.val / 256, by omega⟩ ⟨j.val / 64 % 4 * 8 + u.val, by omega⟩ k).trans (past_bias (tblArg m c) ⟨j.val / 256, by omega⟩ ⟨j.val / 64 % 4, by omega⟩ u k)
  refine (congr (congrArg (fun x y : EReal => x + y) (Finset.sum_congr rfl fun e _ => congr (congrArg (fun x y : EReal => x * y) (hq e)) (hk e))) hb).trans ?_
  obtain ⟨hs, -⟩ := score_scaled (fun e => qArg m c (ix5 (batch t b) u ⟨j.val / 256, by omega⟩ ⟨j.val / 64 % 4, by omega⟩ e)) (fun e => cacheArg m c (ix6 0 (batch t b) k ⟨j.val / 256, by omega⟩ 0 e)) (fun e => h.1 _) (fun e => h.2.2.1 _)
  unfold refScore
  simp only [hr]
  by_cases hk : u.val < k.val
  · rw [if_pos hk, if_pos ⟨hk, by omega⟩]
    exact congrArg (fun x : EReal => x + _) hs
  · rw [if_neg hk, if_neg (fun a => hk a.1)]
    exact EReal.add_bot _

/-- A query's score against a new key is the reference's. -/
theorem new_score (c : Dev nD) (h : Real m c) (t : Fin cfg0.N) (b : Fin 4) (u : Fin 8) (j : Fin 512) (k : Fin 8) :
    newBlk (iblk m c 1 t) (iblk m c 2 t) (iblk m c 4 t) b u j ⟨k.val, by omega⟩
      = refScore (qArg m c) (kvArg m c) (cacheArg m c) (tblArg m c) (batch t b) u ⟨j.val / 256, by omega⟩ ⟨j.val / 64 % 4, by omega⟩ ⟨512 + k.val, by omega⟩ := by
  have hq : ∀ e : Fin 64, (show FVec Ideal S4x8x512 .f32 from iblk m c 2 t) (ix3 b u ⟨j.val / 64 * 64 + e.val, by omega⟩)
      = qArg m c (ix5 (batch t b) u ⟨j.val / 256, by omega⟩ ⟨j.val / 64 % 4, by omega⟩ e) * Ideal.ofBits .f32 0x3E000000#32 := fun e => by
    refine Eq.trans (congrArg _ ?_) (read2 m c t b u ⟨j.val / 256, by omega⟩ ⟨j.val / 64 % 4, by omega⟩ e)
    blk_ext
  have hk : ∀ e : Fin 64, newRow (iblk m c 1 t) b ⟨k.val, by omega⟩ ⟨j.val / 256 * 128 + e.val, by omega⟩ = kvArg m c (ix5 (batch t b) k ⟨j.val / 256, by omega⟩ 0 e) := fun e => by
    refine (dif_pos k.isLt).trans (Eq.trans (congrArg _ ?_) (read1 m c t b k ⟨j.val / 256, by omega⟩ 0 e))
    blk_ext
  have hr : ∀ e : Fin 64, rowAt (kvArg m c) (cacheArg m c) (batch t b) ⟨512 + k.val, by omega⟩ ⟨j.val / 256, by omega⟩ 0 e = kvArg m c (ix5 (batch t b) k ⟨j.val / 256, by omega⟩ 0 e) := fun e => by
    refine (dif_neg (by simp)).trans (congrArg (kvArg m c) ?_)
    blk_ext
  have hb := (read4 m c t ⟨j.val / 256, by omega⟩ ⟨j.val / 64 % 4 * 8 + u.val, by omega⟩ ⟨k.val, by omega⟩).trans (new_bias (tblArg m c) ⟨j.val / 256, by omega⟩ ⟨j.val / 64 % 4, by omega⟩ u ⟨k.val, by omega⟩)
  refine (congr (congrArg (fun x y : EReal => x + y) (Finset.sum_congr rfl fun e _ => congr (congrArg (fun x y : EReal => x * y) (hq e)) (hk e))) hb).trans ?_
  obtain ⟨hs, -⟩ := score_scaled (fun e => qArg m c (ix5 (batch t b) u ⟨j.val / 256, by omega⟩ ⟨j.val / 64 % 4, by omega⟩ e)) (fun e => kvArg m c (ix5 (batch t b) k ⟨j.val / 256, by omega⟩ 0 e)) (fun e => h.1 _) (fun e => h.2.1 _)
  unfold refScore
  simp only [hr]
  by_cases hk : k.val ≤ u.val
  · rw [if_pos hk, if_pos ⟨by omega, by omega⟩]
    refine congr (congrArg (fun x y : EReal => x + y) hs) (congrArg (fun r => tblArg m c (ix2 r _)) (Fin.ext ?_))
    exact congrArg bucket (by omega)
  · rw [if_neg hk, if_neg (fun a => hk (by omega))]
    exact EReal.add_bot _

/-- A padded row is seen by no query. -/
theorem pad_score (c : Dev nD) (t : Fin cfg0.N) (b : Fin 4) (u : Fin 8) (j : Fin 512) (k : Fin 128) (hk : 8 ≤ k.val) :
    newBlk (iblk m c 1 t) (iblk m c 2 t) (iblk m c 4 t) b u j k = ⊥ := by
  have hb := (read4 m c t ⟨j.val / 256, by omega⟩ ⟨j.val / 64 % 4 * 8 + u.val, by omega⟩ k).trans (new_bias (tblArg m c) ⟨j.val / 256, by omega⟩ ⟨j.val / 64 % 4, by omega⟩ u k)
  rw [if_neg (by omega)] at hb
  refine (congrArg (fun y : EReal => _ + y) hb).trans ?_
  exact EReal.add_bot _

/-- What a grid point writes of the attention is the reference's attention. -/
theorem attn_eq (c : Dev nD) (h : Real m c) (t : Fin cfg0.N) (b : Fin 4) (u : Fin 8) (j : Fin 512) :
    jointAttn (pastBlk (iblk m c 0 t) (iblk m c 2 t) (iblk m c 3 t) b u j) (newBlk (iblk m c 1 t) (iblk m c 2 t) (iblk m c 4 t) b u j)
        (fun k => (show FVec Ideal S4x256x512 .f32 from iblk m c 0 t) (ix3 b ⟨j.val / 256 * 128 + 64 + j.val % 64, by omega⟩ k))
        (fun k => newRow (iblk m c 1 t) b k ⟨j.val / 256 * 128 + 64 + j.val % 64, by omega⟩)
      = refAttn (refScore (qArg m c) (kvArg m c) (cacheArg m c) (tblArg m c) (batch t b) u ⟨j.val / 256, by omega⟩ ⟨j.val / 64 % 4, by omega⟩)
          (fun k => rowAt (kvArg m c) (cacheArg m c) (batch t b) k ⟨j.val / 256, by omega⟩ 1 ⟨j.val % 64, by omega⟩) := by
  have own := (score_cases m c h (batch t b) u ⟨j.val / 256, by omega⟩ ⟨j.val / 64 % 4, by omega⟩ ⟨512 + u.val, by omega⟩).1 ⟨by simp, le_refl _⟩
  refine joint_eq _ _ _ _ _ _ (past_score m c h t b u j) (new_score m c h t b u j) (pad_score m c t b u j) (fun k => ?_) (fun k => ?_) (fun k => ?_) ⟨512 + u.val, by omega⟩ ?_ (fun k => row_real m c h _ k _ _ _)
  · refine (Eq.trans (congrArg _ ?_) (read0 m c t b ⟨j.val / 256, by omega⟩ 1 ⟨j.val % 64, by omega⟩ k)).trans (Eq.symm (dif_pos k.isLt))
    blk_ext
  · refine (dif_pos k.isLt).trans ((Eq.trans (congrArg _ ?_) (read1 m c t b k ⟨j.val / 256, by omega⟩ 1 ⟨j.val % 64, by omega⟩)).trans (Eq.symm ((dif_neg (by simp)).trans (congrArg (kvArg m c) ?_))))
    · blk_ext
    · blk_ext
  · by_cases hk : u.val < k.val ∧ k.val ≤ 512 + u.val
    · obtain ⟨r, hr⟩ := (score_cases m c h (batch t b) u ⟨j.val / 256, by omega⟩ ⟨j.val / 64 % 4, by omega⟩ k).1 hk
      rw [hr]
      exact EReal.coe_ne_top r
    · rw [(score_cases m c h (batch t b) u ⟨j.val / 256, by omega⟩ ⟨j.val / 64 % 4, by omega⟩ k).2 hk]
      exact bot_ne_top
  · obtain ⟨r, hr⟩ := own
    rw [hr]
    exact EReal.coe_ne_bot r

end Cert.WinIdeal.Value
-- ==== Proof.WinValue.lean ====
module
public import proofs.«01_k».proof.Proof.WinScore
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinIdeal.Value
open Cert.WinIdeal Cert.WinIdeal.Gen Cert.WinRows Cert.WinRefIdeal.Value

variable (m : (ℓ : Loc nD τ sig) → Buf (Elt Ideal) ℓ)
  (m' : (ℓ : Loc Cert.WinRefIdeal.nD Cert.WinRefIdeal.τ Cert.WinRefIdeal.sig) → Buf (Elt Ideal) ℓ)

/-- The reference's argument arrays are the kernel's. -/
abbrev SameArgs (c : Dev nD) : Prop :=
  m' ((c.tc : Thread Cert.WinRefIdeal.nD Cert.WinRefIdeal.τ).loc Cert.WinRefIdeal.main_arg0) = m ((c.tc : Thread nD τ).loc main_arg0)
  ∧ m' ((c.tc : Thread Cert.WinRefIdeal.nD Cert.WinRefIdeal.τ).loc Cert.WinRefIdeal.main_arg1) = m ((c.tc : Thread nD τ).loc main_arg1)
  ∧ m' ((c.tc : Thread Cert.WinRefIdeal.nD Cert.WinRefIdeal.τ).loc Cert.WinRefIdeal.main_arg2) = m ((c.tc : Thread nD τ).loc main_arg2)
  ∧ m' ((c.tc : Thread Cert.WinRefIdeal.nD Cert.WinRefIdeal.τ).loc Cert.WinRefIdeal.main_arg3) = m ((c.tc : Thread nD τ).loc main_arg3)

/-- The kernel's attention is the reference's. -/
theorem final5 (c : Dev nD) (hr : Real m c) (h : SameArgs m m' c) :
    (dats m 0 c).arrAt 5 (cfgs 0).N = Cert.WinRefIdeal.Value.res_out0 m' c := by
  refine (dats m 0 c).arrAt_eq_of_covers 5 _ (by decide +kernel) fun t _ y => ?_
  blk_simp
  rw [after0_5]
  unfold outsAt0
  obtain ⟨h0, h1, h2, h3⟩ := h
  obtain ⟨b, u, j, rfl⟩ : ∃ (b : Fin 4) (u : Fin 8) (j : Fin 512), y = ix3 b u j := ⟨y 0, y 1, y 2, by blk_ext []⟩
  refine (out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b u j).trans ?_
  refine (attn_eq m c hr t b u j).trans ?_
  refine Eq.trans ?_ (congrArg _ (emb5 t b u j)).symm
  refine Eq.trans ?_ (Cert.WinRefIdeal.Value.out0_at m' c (batch t b) u j).symm
  rw [h0, h1, h2, h3]

/-- What a grid point writes of the cache is the kept rows'. -/
theorem kept_eq (c : Dev nD) (t : Fin cfg0.N) (b : Fin 4) (f : Fin 256) (k : Fin 512) :
    (if h : k.val < 504 then (show FVec Ideal S4x256x512 .f32 from iblk m c 0 t) (ix3 b f ⟨k.val + 8, by omega⟩)
      else (show FVec Ideal S4x8x256 .f32 from iblk m c 1 t) (ix3 b ⟨k.val - 504, by omega⟩ f))
      = rowAt (kvArg m c) (cacheArg m c) (batch t b) ⟨k.val + 8, by omega⟩ ⟨f.val / 128, by omega⟩ ⟨f.val / 64 % 2, by omega⟩ ⟨f.val % 64, by omega⟩ := by
  unfold rowAt
  by_cases hk : k.val < 504
  · refine (dif_pos hk).trans (Eq.trans ?_ (dif_pos (show k.val + 8 < 512 by omega)).symm)
    refine Eq.trans (congrArg _ ?_) (read0 m c t b ⟨f.val / 128, by omega⟩ ⟨f.val / 64 % 2, by omega⟩ ⟨f.val % 64, by omega⟩ ⟨k.val + 8, by omega⟩)
    blk_ext
  · refine (dif_neg hk).trans (Eq.trans ?_ (dif_neg (show ¬ k.val + 8 < 512 by omega)).symm)
    refine (Eq.trans (congrArg _ ?_) (read1 m c t b ⟨k.val - 504, by omega⟩ ⟨f.val / 128, by omega⟩ ⟨f.val / 64 % 2, by omega⟩ ⟨f.val % 64, by omega⟩)).trans (congrArg (kvArg m c) ?_)
    · blk_ext
    · blk_ext

set_option maxHeartbeats 2000000 in
/-- The kernel's kept cache is the reference's. -/
theorem final6 (c : Dev nD) (h : SameArgs m m' c) :
    (dats m 0 c).arrAt 6 (cfgs 0).N
      = kept (rows (m' ((c.tc : Thread Cert.WinRefIdeal.nD Cert.WinRefIdeal.τ).loc Cert.WinRefIdeal.main_arg1)) (m' ((c.tc : Thread Cert.WinRefIdeal.nD Cert.WinRefIdeal.τ).loc Cert.WinRefIdeal.main_arg2))) := by
  refine (dats m 0 c).arrAt_eq_of_covers 6 _ (by decide +kernel) fun t _ y => ?_
  blk_simp
  rw [after0_6]
  unfold outsAt0
  obtain ⟨h0, h1, h2, h3⟩ := h
  obtain ⟨b, f, k, rfl⟩ : ∃ (b : Fin 4) (f : Fin 256) (k : Fin 512), y = ix3 b f k := ⟨y 0, y 1, y 2, by blk_ext []⟩
  refine (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) b f k).trans ?_
  rw [h1, h2]
  refine (kept_eq m c t b f k).trans ?_
  refine Eq.trans ?_ (congrArg (kept (rows (kvArg m c) (cacheArg m c))) (emb6 t b f k)).symm
  exact ((kept_at (rows (kvArg m c) (cacheArg m c)) (batch t b) f k).trans (rows_at _ _ _ _ _ _ _)).symm

end Cert.WinIdeal.Value
-- ==== Proof.WinFinite.lean ====
module
public import proofs.«01_k».proof.Defs
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRows

/-- The positive infinity's pattern. -/
theorem ofBits_top : Ideal.ofBits FTy.f32 0x7F800000#32 = ⊤ := by
  simp [Ideal.ofBits, Ideal.ieee]

/-- An array whose entries' absolute values lie below infinity has real entries. -/
theorem finite_entries (S : Shape) (x : FVec Ideal S .f32) (hb : (⟨0, ![]⟩ : Shape).BroadcastsInDim S (![] : Fin 0 → Fin S.rank))
    (h : cmpf .olt (Host.absf x) (broadcastInDim S ![] hb (constant (F := Ideal) ⟨0, ![]⟩ .f32 0x7F800000#32)) = fun _ => 1#1) (i : S.Idx) :
    ∃ r : ℝ, x i = (r : EReal) := by
  have h1 : BitVec.ofBool (decide (max (x i) (-(x i)) < Ideal.ofBits FTy.f32 0x7F800000#32)) = 1#1 := congrFun h i
  rw [ofBits_top] at h1
  have h2 : max (x i) (-(x i)) < ⊤ := by
    by_contra hc
    rw [decide_eq_false hc] at h1
    exact absurd h1 (by decide)
  have hT : x i ≠ ⊤ := (lt_of_le_of_lt (le_max_left _ _) h2).ne
  have hB : x i ≠ ⊥ := by
    intro hx
    have h3 := lt_of_le_of_lt (le_max_right (x i) (-(x i))) h2
    rw [hx, EReal.neg_bot] at h3
    exact absurd h3 (lt_irrefl _)
  exact ⟨(x i).toReal, (EReal.coe_toReal hT hB).symm⟩

/-- What the precondition says: every entry of the four arrays is a real number. -/
theorem entries [Cert.Pre_win_finite.Facts] (q : FVec Ideal Cert.WinIdeal.S128x8x2x4x64 .f32) (kv : FVec Ideal Cert.WinIdeal.S128x8x2x2x64 .f32) (cache : FVec Ideal Cert.WinIdeal.S1x128x512x2x2x64 .f32) (tbl : FVec Ideal Cert.WinIdeal.S32x8 .f32)
    (h : (Cert.Pre_win_finite.fn (F := Ideal) q kv cache tbl).1 = (fun _ => 1#1)
      ∧ (Cert.Pre_win_finite.fn (F := Ideal) q kv cache tbl).2.1 = (fun _ => 1#1)
      ∧ (Cert.Pre_win_finite.fn (F := Ideal) q kv cache tbl).2.2.1 = (fun _ => 1#1)
      ∧ (Cert.Pre_win_finite.fn (F := Ideal) q kv cache tbl).2.2.2 = (fun _ => 1#1)) :
    (∀ i, ∃ r : ℝ, q i = (r : EReal)) ∧ (∀ i, ∃ r : ℝ, kv i = (r : EReal)) ∧ (∀ i, ∃ r : ℝ, cache i = (r : EReal)) ∧ (∀ i, ∃ r : ℝ, tbl i = (r : EReal)) :=
  ⟨finite_entries _ q _ h.1, finite_entries _ kv _ h.2.1, finite_entries _ cache _ h.2.2.1, finite_entries _ tbl _ h.2.2.2⟩

end Cert.WinRows
-- ==== Proof.WinRuns.lean ====
module
public import proofs.«01_k».proof.Proof.WinValue
public import proofs.«01_k».proof.Proof.WinFinite
public import Idealize.ShloMosaic.Lib.Pipeline.ValueKit
public import Idealize.ShloMosaic.Lib.Pointwise
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.WinRows

/-- The shape relations the precondition's operations take. -/
theorem finite_facts : Cert.Pre_win_finite.Facts where
  bcast_S_S128x8x2x4x64 := by decide
  bcast_S_S128x8x2x2x64 := by decide
  bcast_S_S1x128x512x2x2x64 := by decide
  bcast_S_S32x8 := by decide

end Cert.WinRows

namespace Cert.WinIdeal.Value
open Cert.WinIdeal Cert.WinIdeal.Gen

/-- The kernel's run, both results as the launch leaves them. -/
theorem both_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19_0) = (dats m 0 c).arrAt 5 (cfgs 0).N
      ∧ r.2.mem ((c.tc : Thread nD τ).loc main_v19_1) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨h.1.out_eq c 5, h.1.out_eq c 6, h.2 c⟩) (θ_run_and (Gen.run_main m ρ) (Gen.unchanged m ρ))

end Cert.WinIdeal.Value
-- ==== Proof.lean ====
/- The certificate's claims, each from the modules that prove it. -/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.Proj.Frame
public import proofs.«01_k».proof.Proof.Gen.ProjIdeal.Frame
public import proofs.«01_k».proof.Proof.Gen.ProjRefIdeal.Run
public import proofs.«01_k».proof.Proof.ProjRuns
public import proofs.«01_k».proof.Proof.Gen.Comb.Frame
public import proofs.«01_k».proof.Proof.Gen.CombIdeal.Frame
public import proofs.«01_k».proof.Proof.Gen.CombRefIdeal.Run
public import proofs.«01_k».proof.Proof.CombValue
public import proofs.«01_k».proof.Proof.Gen.Ffns.Frame
public import proofs.«01_k».proof.Proof.Gen.FfnsIdeal.Frame
public import proofs.«01_k».proof.Proof.Gen.FfnsRefIdeal.Run
public import proofs.«01_k».proof.Proof.FfnsValue
public import proofs.«01_k».proof.Proof.Gen.Projs.Frame
public import proofs.«01_k».proof.Proof.Gen.ProjsIdeal.Frame
public import proofs.«01_k».proof.Proof.Gen.ProjsRefIdeal.Run
public import proofs.«01_k».proof.Proof.ProjsRuns
public import proofs.«01_k».proof.Proof.Gen.Combs.Frame
public import proofs.«01_k».proof.Proof.Gen.CombsIdeal.Frame
public import proofs.«01_k».proof.Proof.Gen.CombsRefIdeal.Run
public import proofs.«01_k».proof.Proof.CombsValue
public import proofs.«01_k».proof.Proof.Gen.Win.Frame
public import proofs.«01_k».proof.Proof.Gen.WinIdeal.Frame
public import proofs.«01_k».proof.Proof.Gen.WinRefIdeal.Run
public import proofs.«01_k».proof.Proof.WinRuns
public import Idealize.ShloMosaic.Adequacy
public import Idealize.ShloMosaic.Init

@[expose] public section

set_option maxRecDepth 16384

noncomputable section

namespace Cert.Proof

open Idealize.ShloMosaic Idealize.SL.Sem

/-- Feed-forward: the printed program runs to the end and leaves its arguments as they were. -/
theorem ffn_frame : Cert.quiescent_Ffn (hFfn := Cert.Ffn.Gen.facts) := fun m g _ => Cert.Ffn.Gen.frame m g

/-- Feed-forward: the same of the program over the reals. -/
theorem ffn_ideal_frame : Cert.quiescent_FfnIdeal (hFfnIdeal := Cert.FfnIdeal.Gen.facts) := fun m g _ => Cert.FfnIdeal.Gen.frame m g

/-- Feed-forward: the same of the reference. -/
theorem ffn_reference_frame : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩)
    (Cert.FfnRefIdeal.Value.run m g)

/-- Feed-forward: the kernel's result is the reference's. -/
theorem ffn_value : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    exact (Cert.FfnIdeal.Value.final m m' c (hagree c)).symm

/-- Input projection: the printed program runs to the end and leaves its arguments as they were. -/
theorem proj_frame : Cert.quiescent_Proj (hProj := Cert.Proj.Gen.facts) := fun m g _ => Cert.Proj.Gen.frame m g

/-- Input projection: the same of the program over the reals. -/
theorem proj_ideal_frame : Cert.quiescent_ProjIdeal (hProjIdeal := Cert.ProjIdeal.Gen.facts) := fun m g _ => Cert.ProjIdeal.Gen.frame m g

/-- Input projection: the same of the reference. -/
theorem proj_reference_frame : Cert.quiescent_ProjRefIdeal (hProjRefIdeal := Cert.ProjRefIdeal.Gen.facts) := fun m g _ =>
  (θ_run Cert.ProjRefIdeal.defs _ _).mono (fun r h => ⟨fun c => (h c).2.2.2.2.2.2.2.2, sem_eq_zero_of_no_sems (by decide) r.2⟩)
    (Cert.ProjRefIdeal.Value.run m g)

/-- Input projection: each of the kernel's eight results is the reference's. -/
theorem proj_value : Cert.algebraic_ProjIdeal_ProjRefIdeal (hProjIdeal := Cert.ProjIdeal.Gen.facts) (hProjRefIdeal := Cert.ProjRefIdeal.Gen.facts) := by
  intro m g m' g' _ hagree
  refine ⟨_, _, _, _, _, _, _, _, Cert.ProjIdeal.Value.parts_run m g, (θ_run Cert.ProjRefIdeal.defs _ _).mono (fun r h c => ?_) (Cert.ProjRefIdeal.Value.parts_run m' g')⟩
  have e : Cert.ProjRefIdeal.Value.uRef m' c = Cert.ProjIdeal.Value.uArg m c := by
    obtain ⟨h0, h1, h2, h3⟩ := hagree c
    unfold Cert.ProjRefIdeal.Value.uRef
    rw [h0, h1, h2, h3]
  have hc := h c
  rw [e] at hc
  exact hc

/-- Combination: the printed program runs to the end and leaves its arguments as they were. -/
theorem comb_frame : Cert.quiescent_Comb (hComb := Cert.Comb.Gen.facts) := fun m g _ => Cert.Comb.Gen.frame m g

/-- Combination: the same of the program over the reals. -/
theorem comb_ideal_frame : Cert.quiescent_CombIdeal (hCombIdeal := Cert.CombIdeal.Gen.facts) := fun m g _ => Cert.CombIdeal.Gen.frame m g

/-- Combination: the same of the reference. -/
theorem comb_reference_frame : Cert.quiescent_CombRefIdeal (hCombRefIdeal := Cert.CombRefIdeal.Gen.facts) := fun m g _ =>
  (θ_run Cert.CombRefIdeal.defs _ _).mono (fun r h => ⟨fun c => (h c).2, sem_eq_zero_of_no_sems (by decide) r.2⟩)
    (Cert.CombRefIdeal.Value.run m g)

/-- Combination: the kernel's result is the reference's. -/
theorem comb_value : Cert.algebraic_CombIdeal_CombRefIdeal (hCombIdeal := Cert.CombIdeal.Gen.facts) (hCombRefIdeal := Cert.CombRefIdeal.Gen.facts) := by
  pair_intro
  · run_from Cert.CombIdeal.Gen.run_main m g
  · run_from Cert.CombRefIdeal.Value.run m' g'
    exact (Cert.CombIdeal.Value.final m m' c (hagree c)).symm

/-- Feed-forward, sample step: the printed program runs to the end and leaves its arguments as they were. -/
theorem ffns_frame : Cert.quiescent_Ffns (hFfns := Cert.Ffns.Gen.facts) := fun m g _ => Cert.Ffns.Gen.frame m g

/-- Feed-forward, sample step: the same of the program over the reals. -/
theorem ffns_ideal_frame : Cert.quiescent_FfnsIdeal (hFfnsIdeal := Cert.FfnsIdeal.Gen.facts) := fun m g _ => Cert.FfnsIdeal.Gen.frame m g

/-- Feed-forward, sample step: the same of the reference. -/
theorem ffns_reference_frame : Cert.quiescent_FfnsRefIdeal (hFfnsRefIdeal := Cert.FfnsRefIdeal.Gen.facts) := fun m g _ =>
  (θ_run Cert.FfnsRefIdeal.defs _ _).mono (fun r h => ⟨fun c => (h c).2, sem_eq_zero_of_no_sems (by decide) r.2⟩)
    (Cert.FfnsRefIdeal.Value.run m g)

/-- Feed-forward, sample step: the kernel's result is the reference's. -/
theorem ffns_value : Cert.algebraic_FfnsIdeal_FfnsRefIdeal (hFfnsIdeal := Cert.FfnsIdeal.Gen.facts) (hFfnsRefIdeal := Cert.FfnsRefIdeal.Gen.facts) := by
  pair_intro
  · run_from Cert.FfnsIdeal.Gen.run_main m g
  · run_from Cert.FfnsRefIdeal.Value.run m' g'
    exact (Cert.FfnsIdeal.Value.final m m' c (hagree c)).symm

/-- Input projection, sample step: the printed program runs to the end and leaves its arguments as they were. -/
theorem projs_frame : Cert.quiescent_Projs (hProjs := Cert.Projs.Gen.facts) := fun m g _ => Cert.Projs.Gen.frame m g

/-- Input projection, sample step: the same of the program over the reals. -/
theorem projs_ideal_frame : Cert.quiescent_ProjsIdeal (hProjsIdeal := Cert.ProjsIdeal.Gen.facts) := fun m g _ => Cert.ProjsIdeal.Gen.frame m g

/-- Input projection, sample step: the same of the reference. -/
theorem projs_reference_frame : Cert.quiescent_ProjsRefIdeal (hProjsRefIdeal := Cert.ProjsRefIdeal.Gen.facts) := fun m g _ =>
  (θ_run Cert.ProjsRefIdeal.defs _ _).mono (fun r h => ⟨fun c => (h c).2.2.2.2.2.2.2, sem_eq_zero_of_no_sems (by decide) r.2⟩)
    (Cert.ProjsRefIdeal.Value.run m g)

/-- Input projection, sample step: each of the kernel's seven results is the reference's. -/
theorem projs_value : Cert.algebraic_ProjsIdeal_ProjsRefIdeal (hProjsIdeal := Cert.ProjsIdeal.Gen.facts) (hProjsRefIdeal := Cert.ProjsRefIdeal.Gen.facts) := by
  intro m g m' g' _ hagree
  refine ⟨_, _, _, _, _, _, _, Cert.ProjsIdeal.Value.parts_run m g, (θ_run Cert.ProjsRefIdeal.defs _ _).mono (fun r h c => ?_) (Cert.ProjsRefIdeal.Value.parts_run m' g')⟩
  have e : Cert.ProjsRefIdeal.Value.uRef m' c = Cert.ProjsIdeal.Value.uArg m c := by
    obtain ⟨h0, h1, h2, h3⟩ := hagree c
    unfold Cert.ProjsRefIdeal.Value.uRef
    rw [h0, h1, h2, h3]
  have hc := h c
  rw [e] at hc
  exact hc

/-- Combination, sample step: the printed program runs to the end and leaves its arguments as they were. -/
theorem combs_frame : Cert.quiescent_Combs (hCombs := Cert.Combs.Gen.facts) := fun m g _ => Cert.Combs.Gen.frame m g

/-- Combination, sample step: the same of the program over the reals. -/
theorem combs_ideal_frame : Cert.quiescent_CombsIdeal (hCombsIdeal := Cert.CombsIdeal.Gen.facts) := fun m g _ => Cert.CombsIdeal.Gen.frame m g

/-- Combination, sample step: the same of the reference. -/
theorem combs_reference_frame : Cert.quiescent_CombsRefIdeal (hCombsRefIdeal := Cert.CombsRefIdeal.Gen.facts) := fun m g _ =>
  (θ_run Cert.CombsRefIdeal.defs _ _).mono (fun r h => ⟨fun c => (h c).2, sem_eq_zero_of_no_sems (by decide) r.2⟩)
    (Cert.CombsRefIdeal.Value.run m g)

/-- Combination, sample step: the kernel's result is the reference's. -/
theorem combs_value : Cert.algebraic_CombsIdeal_CombsRefIdeal (hCombsIdeal := Cert.CombsIdeal.Gen.facts) (hCombsRefIdeal := Cert.CombsRefIdeal.Gen.facts) := by
  pair_intro
  · run_from Cert.CombsIdeal.Gen.run_main m g
  · run_from Cert.CombsRefIdeal.Value.run m' g'
    exact (Cert.CombsIdeal.Value.final m m' c (hagree c)).symm

/-- Sliding window: the printed program runs to the end and leaves its arguments as they were. -/
theorem win_frame : Cert.quiescent_Win (hWin := Cert.Win.Gen.facts) := fun m g _ => Cert.Win.Gen.frame m g

/-- Sliding window: the same of the program over the reals. -/
theorem win_ideal_frame : Cert.quiescent_WinIdeal (hWinIdeal := Cert.WinIdeal.Gen.facts) := fun m g _ => Cert.WinIdeal.Gen.frame m g

/-- Sliding window: the same of the reference. -/
theorem win_reference_frame : Cert.quiescent_WinRefIdeal (hWinRefIdeal := Cert.WinRefIdeal.Gen.facts) := fun m g _ =>
  (θ_run Cert.WinRefIdeal.defs _ _).mono (fun r h => ⟨fun c => (h c).2.2, sem_eq_zero_of_no_sems (by decide) r.2⟩)
    (Cert.WinRefIdeal.Value.run m g)

/-- Sliding window: the kernel over the reals, from arguments without an infinite entry. -/
theorem win_ideal_frame_finite : Cert.quiescent_WinIdeal_pre_win_finite (hWinIdeal := Cert.WinIdeal.Gen.facts) (hPre_win_finite := Cert.WinRows.finite_facts) :=
  fun m g _ => Cert.WinIdeal.Gen.frame m g

/-- Sliding window: the reference, from arguments without an infinite entry. -/
theorem win_reference_frame_finite : Cert.quiescent_WinRefIdeal_pre_win_finite (hWinRefIdeal := Cert.WinRefIdeal.Gen.facts) (hPre_win_finite := Cert.WinRows.finite_facts) :=
  fun m g _ => win_reference_frame m g (by trivial)

/-- Sliding window: both of the kernel's results are the reference's, from arguments without an infinite entry. -/
theorem win_value : Cert.algebraic_WinIdeal_WinRefIdeal_pre_win_finite (hWinIdeal := Cert.WinIdeal.Gen.facts) (hWinRefIdeal := Cert.WinRefIdeal.Gen.facts)
    (hPre_win_finite := Cert.WinRows.finite_facts) := by
  intro m g m' g' hpre hagree
  refine ⟨_, _, Cert.WinIdeal.Value.both_run m g, (θ_run Cert.WinRefIdeal.defs _ _).mono (fun r h c => ?_) (Cert.WinRefIdeal.Value.run m' g')⟩
  have real := @Cert.WinRows.entries Cert.WinRows.finite_facts _ _ _ _ (hpre c)
  exact ⟨(h c).1.trans (Cert.WinIdeal.Value.final5 m m' c real (hagree c)).symm, (h c).2.1.trans (Cert.WinIdeal.Value.final6 m m' c (hagree c)).symm, (h c).2.2⟩

/-- Every claim of this certificate. -/
theorem claim : Cert.Claim :=
  ⟨Cert.Ffn.Gen.facts, Cert.FfnIdeal.Gen.facts, Cert.FfnRefIdeal.Gen.facts, Cert.Proj.Gen.facts, Cert.ProjIdeal.Gen.facts, Cert.ProjRefIdeal.Gen.facts, Cert.Comb.Gen.facts, Cert.CombIdeal.Gen.facts, Cert.CombRefIdeal.Gen.facts, Cert.Ffns.Gen.facts, Cert.FfnsIdeal.Gen.facts, Cert.FfnsRefIdeal.Gen.facts, Cert.Projs.Gen.facts, Cert.ProjsIdeal.Gen.facts, Cert.ProjsRefIdeal.Gen.facts, Cert.Combs.Gen.facts, Cert.CombsIdeal.Gen.facts, Cert.CombsRefIdeal.Gen.facts, Cert.Win.Gen.facts, Cert.WinIdeal.Gen.facts, Cert.WinRefIdeal.Gen.facts, Cert.WinRows.finite_facts,
    ffn_frame, ffn_ideal_frame, ffn_reference_frame, proj_frame, proj_ideal_frame, proj_reference_frame, comb_frame, comb_ideal_frame, comb_reference_frame, ffns_frame, ffns_ideal_frame, ffns_reference_frame, projs_frame, projs_ideal_frame, projs_reference_frame, combs_frame, combs_ideal_frame, combs_reference_frame, win_frame, win_ideal_frame, win_ideal_frame_finite, win_reference_frame, win_reference_frame_finite, trivial, ffn_value, trivial, proj_value, trivial, comb_value, trivial, ffns_value, trivial, projs_value, trivial, combs_value, trivial, win_value⟩

end Cert.Proof

end
